-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "inv_log_two" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v51_0)) (v1 : (c : Dev Cert.Kernel2Ideal.nD) → Buf (Elt Ideal) ((c.tc : Thread Cert.Kernel2Ideal.nD Cert.Kernel2Ideal.τ).loc Cert.Kernel2Ideal.main_v51_1)) (v2 : (c : Dev Cert.Kernel2Ideal.nD) → Buf (Elt Ideal) ((c.tc : Thread Cert.Kernel2Ideal.nD Cert.Kernel2Ideal.τ).loc Cert.Kernel2Ideal.main_v51_2)) (v3 : (c : Dev Cert.Kernel2Ideal.nD) → Buf (Elt Ideal) ((c.tc : Thread Cert.Kernel2Ideal.nD Cert.Kernel2Ideal.τ).loc Cert.Kernel2Ideal.main_v51_3)) (v4 : (c : Dev Cert.Kernel2Ideal.nD) → Buf (Elt Ideal) ((c.tc : Thread Cert.Kernel2Ideal.nD Cert.Kernel2Ideal.τ).loc Cert.Kernel2Ideal.main_v51_4)) (v5 : (c : Dev Cert.Kernel2Ideal.nD) → Buf (Elt Ideal) ((c.tc : Thread Cert.Kernel2Ideal.nD Cert.Kernel2Ideal.τ).loc Cert.Kernel2Ideal.main_v51_5)) (v6 : (c : Dev Cert.Kernel2Ideal.nD) → Buf (Elt Ideal) ((c.tc : Thread Cert.Kernel2Ideal.nD Cert.Kernel2Ideal.τ).loc Cert.Kernel2Ideal.main_v51_6)) (v7 : (c : Dev Cert.Kernel2Ideal.nD) → Buf (Elt Ideal) ((c.tc : Thread Cert.Kernel2Ideal.nD Cert.Kernel2Ideal.τ).loc Cert.Kernel2Ideal.main_v51_7)) (v8 : (c : Dev Cert.Kernel2Ideal.nD) → Buf (Elt Ideal) ((c.tc : Thread Cert.Kernel2Ideal.nD Cert.Kernel2Ideal.τ).loc Cert.Kernel2Ideal.main_v51_8)) (v9 : (c : Dev Cert.Kernel2Ideal.nD) → Buf (Elt Ideal) ((c.tc : Thread Cert.Kernel2Ideal.nD Cert.Kernel2Ideal.τ).loc Cert.Kernel2Ideal.main_v51_9)) (v10 : (c : Dev Cert.Kernel2Ideal.nD) → Buf (Elt Ideal) ((c.tc : Thread Cert.Kernel2Ideal.nD Cert.Kernel2Ideal.τ).loc Cert.Kernel2Ideal.main_v51_10)) (v11 : (c : Dev Cert.Kernel2Ideal.nD) → Buf (Elt Ideal) ((c.tc : Thread Cert.Kernel2Ideal.nD Cert.Kernel2Ideal.τ).loc Cert.Kernel2Ideal.main_v51_11)) (v12 : (c : Dev Cert.Kernel2Ideal.nD) → Buf (Elt Ideal) ((c.tc : Thread Cert.Kernel2Ideal.nD Cert.Kernel2Ideal.τ).loc Cert.Kernel2Ideal.main_v51_12)) (v13 : (c : Dev Cert.Kernel2Ideal.nD) → Buf (Elt Ideal) ((c.tc : Thread Cert.Kernel2Ideal.nD Cert.Kernel2Ideal.τ).loc Cert.Kernel2Ideal.main_v51_13)) (v14 : (c : Dev Cert.Kernel2Ideal.nD) → Buf (Elt Ideal) ((c.tc : Thread Cert.Kernel2Ideal.nD Cert.Kernel2Ideal.τ).loc Cert.Kernel2Ideal.main_v51_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v51_0) = v0 c
          ∧ r.2.mem ((c.tc : Thread Cert.Kernel2Ideal.nD Cert.Kernel2Ideal.τ).loc Cert.Kernel2Ideal.main_v51_1) = v1 c
          ∧ r.2.mem ((c.tc : Thread Cert.Kernel2Ideal.nD Cert.Kernel2Ideal.τ).loc Cert.Kernel2Ideal.main_v51_2) = v2 c
          ∧ r.2.mem ((c.tc : Thread Cert.Kernel2Ideal.nD Cert.Kernel2Ideal.τ).loc Cert.Kernel2Ideal.main_v51_3) = v3 c
          ∧ r.2.mem ((c.tc : Thread Cert.Kernel2Ideal.nD Cert.Kernel2Ideal.τ).loc Cert.Kernel2Ideal.main_v51_4) = v4 c
          ∧ r.2.mem ((c.tc : Thread Cert.Kernel2Ideal.nD Cert.Kernel2Ideal.τ).loc Cert.Kernel2Ideal.main_v51_5) = v5 c
          ∧ r.2.mem ((c.tc : Thread Cert.Kernel2Ideal.nD Cert.Kernel2Ideal.τ).loc Cert.Kernel2Ideal.main_v51_6) = v6 c
          ∧ r.2.mem ((c.tc : Thread Cert.Kernel2Ideal.nD Cert.Kernel2Ideal.τ).loc Cert.Kernel2Ideal.main_v51_7) = v7 c
          ∧ r.2.mem ((c.tc : Thread Cert.Kernel2Ideal.nD Cert.Kernel2Ideal.τ).loc Cert.Kernel2Ideal.main_v51_8) = v8 c
          ∧ r.2.mem ((c.tc : Thread Cert.Kernel2Ideal.nD Cert.Kernel2Ideal.τ).loc Cert.Kernel2Ideal.main_v51_9) = v9 c
          ∧ r.2.mem ((c.tc : Thread Cert.Kernel2Ideal.nD Cert.Kernel2Ideal.τ).loc Cert.Kernel2Ideal.main_v51_10) = v10 c
          ∧ r.2.mem ((c.tc : Thread Cert.Kernel2Ideal.nD Cert.Kernel2Ideal.τ).loc Cert.Kernel2Ideal.main_v51_11) = v11 c
          ∧ r.2.mem ((c.tc : Thread Cert.Kernel2Ideal.nD Cert.Kernel2Ideal.τ).loc Cert.Kernel2Ideal.main_v51_12) = v12 c
          ∧ r.2.mem ((c.tc : Thread Cert.Kernel2Ideal.nD Cert.Kernel2Ideal.τ).loc Cert.Kernel2Ideal.main_v51_13) = v13 c
          ∧ r.2.mem ((c.tc : Thread Cert.Kernel2Ideal.nD Cert.Kernel2Ideal.τ).loc Cert.Kernel2Ideal.main_v51_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v209) = v0 c
          ∧ r.2.mem ((c.tc : Thread Cert.Reference2Ideal.nD Cert.Reference2Ideal.τ).loc Cert.Reference2Ideal.main_v211) = v1 c
          ∧ r.2.mem ((c.tc : Thread Cert.Reference2Ideal.nD Cert.Reference2Ideal.τ).loc Cert.Reference2Ideal.main_v216) = v2 c
          ∧ r.2.mem ((c.tc : Thread Cert.Reference2Ideal.nD Cert.Reference2Ideal.τ).loc Cert.Reference2Ideal.main_v219) = v3 c
          ∧ r.2.mem ((c.tc : Thread Cert.Reference2Ideal.nD Cert.Reference2Ideal.τ).loc Cert.Reference2Ideal.main_v223) = v4 c
          ∧ r.2.mem ((c.tc : Thread Cert.Reference2Ideal.nD Cert.Reference2Ideal.τ).loc Cert.Reference2Ideal.main_v225) = v5 c
          ∧ r.2.mem ((c.tc : Thread Cert.Reference2Ideal.nD Cert.Reference2Ideal.τ).loc Cert.Reference2Ideal.main_v228) = v6 c
          ∧ r.2.mem ((c.tc : Thread Cert.Reference2Ideal.nD Cert.Reference2Ideal.τ).loc Cert.Reference2Ideal.main_v230) = v7 c
          ∧ r.2.mem ((c.tc : Thread Cert.Reference2Ideal.nD Cert.Reference2Ideal.τ).loc Cert.Reference2Ideal.main_v235) = v8 c
          ∧ r.2.mem ((c.tc : Thread Cert.Reference2Ideal.nD Cert.Reference2Ideal.τ).loc Cert.Reference2Ideal.main_v238) = v9 c
          ∧ r.2.mem ((c.tc : Thread Cert.Reference2Ideal.nD Cert.Reference2Ideal.τ).loc Cert.Reference2Ideal.main_v242) = v10 c
          ∧ r.2.mem ((c.tc : Thread Cert.Reference2Ideal.nD Cert.Reference2Ideal.τ).loc Cert.Reference2Ideal.main_v244) = v11 c
          ∧ r.2.mem ((c.tc : Thread Cert.Reference2Ideal.nD Cert.Reference2Ideal.τ).loc Cert.Reference2Ideal.main_v246) = v12 c
          ∧ r.2.mem ((c.tc : Thread Cert.Reference2Ideal.nD Cert.Reference2Ideal.τ).loc Cert.Reference2Ideal.main_v248) = v13 c
          ∧ r.2.mem ((c.tc : Thread Cert.Reference2Ideal.nD Cert.Reference2Ideal.τ).loc Cert.Reference2Ideal.main_v250) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x256x128 : Shape := ⟨3, ![4, 256, 128]⟩
abbrev S1x128 : Shape := ⟨2, ![1, 128]⟩
abbrev S32x4x128x128 : Shape := ⟨4, ![32, 4, 128, 128]⟩
abbrev S4x16x128 : Shape := ⟨3, ![4, 16, 128]⟩
abbrev S2x4x128x128 : Shape := ⟨4, ![2, 4, 128, 128]⟩
abbrev S8x128 : Shape := ⟨2, ![8, 128]⟩
abbrev S1x16x128 : Shape := ⟨3, ![1, 16, 128]⟩
abbrev S16x128 : Shape := ⟨2, ![16, 128]⟩
abbrev S1x1x128x128 : Shape := ⟨4, ![1, 1, 128, 128]⟩
abbrev S128x128 : Shape := ⟨2, ![128, 128]⟩
abbrev S112x128 : Shape := ⟨2, ![112, 128]⟩
abbrev S256x128 : Shape := ⟨2, ![256, 128]⟩
abbrev S16 : Shape := ⟨1, ![16]⟩
abbrev S16x1 : Shape := ⟨2, ![16, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x256x128, .bf16⟩
  | .hbm, ⟨1, _⟩ => ⟨S4x256x128, .f32⟩
  | .hbm, ⟨2, _⟩ => ⟨S4x256x128, .f32⟩
  | .hbm, ⟨3, _⟩ => ⟨S4x256x128, .bf16⟩
  | .hbm, ⟨4, _⟩ => ⟨S4x256x128, .bf16⟩
  | .hbm, ⟨5, _⟩ => ⟨S1x128, .f32⟩
  | .hbm, ⟨6, _⟩ => ⟨S32x4x128x128, .f32⟩
  | .hbm, ⟨7, _⟩ => ⟨S4x256x128, .bf16⟩
  | .hbm, ⟨8, _⟩ => ⟨S32x4x128x128, .f32⟩
  | .local _ .vmem, ⟨0, _⟩ => ⟨S4x16x128, .bf16⟩
  | .local _ .vmem, ⟨1, _⟩ => ⟨S4x16x128, .bf16⟩
  | .local _ .vmem, ⟨2, _⟩ => ⟨S4x16x128, .f32⟩
  | .local _ .vmem, ⟨3, _⟩ => ⟨S4x16x128, .f32⟩
  | .local _ .vmem, ⟨4, _⟩ => ⟨S4x16x128, .f32⟩
  | .local _ .vmem, ⟨5, _⟩ => ⟨S4x16x128, .f32⟩
  | .local _ .vmem, ⟨6, _⟩ => ⟨S4x16x128, .bf16⟩
  | .local _ .vmem, ⟨7, _⟩ => ⟨S4x16x128, .bf16⟩
  | .local _ .vmem, ⟨8, _⟩ => ⟨S4x16x128, .bf16⟩
  | .local _ .vmem, ⟨9, _⟩ => ⟨S4x16x128, .bf16⟩
  | .local _ .vmem, ⟨10, _⟩ => ⟨S1x128, .f32⟩
  | .local _ .vmem, ⟨11, _⟩ => ⟨S2x4x128x128, .f32⟩
  | .local _ .vmem, ⟨12, _⟩ => ⟨S2x4x128x128, .f32⟩
  | .local _ .vmem, ⟨13, _⟩ => ⟨S4x16x128, .bf16⟩
  | .local _ .vmem, ⟨14, _⟩ => ⟨S4x16x128, .bf16⟩
  | .local _ .vmem, ⟨15, _⟩ => ⟨S2x4x128x128, .f32⟩
  | .local _ .vmem, ⟨16, _⟩ => ⟨S2x4x128x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x256x128 : Shape := ⟨3, ![4, 256, 128]⟩
abbrev S1x128 : Shape := ⟨2, ![1, 128]⟩
abbrev S32x4x128x128 : Shape := ⟨4, ![32, 4, 128, 128]⟩
abbrev S4x32x8x128 : Shape := ⟨4, ![4, 32, 8, 128]⟩
abbrev S32x4x8x128 : Shape := ⟨4, ![32, 4, 8, 128]⟩
abbrev S_ : Shape := ⟨0, ![]⟩
abbrev S8x8 : Shape := ⟨2, ![8, 8]⟩
abbrev S8x8x1 : Shape := ⟨3, ![8, 8, 1]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x4x8 : Shape := ⟨3, ![32, 4, 8]⟩
abbrev S32x4x8x1 : Shape := ⟨4, ![32, 4, 8, 1]⟩
abbrev S128 : Shape := ⟨1, ![128]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4x256x128, .bf16⟩
  | .hbm, ⟨1, _⟩ => ⟨S4x256x128, .f32⟩
  | .hbm, ⟨2, _⟩ => ⟨S4x256x128, .f32⟩
  | .hbm, ⟨3, _⟩ => ⟨S4x256x128, .bf16⟩
  | .hbm, ⟨4, _⟩ => ⟨S4x256x128, .bf16⟩
  | .hbm, ⟨5, _⟩ => ⟨S1x128, .f32⟩
  | .hbm, ⟨6, _⟩ => ⟨S32x4x128x128, .f32⟩
  | .hbm, ⟨7, _⟩ => ⟨S4x256x128, .f32⟩
  | .hbm, ⟨8, _⟩ => ⟨S4x32x8x128, .f32⟩
  | .hbm, ⟨9, _⟩ => ⟨S32x4x8x128, .f32⟩
  | .hbm, ⟨10, _⟩ => ⟨S4x32x8x128, .f32⟩
  | .hbm, ⟨11, _⟩ => ⟨S32x4x8x128, .f32⟩
  | .hbm, ⟨12, _⟩ => ⟨S4x32x8x128, .f32⟩
  | .hbm, ⟨13, _⟩ => ⟨S32x4x8x128, .f32⟩
  | .hbm, ⟨14, _⟩ => ⟨S4x256x128, .f32⟩
  | .hbm, ⟨15, _⟩ => ⟨S4x32x8x128, .f32⟩
  | .hbm, ⟨16, _⟩ => ⟨S32x4x8x128, .f32⟩
  | .hbm, ⟨17, _⟩ => ⟨S_, .i1⟩
  | .hbm, ⟨18, _⟩ => ⟨S8x8, .i1⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S_, .i1⟩
  | .hbm, ⟨26, _⟩ => ⟨S8x8, .i1⟩
  | .hbm, ⟨27, _⟩ => ⟨S8x8, .i1⟩
  | .hbm, ⟨28, _⟩ => ⟨S8x8x1, .i1⟩
  | .hbm, ⟨29, _⟩ => ⟨S_, .f32⟩
  | .hbm, ⟨30, _⟩ => ⟨S_, .f32⟩
  | .hbm, ⟨31, _⟩ => ⟨S32x4x8x128, .f32⟩
  | .hbm, ⟨32, _⟩ => ⟨S_, .f32⟩
  | .hbm, ⟨33, _⟩ => ⟨S_, .f32⟩
  | .hbm, ⟨34, _⟩ => ⟨S32x4x8x128, .f32⟩
  | .hbm, ⟨35, _⟩ => ⟨S32x4x8x128, .f32⟩
  | .hbm, ⟨36, _⟩ => ⟨S32x4x8x128, .f32⟩
  | .hbm, ⟨37, _⟩ => ⟨S32x4x8x128, .f32⟩
  | .hbm, ⟨38, _⟩ => ⟨S32x4x8x128, .f32⟩
  | .hbm, ⟨39, _⟩ => ⟨S32x4x8x1x128, .f32⟩
  | .hbm, ⟨40, _⟩ => ⟨S32x4x1x8x128, .f32⟩
  | .hbm, ⟨41, _⟩ => ⟨S32x4x8x8x128, .f32⟩
  | .hbm, ⟨42, _⟩ => ⟨S32x4x8x8x128, .f32⟩
  | .hbm, ⟨43, _⟩ => ⟨S32x4x8x8x128, .f32⟩
  | .hbm, ⟨44, _⟩ => ⟨S_, .f32⟩
  | .hbm, ⟨45, _⟩ => ⟨S_, .f32⟩
  | .hbm, ⟨46, _⟩ => ⟨S32x4x8x8x128, .i1⟩
  | .hbm, ⟨47, _⟩ => ⟨S32x4x8x8x128, .f32⟩
  | .hbm, ⟨48, _⟩ => ⟨S32x4x8x8x128, .f32⟩
  | .hbm, ⟨49, _⟩ => ⟨S32x4x8x1x128, .f32⟩
  | .hbm, ⟨50, _⟩ => ⟨S32x4x1x8x128, .f32⟩
  | .hbm, ⟨51, _⟩ => ⟨S32x4x8x8x128, .f32⟩
  | .hbm, ⟨52, _⟩ => ⟨S32x4x8x8x128, .f32⟩
  | .hbm, ⟨53, _⟩ => ⟨S32x4x8x8x128, .f32⟩
  | .hbm, ⟨54, _⟩ => ⟨S_, .f32⟩
  | .hbm, ⟨55, _⟩ => ⟨S_, .f32⟩
  | .hbm, ⟨56, _⟩ => ⟨S32x4x8x8x128, .f32⟩
  | .hbm, ⟨57, _⟩ => ⟨S32x4x8x8x128, .f32⟩
  | .hbm, ⟨58, _⟩ => ⟨S32x4x8x8x128, .f32⟩
  | .hbm, ⟨59, _⟩ => ⟨S32x4x8x8x128, .f32⟩
  | .hbm, ⟨60, _⟩ => ⟨S_, .f32⟩
  | .hbm, ⟨61, _⟩ => ⟨S32x4x8x8, .f32⟩
  | .hbm, ⟨62, _⟩ => ⟨S32x4x8x128, .f32⟩
  | .hbm, ⟨63, _⟩ => ⟨S32x4x1x128, .f32⟩
  | .hbm, ⟨64, _⟩ => ⟨S32x4x128, .f32⟩
  | .hbm, ⟨65, _⟩ => ⟨S_, .f32⟩
  | .hbm, ⟨66, _⟩ => ⟨S_, .f32⟩
  | .hbm, ⟨67, _⟩ => ⟨S32x4x128, .f32⟩
  | .hbm, ⟨68, _⟩ => ⟨S32x4x128, .f32⟩
  | .hbm, ⟨69, _⟩ => ⟨S32x4x128, .f32⟩
  | .hbm, ⟨70, _⟩ => ⟨S32x4x128x1, .f32⟩
  | .hbm, ⟨71, _⟩ => ⟨S32x4x128x128, .f32⟩
  | .hbm, ⟨72, _⟩ => ⟨S32x4x128x128, .f32⟩
  | .hbm, ⟨73, _⟩ => ⟨S32x4x8x128, .f32⟩
  | .hbm, ⟨74, _⟩ => ⟨S32x4x8x128, .f32⟩
  | .hbm, ⟨75, _⟩ => ⟨S_, .f32⟩
  | .hbm, ⟨76, _⟩ => ⟨S_, .f32⟩
  | .hbm, ⟨77, _⟩ => ⟨S32x4x8x128, .f32⟩
  | .hbm, ⟨78, _⟩ => ⟨S32x4x8x128, .f32⟩
  | .hbm, ⟨79, _⟩ => ⟨S32x4x8x128, .f32⟩
  | .hbm, ⟨80, _⟩ => ⟨S32x4x8x128, .f32⟩
  | .hbm, ⟨81, _⟩ => ⟨S32x4x128x128, .f32⟩
  | .hbm, ⟨82, _⟩ => ⟨S32x4x128x128, .f32⟩
  | .hbm, ⟨83, _⟩ => ⟨S32x4x8x128, .f32⟩
  | .hbm, ⟨84, _⟩ => ⟨S32x4x8x128, .f32⟩
  | .hbm, ⟨85, _⟩ => ⟨S_, .f32⟩
  | .hbm, ⟨86, _⟩ => ⟨S32x4x8, .f32⟩
  | .hbm, ⟨87, _⟩ => ⟨S32x4x8x1, .f32⟩
  | .hbm, ⟨88, _⟩ => ⟨S_, .f32⟩
  | .hbm, ⟨89, _⟩ => ⟨S32x4x8x1, .f32⟩
  | .hbm, ⟨90, _⟩ => ⟨S32x4x8x1, .f32⟩
  | .hbm, ⟨91, _⟩ => ⟨S_, .f32⟩
  | .hbm, ⟨92, _⟩ => ⟨S32x4x8x1, .f32⟩
  | .hbm, ⟨93, _⟩ => ⟨S32x4x8x1, .f32⟩
  | .hbm, ⟨94, _⟩ => ⟨S32x4x8x1, .f32⟩
  | .hbm, ⟨95, _⟩ => ⟨S32x4x8x128, .f32⟩
  | .hbm, ⟨96, _⟩ => ⟨S32x4x8x128, .f32⟩
  | .hbm, ⟨97, _⟩ => ⟨S128, .f32⟩
  | .hbm, ⟨98, _⟩ => ⟨S1x1x1x128, .f32⟩
  | .hbm, ⟨99, _⟩ => ⟨S32x4x8x128, .f32⟩
  | .hbm, ⟨100, _⟩ => ⟨S32x4x8x128, .f32⟩
  | .hbm, ⟨101, _⟩ => ⟨S4x256x128, .f32⟩
  | .hbm, ⟨102, _⟩ => ⟨S4x32x8x128, .f32⟩
  | .hbm, ⟨103, _⟩ => ⟨S32x4x8x128, .f32⟩
  | .hbm, ⟨104, _⟩ => ⟨S32x4x8x128, .f32⟩
  | .hbm, ⟨105, _⟩ => ⟨S4x32x8x128, .f32⟩
  | .hbm, ⟨106, _⟩ => ⟨S4x256x128, .f32⟩
  | .hbm, ⟨107, _⟩ => ⟨S4x256x128, .bf16⟩
  | _, _ => ⟨S4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_call1_call0_cst : Ref sig .tc := ⟨.hbm, 29, rfl⟩
abbrev main_call1_call0_v0 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_5 : Ref sig .tc := ⟨.hbm, 85, rfl⟩
abbrev main_v58 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x5200 : Shape := ⟨2, ![1024, 5200]⟩
abbrev S1x512 : Shape := ⟨2, ![1, 512]⟩
abbrev S64 : Shape := ⟨1, ![64]⟩
abbrev S2048 : Shape := ⟨1, ![2048]⟩
abbrev S1024x512 : Shape := ⟨2, ![1024, 512]⟩
abbrev S1024x1024 : Shape := ⟨2, ![1024, 1024]⟩
abbrev S1024x64 : Shape := ⟨2, ![1024, 64]⟩
abbrev S1024x16 : Shape := ⟨2, ![1024, 16]⟩
abbrev S_ : Shape := ⟨0, ![]⟩
abbrev S1024x3200 : Shape := ⟨2, ![1024, 3200]⟩
abbrev S1024x2640 : Shape := ⟨2, ![1024, 2640]⟩
abbrev S2640x1024 : Shape := ⟨2, ![2640, 1024]⟩
abbrev S16384x1024 : Shape := ⟨2, ![16384, 1024]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S8x2048 : Shape := ⟨2, ![8, 2048]⟩
abbrev S128 : Shape := ⟨1, ![128]⟩
abbrev S1x128 : Shape := ⟨2, ![1, 128]⟩
abbrev S64x1 : Shape := ⟨2, ![64, 1]⟩
abbrev S4x16384x128 : Shape := ⟨3, ![4, 16384, 128]⟩
abbrev S16384x512 : Shape := ⟨2, ![16384, 512]⟩
abbrev S16384x64 : Shape := ⟨2, ![16384, 64]⟩
abbrev S512x16384 : Shape := ⟨2, ![512, 16384]⟩
abbrev S128x64x2048 : Shape := ⟨3, ![128, 64, 2048]⟩
abbrev S16x16384 : Shape := ⟨2, ![16, 16384]⟩
abbrev S128x512x128 : Shape := ⟨3, ![128, 512, 128]⟩
abbrev S128x64x128 : Shape := ⟨3, ![128, 64, 128]⟩
abbrev S256x1024 : Shape := ⟨2, ![256, 1024]⟩
abbrev S256x128 : Shape := ⟨2, ![256, 128]⟩
abbrev S8x256 : Shape := ⟨2, ![8, 256]⟩
abbrev S4x256x128 : Shape := ⟨3, ![4, 256, 128]⟩
abbrev S256x512 : Shape := ⟨2, ![256, 512]⟩
abbrev S256x64 : Shape := ⟨2, ![256, 64]⟩
abbrev S512x256 : Shape := ⟨2, ![512, 256]⟩
abbrev S2x64x2048 : Shape := ⟨3, ![2, 64, 2048]⟩
abbrev S16x256 : Shape := ⟨2, ![16, 256]⟩
abbrev S2x512x128 : Shape := ⟨3, ![2, 512, 128]⟩
abbrev S2x64x128 : Shape := ⟨3, ![2, 64, 128]⟩
abbrev S1x256x128 : Shape := ⟨3, ![1, 256, 128]⟩
abbrev S1024x128 : Shape := ⟨2, ![1024, 128]⟩
abbrev S256 : Shape := ⟨1, ![256]⟩
abbrev S256x1 : Shape := ⟨2, ![256, 1]⟩
abbrev S512x1024 : Shape := ⟨2, ![512, 1024]⟩
abbrev S64x256 : Shape := ⟨2, ![64, 256]⟩
abbrev S48x256 : Shape := ⟨2, ![48, 256]⟩
abbrev S64x128 : Shape := ⟨2, ![64, 128]⟩
abbrev S1x64x128 : Shape := ⟨3, ![1, 64, 128]⟩
abbrev S512x128 : Shape := ⟨2, ![512, 128]⟩
abbrev S1x512x128 : Shape := ⟨3, ![1, 512, 128]⟩
abbrev S1024x256 : Shape := ⟨2, ![1024, 256]⟩
abbrev S16x1024 : Shape := ⟨2, ![16, 1024]⟩
abbrev S64x1024 : Shape := ⟨2, ![64, 1024]⟩
abbrev S1x256 : Shape := ⟨2, ![1, 256]⟩

abbrev nBuf : Space → Nat
  | .hbm => 79
  | .vmem => 49
  | .smem => 0
  | _ => 0

abbrev bufTy : (tb : Table) → Fin (tcTables nBuf tb) → BufTy
  | .hbm, ⟨0, _⟩ => ⟨S8x2048x1024, .f32⟩
  | .hbm, ⟨1, _⟩ => ⟨S1024x5200, .f32⟩
  | .hbm, ⟨2, _⟩ => ⟨S1x512, .f32⟩
  | .hbm, ⟨3, _⟩ => ⟨S64, .f32⟩
  | .hbm, ⟨4, _⟩ => ⟨S64, .f32⟩
  | .hbm, ⟨5, _⟩ => ⟨S2048, .i32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x1024, .f32⟩
  | .hbm, ⟨15, _⟩ => ⟨S1024x64, .f32⟩
  | .hbm, ⟨16, _⟩ => ⟨S1024x16, .f32⟩
  | .hbm, ⟨17, _⟩ => ⟨S_, .f32⟩
  | .hbm, ⟨18, _⟩ => ⟨S1024x64, .f32⟩
  | .hbm, ⟨19, _⟩ => ⟨S1024x3200, .f32⟩
  | .hbm, ⟨20, _⟩ => ⟨S1024x3200, .bf16⟩
  | .hbm, ⟨21, _⟩ => ⟨S1024x2640, .f32⟩
  | .hbm, ⟨22, _⟩ => ⟨S2640x1024, .f32⟩
  | .hbm, ⟨23, _⟩ => ⟨S2640x1024, .bf16⟩
  | .hbm, ⟨24, _⟩ => ⟨S16384x1024, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S2048, .f32⟩
  | .hbm, ⟨34, _⟩ => ⟨S2048x1, .f32⟩
  | .hbm, ⟨35, _⟩ => ⟨S1x8, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S_, .f32⟩
  | .hbm, ⟨42, _⟩ => ⟨S2048x48, .f32⟩
  | .hbm, ⟨43, _⟩ => ⟨S_, .f32⟩
  | .hbm, ⟨44, _⟩ => ⟨S2048x8, .f32⟩
  | .hbm, ⟨45, _⟩ => ⟨S_, .f32⟩
  | .hbm, ⟨46, _⟩ => ⟨S2048x48, .f32⟩
  | .hbm, ⟨47, _⟩ => ⟨S2048x64, .f32⟩
  | .hbm, ⟨48, _⟩ => ⟨S2048x8, .f32⟩
  | .hbm, ⟨49, _⟩ => ⟨S2048x64, .f32⟩
  | .hbm, ⟨50, _⟩ => ⟨S2048x64, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S64, .f32⟩
  | .hbm, ⟨58, _⟩ => ⟨S128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S64x1, .f32⟩
  | .hbm, ⟨63, _⟩ => ⟨S64x1, .f32⟩
  | .hbm, ⟨64, _⟩ => ⟨S4x16384x128, .bf16⟩
  | .hbm, ⟨65, _⟩ => ⟨S4x16384x128, .f32⟩
  | .hbm, ⟨66, _⟩ => ⟨S4x16384x128, .f32⟩
  | .hbm, ⟨67, _⟩ => ⟨S4x16384x128, .bf16⟩
  | .hbm, ⟨68, _⟩ => ⟨S4x16384x128, .bf16⟩
  | .hbm, ⟨69, _⟩ => ⟨S16384x512, .bf16⟩
  | .hbm, ⟨70, _⟩ => ⟨S16384x512, .bf16⟩
  | .hbm, ⟨71, _⟩ => ⟨S16384x64, .bf16⟩
  | .hbm, ⟨72, _⟩ => ⟨S512x16384, .bf16⟩
  | .hbm, ⟨73, _⟩ => ⟨S512x16384, .bf16⟩
  | .hbm, ⟨74, _⟩ => ⟨S128x64x2048, .bf16⟩
  | .hbm, ⟨75, _⟩ => ⟨S16x16384, .f32⟩
  | .hbm, ⟨76, _⟩ => ⟨S128x512x128, .f32⟩
  | .hbm, ⟨77, _⟩ => ⟨S128x512x128, .f32⟩
  | .hbm, ⟨78, _⟩ => ⟨S128x64x128, .f32⟩
  | .local _ .vmem, ⟨0, _⟩ => ⟨S256x1024, .f32⟩
  | .local _ .vmem, ⟨1, _⟩ => ⟨S256x1024, .f32⟩
  | .local _ .vmem, ⟨2, _⟩ => ⟨S1024x3200, .bf16⟩
  | .local _ .vmem, ⟨3, _⟩ => ⟨S2640x1024, .bf16⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S64x1, .f32⟩
  | .local _ .vmem, ⟨8, _⟩ => ⟨S64x1, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S4x256x128, .bf16⟩
  | .local _ .vmem, ⟨20, _⟩ => ⟨S4x256x128, .bf16⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S4x256x128, .f32⟩
  | .local _ .vmem, ⟨25, _⟩ => ⟨S4x256x128, .bf16⟩
  | .local _ .vmem, ⟨26, _⟩ => ⟨S4x256x128, .bf16⟩
  | .local _ .vmem, ⟨27, _⟩ => ⟨S4x256x128, .bf16⟩
  | .local _ .vmem, ⟨28, _⟩ => ⟨S4x256x128, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x64, .bf16⟩
  | .local _ .vmem, ⟨34, _⟩ => ⟨S256x64, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x256, .bf16⟩
  | .local _ .vmem, ⟨39, _⟩ => ⟨S2x64x2048, .bf16⟩
  | .local _ .vmem, ⟨40, _⟩ => ⟨S2x64x2048, .bf16⟩
  | .local _ .vmem, ⟨41, _⟩ => ⟨S16x256, .f32⟩
  | .local _ .vmem, ⟨42, _⟩ => ⟨S16x256, .f32⟩
  | .local _ .vmem, ⟨43, _⟩ => ⟨S2x512x128, .f32⟩
  | .local _ .vmem, ⟨44, _⟩ => ⟨S2x512x128, .f32⟩
  | .local _ .vmem, ⟨45, _⟩ => ⟨S2x512x128, .f32⟩
  | .local _ .vmem, ⟨46, _⟩ => ⟨S2x512x128, .f32⟩
  | .local _ .vmem, ⟨47, _⟩ => ⟨S2x64x128, .f32⟩
  | .local _ .vmem, ⟨48, _⟩ => ⟨S2x64x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev main_v51_6 : Ref sig .tc := ⟨.hbm, 70, rfl⟩
abbrev main_v51_7 : Ref sig .tc := ⟨.hbm, 71, rfl⟩
abbrev main_v51_8 : Ref sig .tc := ⟨.hbm, 72, rfl⟩
abbrev main_v51_9 : Ref sig .tc := ⟨.hbm, 73, rfl⟩
abbrev main_v51_10 : Ref sig .tc := ⟨.hbm, 74, rfl⟩
abbrev main_v51_11 : Ref sig .tc := ⟨.hbm, 75, rfl⟩
abbrev main_v51_12 : Ref sig .tc := ⟨.hbm, 76, rfl⟩
abbrev main_v51_13 : Ref sig .tc := ⟨.hbm, 77, rfl⟩
abbrev main_v51_14 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg27_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x64x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Kernel2Ideal.lean ====
variable {F : FTy → Type} [FloatOps F] [Named F]
def κ : String → Option EReal := fun
  | "inv_log_two" => some (((Real.log 2)⁻¹ : ℝ) : EReal)
  | _ => none
-- ==== Reference2Ideal.lean ====
abbrev S8x2048x1024 : Shape := ⟨3, ![8, 2048, 1024]⟩
abbrev S1024x5200 : Shape := ⟨2, ![1024, 5200]⟩
abbrev S1x512 : Shape := ⟨2, ![1, 512]⟩
abbrev S64 : Shape := ⟨1, ![64]⟩
abbrev S2048 : Shape := ⟨1, ![2048]⟩
abbrev S8x2048x5200 : Shape := ⟨3, ![8, 2048, 5200]⟩
abbrev S8x2048x512 : Shape := ⟨3, ![8, 2048, 512]⟩
abbrev S8x2048x64 : Shape := ⟨3, ![8, 2048, 64]⟩
abbrev S8x2048x16 : Shape := ⟨3, ![8, 2048, 16]⟩
abbrev S_ : Shape := ⟨0, ![]⟩
abbrev S1x1x512 : Shape := ⟨3, ![1, 1, 512]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S8x2048x16x64 : Shape := ⟨4, ![8, 2048, 16, 64]⟩
abbrev S8x2048x16x8 : Shape := ⟨4, ![8, 2048, 16, 8]⟩
abbrev S8x2048x16x48 : Shape := ⟨4, ![8, 2048, 16, 48]⟩
abbrev S8x2048 : Shape := ⟨2, ![8, 2048]⟩
abbrev S8x2048x1 : Shape := ⟨3, ![8, 2048, 1]⟩
abbrev S1x1x64 : Shape := ⟨3, ![1, 1, 64]⟩
abbrev S8x2048x1x64 : Shape := ⟨4, ![8, 2048, 1, 64]⟩
abbrev S8x2048x1x8 : Shape := ⟨4, ![8, 2048, 1, 8]⟩
abbrev S8x2048x1x48 : Shape := ⟨4, ![8, 2048, 1, 48]⟩
abbrev S16384x4x128 : Shape := ⟨3, ![16384, 4, 128]⟩
abbrev S4x16384x128 : Shape := ⟨3, ![4, 16384, 128]⟩
abbrev S16384x512 : Shape := ⟨2, ![16384, 512]⟩
abbrev S16384x64 : Shape := ⟨2, ![16384, 64]⟩
abbrev S512x16384 : Shape := ⟨2, ![512, 16384]⟩
abbrev S128x128x16x64 : Shape := ⟨4, ![128, 128, 16, 64]⟩
abbrev S128x64x16x128 : Shape := ⟨4, ![128, 64, 16, 128]⟩
abbrev S128x64x2048 : Shape := ⟨3, ![128, 64, 2048]⟩
abbrev S16384x16 : Shape := ⟨2, ![16384, 16]⟩
abbrev S16x16384 : Shape := ⟨2, ![16, 16384]⟩
abbrev S128x128x512 : Shape := ⟨3, ![128, 128, 512]⟩
abbrev S128x512x128 : Shape := ⟨3, ![128, 512, 128]⟩
abbrev S128x128x64 : Shape := ⟨3, ![128, 128, 64]⟩
abbrev S128x64x128 : Shape := ⟨3, ![128, 64, 128]⟩

abbrev nBuf : Space → Nat
  | .hbm => 303
  | .vmem => 0
  | .smem => 0
  | _ => 0

abbrev hbmTy0_0 (i : Nat) : BufTy := match i % 128 with
  | 0 => ⟨S8x2048x1024, .f32⟩
  | 1 => ⟨S1024x5200, .f32⟩
  | 2 => ⟨S1x512, .f32⟩
  | 3 => ⟨S64, .f32⟩
  | 4 => ⟨S64, .f32⟩
  | 5 => ⟨S2048, .i32⟩
  | 6 => ⟨S8x2048x5200, .f32⟩
  | 7 => ⟨S8x2048x512, .f32⟩
  | 8 => ⟨S8x2048x512, .f32⟩
  | 9 => ⟨S8x2048x512, .f32⟩
  | 10 => ⟨S8x2048x512, .f32⟩
  | 11 => ⟨S8x2048x512, .f32⟩
  | 12 => ⟨S8x2048x512, .f32⟩
  | 13 => ⟨S8x2048x512, .f32⟩
  | 14 => ⟨S8x2048x512, .f32⟩
  | 15 => ⟨S8x2048x1024, .f32⟩
  | 16 => ⟨S8x2048x64, .f32⟩
  | 17 => ⟨S8x2048x16, .f32⟩
  | 18 => ⟨S_, .f32⟩
  | 19 => ⟨S1x512, .f32⟩
  | 20 => ⟨S1x512, .f32⟩
  | 21 => ⟨S8x2048x512, .f32⟩
  | 22 => ⟨S8x2048x512, .f32⟩
  | 23 => ⟨S_, .f32⟩
  | 24 => ⟨S8x2048x512, .f32⟩
  | 25 => ⟨S8x2048x512, .f32⟩
  | 26 => ⟨S_, .f32⟩
  | 27 => ⟨S8x2048x512, .f32⟩
  | 28 => ⟨S8x2048x512, .f32⟩
  | 29 => ⟨S1x1x512, .f32⟩
  | 30 => ⟨S8x2048x512, .f32⟩
  | 31 => ⟨S8x2048x512, .f32⟩
  | 32 => ⟨S1x1x512, .f32⟩
  | 33 => ⟨S8x2048x512, .f32⟩
  | 34 => ⟨S8x2048x512, .f32⟩
  | 35 => ⟨S8x2048x512, .f32⟩
  | 36 => ⟨S_, .f32⟩
  | 37 => ⟨S1x512, .f32⟩
  | 38 => ⟨S1x512, .f32⟩
  | 39 => ⟨S8x2048x512, .f32⟩
  | 40 => ⟨S8x2048x512, .f32⟩
  | 41 => ⟨S8x2048x512, .f32⟩
  | 42 => ⟨S_, .f32⟩
  | 43 => ⟨S8x2048x512, .f32⟩
  | 44 => ⟨S8x2048x512, .f32⟩
  | 45 => ⟨S_, .f32⟩
  | 46 => ⟨S8x2048x512, .f32⟩
  | 47 => ⟨S8x2048x512, .f32⟩
  | 48 => ⟨S1x1x512, .f32⟩
  | 49 => ⟨S8x2048x512, .f32⟩
  | 50 => ⟨S8x2048x512, .f32⟩
  | 51 => ⟨S8x2048x8x64, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S2048, .f32⟩
  | 61 => ⟨S2048x1, .f32⟩
  | 62 => ⟨S1x8, .f32⟩
  | 63 => ⟨S2048x8, .f32⟩
  | 64 => ⟨S2048x8, .f32⟩
  | 65 => ⟨S2048x8, .f32⟩
  | 66 => ⟨S2048x8, .f32⟩
  | 67 => ⟨S2048x1x8, .f32⟩
  | 68 => ⟨S2048x8, .f32⟩
  | 69 => ⟨S2048x1x8, .f32⟩
  | 70 => ⟨S8x2048x8x8, .f32⟩
  | 71 => ⟨S8x2048x8x8, .f32⟩
  | 72 => ⟨S1x2048x1x8, .f32⟩
  | 73 => ⟨S8x2048x8x8, .f32⟩
  | 74 => ⟨S8x2048x8x8, .f32⟩
  | 75 => ⟨S1x2048x1x8, .f32⟩
  | 76 => ⟨S8x2048x8x8, .f32⟩
  | 77 => ⟨S8x2048x8x8, .f32⟩
  | 78 => ⟨S8x2048x8x8, .f32⟩
  | 79 => ⟨S1x2048x1x8, .f32⟩
  | 80 => ⟨S8x2048x8x8, .f32⟩
  | 81 => ⟨S8x2048x8x8, .f32⟩
  | 82 => ⟨S1x2048x1x8, .f32⟩
  | 83 => ⟨S8x2048x8x8, .f32⟩
  | 84 => ⟨S8x2048x8x8, .f32⟩
  | 85 => ⟨S8x2048x8x8, .f32⟩
  | 86 => ⟨S8x2048x8x48, .f32⟩
  | 87 => ⟨S8x2048x8x64, .f32⟩
  | 88 => ⟨S8x2048x8x64, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S2048, .f32⟩
  | 98 => ⟨S2048x1, .f32⟩
  | 99 => ⟨S1x8, .f32⟩
  | 100 => ⟨S2048x8, .f32⟩
  | 101 => ⟨S2048x8, .f32⟩
  | 102 => ⟨S2048x8, .f32⟩
  | 103 => ⟨S2048x8, .f32⟩
  | 104 => ⟨S2048x1x8, .f32⟩
  | 105 => ⟨S2048x8, .f32⟩
  | 106 => ⟨S2048x1x8, .f32⟩
  | 107 => ⟨S8x2048x8x8, .f32⟩
  | 108 => ⟨S8x2048x8x8, .f32⟩
  | 109 => ⟨S1x2048x1x8, .f32⟩
  | 110 => ⟨S8x2048x8x8, .f32⟩
  | 111 => ⟨S8x2048x8x8, .f32⟩
  | 112 => ⟨S1x2048x1x8, .f32⟩
  | 113 => ⟨S8x2048x8x8, .f32⟩
  | 114 => ⟨S8x2048x8x8, .f32⟩
  | 115 => ⟨S8x2048x8x8, .f32⟩
  | 116 => ⟨S1x2048x1x8, .f32⟩
  | 117 => ⟨S8x2048x8x8, .f32⟩
  | 118 => ⟨S8x2048x8x8, .f32⟩
  | 119 => ⟨S1x2048x1x8, .f32⟩
  | 120 => ⟨S8x2048x8x8, .f32⟩
  | 121 => ⟨S8x2048x8x8, .f32⟩
  | 122 => ⟨S8x2048x8x8, .f32⟩
  | 123 => ⟨S8x2048x8x48, .f32⟩
  | 124 => ⟨S8x2048x8x64, .f32⟩
  | 125 => ⟨S8x2048x16x64, .f32⟩
  | 126 => ⟨S8, .f32⟩
  | 127 => ⟨S8, .f32⟩
  | _ => ⟨S8x2048x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S2048, .f32⟩
  | 7 => ⟨S2048x1, .f32⟩
  | 8 => ⟨S1x8, .f32⟩
  | 9 => ⟨S2048x8, .f32⟩
  | 10 => ⟨S2048x8, .f32⟩
  | 11 => ⟨S2048x8, .f32⟩
  | 12 => ⟨S2048x8, .f32⟩
  | 13 => ⟨S2048x1x8, .f32⟩
  | 14 => ⟨S2048x8, .f32⟩
  | 15 => ⟨S2048x1x8, .f32⟩
  | 16 => ⟨S8x2048x16x8, .f32⟩
  | 17 => ⟨S8x2048x16x8, .f32⟩
  | 18 => ⟨S1x2048x1x8, .f32⟩
  | 19 => ⟨S8x2048x16x8, .f32⟩
  | 20 => ⟨S8x2048x16x8, .f32⟩
  | 21 => ⟨S1x2048x1x8, .f32⟩
  | 22 => ⟨S8x2048x16x8, .f32⟩
  | 23 => ⟨S8x2048x16x8, .f32⟩
  | 24 => ⟨S8x2048x16x8, .f32⟩
  | 25 => ⟨S1x2048x1x8, .f32⟩
  | 26 => ⟨S8x2048x16x8, .f32⟩
  | 27 => ⟨S8x2048x16x8, .f32⟩
  | 28 => ⟨S1x2048x1x8, .f32⟩
  | 29 => ⟨S8x2048x16x8, .f32⟩
  | 30 => ⟨S8x2048x16x8, .f32⟩
  | 31 => ⟨S8x2048x16x8, .f32⟩
  | 32 => ⟨S8x2048x16x48, .f32⟩
  | 33 => ⟨S8x2048x16x64, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S8x2048x64, .f32⟩
  | 41 => ⟨S8x2048x64, .f32⟩
  | 42 => ⟨S8x2048x64, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S8x2048x64, .f32⟩
  | 50 => ⟨S8x2048x64, .f32⟩
  | 51 => ⟨S_, .f32⟩
  | 52 => ⟨S8x2048x1, .f32⟩
  | 53 => ⟨S8x2048x1, .f32⟩
  | 54 => ⟨S8x2048x1, .f32⟩
  | 55 => ⟨S8x2048x64, .f32⟩
  | 56 => ⟨S8x2048x64, .f32⟩
  | 57 => ⟨S1x1x64, .f32⟩
  | 58 => ⟨S8x2048x64, .f32⟩
  | 59 => ⟨S8x2048x64, .f32⟩
  | 60 => ⟨S1x1x64, .f32⟩
  | 61 => ⟨S8x2048x64, .f32⟩
  | 62 => ⟨S8x2048x64, .f32⟩
  | 63 => ⟨S8x2048x1x64, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S2048, .f32⟩
  | 73 => ⟨S2048x1, .f32⟩
  | 74 => ⟨S1x8, .f32⟩
  | 75 => ⟨S2048x8, .f32⟩
  | 76 => ⟨S2048x8, .f32⟩
  | 77 => ⟨S2048x8, .f32⟩
  | 78 => ⟨S2048x8, .f32⟩
  | 79 => ⟨S2048x1x8, .f32⟩
  | 80 => ⟨S2048x8, .f32⟩
  | 81 => ⟨S2048x1x8, .f32⟩
  | 82 => ⟨S8x2048x1x8, .f32⟩
  | 83 => ⟨S8x2048x1x8, .f32⟩
  | 84 => ⟨S1x2048x1x8, .f32⟩
  | 85 => ⟨S8x2048x1x8, .f32⟩
  | 86 => ⟨S8x2048x1x8, .f32⟩
  | 87 => ⟨S1x2048x1x8, .f32⟩
  | 88 => ⟨S8x2048x1x8, .f32⟩
  | 89 => ⟨S8x2048x1x8, .f32⟩
  | 90 => ⟨S8x2048x1x8, .f32⟩
  | 91 => ⟨S1x2048x1x8, .f32⟩
  | 92 => ⟨S8x2048x1x8, .f32⟩
  | 93 => ⟨S8x2048x1x8, .f32⟩
  | 94 => ⟨S1x2048x1x8, .f32⟩
  | 95 => ⟨S8x2048x1x8, .f32⟩
  | 96 => ⟨S8x2048x1x8, .f32⟩
  | 97 => ⟨S8x2048x1x8, .f32⟩
  | 98 => ⟨S8x2048x1x48, .f32⟩
  | 99 => ⟨S8x2048x1x64, .f32⟩
  | 100 => ⟨S8x2048x64, .f32⟩
  | 101 => ⟨S_, .f32⟩
  | 102 => ⟨S8x2048x16, .f32⟩
  | 103 => ⟨S8x2048x16, .f32⟩
  | 104 => ⟨S8x2048x512, .f32⟩
  | 105 => ⟨S8x2048x512, .f32⟩
  | 106 => ⟨S_, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S8x2048x512, .f32⟩
  | 113 => ⟨S16384x4x128, .f32⟩
  | 114 => ⟨S4x16384x128, .f32⟩
  | 115 => ⟨S4x16384x128, .bf16⟩
  | 116 => ⟨S16384x4x128, .f32⟩
  | 117 => ⟨S4x16384x128, .f32⟩
  | 118 => ⟨S_, .f32⟩
  | 119 => ⟨S_, .f32⟩
  | 120 => ⟨S8x2048x512, .f32⟩
  | 121 => ⟨S8x2048x512, .f32⟩
  | 122 => ⟨S16384x4x128, .f32⟩
  | 123 => ⟨S4x16384x128, .f32⟩
  | 124 => ⟨S16384x4x128, .f32⟩
  | 125 => ⟨S4x16384x128, .f32⟩
  | 126 => ⟨S4x16384x128, .bf16⟩
  | 127 => ⟨S8x2048x512, .f32⟩
  | _ => ⟨S8x2048x1024, .f32⟩

abbrev hbmTy0_2 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S_, .f32⟩
  | 5 => ⟨S8x2048x512, .f32⟩
  | 6 => ⟨S8x2048x512, .f32⟩
  | 7 => ⟨S8x2048x512, .f32⟩
  | 8 => ⟨S16384x4x128, .f32⟩
  | 9 => ⟨S4x16384x128, .f32⟩
  | 10 => ⟨S4x16384x128, .bf16⟩
  | 11 => ⟨S16384x512, .f32⟩
  | 12 => ⟨S16384x512, .bf16⟩
  | 13 => ⟨S8x2048x512, .f32⟩
  | 14 => ⟨S8x2048x512, .f32⟩
  | 15 => ⟨S_, .f32⟩
  | 16 => ⟨S8x2048x512, .f32⟩
  | 17 => ⟨S8x2048x512, .f32⟩
  | 18 => ⟨S_, .f32⟩
  | 19 => ⟨S8x2048x512, .f32⟩
  | 20 => ⟨S8x2048x512, .f32⟩
  | 21 => ⟨S8x2048x512, .f32⟩
  | 22 => ⟨S16384x512, .f32⟩
  | 23 => ⟨S16384x512, .bf16⟩
  | 24 => ⟨S16384x64, .f32⟩
  | 25 => ⟨S16384x64, .bf16⟩
  | 26 => ⟨S16384x512, .f32⟩
  | 27 => ⟨S_, .f32⟩
  | 28 => ⟨S16384x512, .f32⟩
  | 29 => ⟨S16384x512, .f32⟩
  | 30 => ⟨S512x16384, .f32⟩
  | 31 => ⟨S512x16384, .bf16⟩
  | 32 => ⟨S16384x512, .f32⟩
  | 33 => ⟨S512x16384, .f32⟩
  | 34 => ⟨S512x16384, .bf16⟩
  | 35 => ⟨S128x128x16x64, .f32⟩
  | 36 => ⟨S128x64x16x128, .f32⟩
  | 37 => ⟨S128x64x2048, .f32⟩
  | 38 => ⟨S128x64x2048, .bf16⟩
  | 39 => ⟨S16384x16, .f32⟩
  | 40 => ⟨S16x16384, .f32⟩
  | 41 => ⟨S128x128x512, .f32⟩
  | 42 => ⟨S128x512x128, .f32⟩
  | 43 => ⟨S128x128x512, .f32⟩
  | 44 => ⟨S128x512x128, .f32⟩
  | 45 => ⟨S128x128x64, .f32⟩
  | 46 => ⟨S128x64x128, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_cst_8 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_9 : Ref sig .tc := ⟨.hbm, 128, rfl⟩
abbrev main_v112 : Ref sig .tc := ⟨.hbm, 129, rfl⟩
abbrev main_v113 : Ref sig .tc := ⟨.hbm, 130, rfl⟩
abbrev main_cst_10 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_cst_11 : Ref sig .tc := ⟨.hbm, 162, rfl⟩
abbrev main_v144 : Ref sig .tc := ⟨.hbm, 163, rfl⟩
abbrev main_v145 : Ref sig .tc := ⟨.hbm, 164, rfl⟩
abbrev main_cst_12 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_cst_13 : Ref sig .tc := ⟨.hbm, 171, rfl⟩
abbrev main_v151 : Ref sig .tc := ⟨.hbm, 172, rfl⟩
abbrev main_v152 : Ref sig .tc := ⟨.hbm, 173, rfl⟩
abbrev main_cst_14 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_cst_15 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_cst_16 : Ref sig .tc := ⟨.hbm, 194, rfl⟩
abbrev main_v171 : Ref sig .tc := ⟨.hbm, 195, rfl⟩
abbrev main_v172 : Ref sig .tc := ⟨.hbm, 196, rfl⟩
abbrev main_cst_17 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_cst_18 : Ref sig .tc := ⟨.hbm, 229, rfl⟩
abbrev main_v204 : Ref sig .tc := ⟨.hbm, 230, rfl⟩
abbrev main_v205 : Ref sig .tc := ⟨.hbm, 231, rfl⟩
abbrev main_call0_v0 : Ref sig .tc := ⟨.hbm, 232, rfl⟩
abbrev main_call0_v1 : Ref sig .tc := ⟨.hbm, 233, rfl⟩
abbrev main_call0_cst : Ref sig .tc := ⟨.hbm, 234, rfl⟩
abbrev main_call0_v2 : Ref sig .tc := ⟨.hbm, 235, rfl⟩
abbrev main_call0_v3 : Ref sig .tc := ⟨.hbm, 236, rfl⟩
abbrev main_call0_cst_0 : Ref sig .tc := ⟨.hbm, 237, rfl⟩
abbrev main_call0_v4 : Ref sig .tc := ⟨.hbm, 238, rfl⟩
abbrev main_call0_v5 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_cst_19 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_call1_v0 : Ref sig .tc := ⟨.hbm, 255, rfl⟩
abbrev main_call1_v1 : Ref sig .tc := ⟨.hbm, 256, rfl⟩
abbrev main_call1_cst : Ref sig .tc := ⟨.hbm, 257, rfl⟩
abbrev main_call1_v2 : Ref sig .tc := ⟨.hbm, 258, rfl⟩
abbrev main_call1_v3 : Ref sig .tc := ⟨.hbm, 259, rfl⟩
abbrev main_call1_cst_0 : Ref sig .tc := ⟨.hbm, 260, rfl⟩
abbrev main_call1_v4 : Ref sig .tc := ⟨.hbm, 261, rfl⟩
abbrev main_call1_v5 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_call2_v0 : Ref sig .tc := ⟨.hbm, 269, rfl⟩
abbrev main_call2_v1 : Ref sig .tc := ⟨.hbm, 270, rfl⟩
abbrev main_call2_cst : Ref sig .tc := ⟨.hbm, 271, rfl⟩
abbrev main_call2_v2 : Ref sig .tc := ⟨.hbm, 272, rfl⟩
abbrev main_call2_v3 : Ref sig .tc := ⟨.hbm, 273, rfl⟩
abbrev main_call2_cst_0 : Ref sig .tc := ⟨.hbm, 274, rfl⟩
abbrev main_call2_v4 : Ref sig .tc := ⟨.hbm, 275, rfl⟩
abbrev main_call2_v5 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_cst_20 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x16384x128 : Shape := ⟨3, ![4, 16384, 128]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S4x1024x128 : Shape := ⟨3, ![4, 1024, 128]⟩
abbrev S1024x512 : Shape := ⟨2, ![1024, 512]⟩
abbrev S1x1024x128 : Shape := ⟨3, ![1, 1024, 128]⟩
abbrev S1024x128 : Shape := ⟨2, ![1024, 128]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S4x16384x128, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x128, .bf16⟩
  | .local _ .vmem, ⟨3, _⟩ => ⟨S4x1024x128, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S4x16384x128 : Shape := ⟨3, ![4, 16384, 128]⟩
abbrev S16384x512 : Shape := ⟨2, ![16384, 512]⟩
abbrev S1024x1024 : Shape := ⟨2, ![1024, 1024]⟩
abbrev S1024 : Shape := ⟨1, ![1024]⟩
abbrev S16384x4x128 : Shape := ⟨3, ![16384, 4, 128]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x16384x128, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x16384x128, .f32⟩
  | .hbm, ⟨7, _⟩ => ⟨S16384x4x128, .f32⟩
  | .hbm, ⟨8, _⟩ => ⟨S8x2048x512, .f32⟩
  | .hbm, ⟨9, _⟩ => ⟨S16384x512, .f32⟩
  | .hbm, ⟨10, _⟩ => ⟨S8x2048x512, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Chain.lean ====
module

public import proofs.«01_k».proof.Proof.Gen.KernelIdeal.Skeleton
public import Idealize.ShloMosaic.Lib.Pointwise

@[expose] public section

set_option maxRecDepth 16384

noncomputable section

namespace Cert.KernelIdeal.Hgrn

open Idealize.ShloMosaic Idealize.SL.Sem Cert.KernelIdeal.Gen

/-! # One sequence and one head of the sample recurrence, as the kernel computes it

The kernel pads the eight rows of a sequence to sixteen, adds up the log decays with sixteen masked
additions, forms the sixteen products of queries, keys and decays, sums them over the lanes by a
product with ones, places the sums in the columns of a score matrix and multiplies by the values. -/

/-- The row number of each element. -/
abbrev rowi : IVec S16x128 32 := iota .tc S16x128 32 [0] iota_S16x128_d0_w32
/-- The lane number of each element. -/
abbrev lanei : IVec S16x128 32 := iota .tc S16x128 32 [1] iota_S16x128_d1_w32

/-- One masked addition of the running sum: row `c` is added to every row from `c` on. -/
def cumStep (g : FVec Ideal S16x128 .f32) (c : BitVec 32) (off : Fin 2 → Nat) (h : S16x128.Slices off S1x128)
    (acc : FVec Ideal S16x128 .f32) : FVec Ideal S16x128 .f32 :=
  addf acc (select (cmpi .sge rowi (broadcast S16x128 c))
    (broadcastTo S16x128 (shapeCast S1x128 (extractStridedSlice S1x128 off g h) shapeCasts_S1x128_S1x128) broadcasts_S1x128_S16x128)
    (broadcast S16x128 (Scalar.ofBits (F := Ideal) .f32 0x00000000#32)))

/-- The products of one key row: queries times the key row times the decay since that row, from that row on. -/
def prodStep (q k cum : FVec Ideal S16x128 .f32) (c : BitVec 32) (off : Fin 2 → Nat) (h : S16x128.Slices off S1x128) : FVec Ideal S16x128 .bf16 :=
  truncf .bf16 (select (cmpi .sge rowi (broadcast S16x128 c))
    (mulf (mulf q (broadcastTo S16x128 (extractStridedSlice S1x128 off k h) broadcasts_S1x128_S16x128))
      (exp2 (subf cum (broadcastTo S16x128 (extractStridedSlice S1x128 off cum h) broadcasts_S1x128_S16x128))))
    (broadcast S16x128 (Scalar.ofBits (F := Ideal) .f32 0x00000000#32))) bitsLt_bf16_f32

/-- One column of the score matrix put in place. -/
def scStep (sums : FVec Ideal S256x128 .f32) (c : BitVec 32) (off : Fin 2 → Nat) (h : S256x128.Slices off S16x128)
    (acc : FVec Ideal S16x128 .f32) : FVec Ideal S16x128 .f32 :=
  select (cmpi .eq lanei (broadcast S16x128 c)) (extractStridedSlice S16x128 off sums h) acc

/-- The running sum of the log decays. -/
def cumV (g : FVec Ideal S16x128 .f32) : FVec Ideal S16x128 .f32 :=
  (cumStep g 15#32 ![15, 0] slices_S16x128_o15_0_S1x128 (cumStep g 14#32 ![14, 0] slices_S16x128_o14_0_S1x128 (cumStep g 13#32 ![13, 0] slices_S16x128_o13_0_S1x128 (cumStep g 12#32 ![12, 0] slices_S16x128_o12_0_S1x128 (cumStep g 11#32 ![11, 0] slices_S16x128_o11_0_S1x128 (cumStep g 10#32 ![10, 0] slices_S16x128_o10_0_S1x128 (cumStep g 9#32 ![9, 0] slices_S16x128_o9_0_S1x128 (cumStep g 8#32 ![8, 0] slices_S16x128_o8_0_S1x128 (cumStep g 7#32 ![7, 0] slices_S16x128_o7_0_S1x128 (cumStep g 6#32 ![6, 0] slices_S16x128_o6_0_S1x128 (cumStep g 5#32 ![5, 0] slices_S16x128_o5_0_S1x128 (cumStep g 4#32 ![4, 0] slices_S16x128_o4_0_S1x128 (cumStep g 3#32 ![3, 0] slices_S16x128_o3_0_S1x128 (cumStep g 2#32 ![2, 0] slices_S16x128_o2_0_S1x128 (cumStep g 1#32 ![1, 0] slices_S16x128_o1_0_S1x128 (cumStep g 0#32 ![0, 0] slices_S16x128_o0_0_S1x128 (broadcast S16x128 (Scalar.ofBits (F := Ideal) .f32 0x00000000#32))))))))))))))))))

/-- Sixteen blocks of sixteen rows, stacked. -/
def catV (f : Fin 16 → FVec Ideal S16x128 .bf16) : FVec Ideal S256x128 .bf16 :=
  concatenate S256x128 0 [⟨S16x128, f 0⟩, ⟨S16x128, f 1⟩, ⟨S16x128, f 2⟩, ⟨S16x128, f 3⟩, ⟨S16x128, f 4⟩, ⟨S16x128, f 5⟩, ⟨S16x128, f 6⟩, ⟨S16x128, f 7⟩, ⟨S16x128, f 8⟩, ⟨S16x128, f 9⟩, ⟨S16x128, f 10⟩, ⟨S16x128, f 11⟩, ⟨S16x128, f 12⟩, ⟨S16x128, f 13⟩, ⟨S16x128, f 14⟩, ⟨S16x128, f 15⟩] concatenates_S16x128_S16x128_S16x128_S16x128_S16x128_S16x128_S16x128_S16x128_S16x128_S16x128_S16x128_S16x128_S16x128_S16x128_S16x128_S16x128_S256x128_d0

/-- The products of all key rows. -/
def prods (q k cum : FVec Ideal S16x128 .f32) : Fin 16 → FVec Ideal S16x128 .bf16 :=
  ![prodStep q k cum 0#32 ![0, 0] slices_S16x128_o0_0_S1x128, prodStep q k cum 1#32 ![1, 0] slices_S16x128_o1_0_S1x128, prodStep q k cum 2#32 ![2, 0] slices_S16x128_o2_0_S1x128, prodStep q k cum 3#32 ![3, 0] slices_S16x128_o3_0_S1x128, prodStep q k cum 4#32 ![4, 0] slices_S16x128_o4_0_S1x128, prodStep q k cum 5#32 ![5, 0] slices_S16x128_o5_0_S1x128, prodStep q k cum 6#32 ![6, 0] slices_S16x128_o6_0_S1x128, prodStep q k cum 7#32 ![7, 0] slices_S16x128_o7_0_S1x128, prodStep q k cum 8#32 ![8, 0] slices_S16x128_o8_0_S1x128, prodStep q k cum 9#32 ![9, 0] slices_S16x128_o9_0_S1x128, prodStep q k cum 10#32 ![10, 0] slices_S16x128_o10_0_S1x128, prodStep q k cum 11#32 ![11, 0] slices_S16x128_o11_0_S1x128, prodStep q k cum 12#32 ![12, 0] slices_S16x128_o12_0_S1x128, prodStep q k cum 13#32 ![13, 0] slices_S16x128_o13_0_S1x128, prodStep q k cum 14#32 ![14, 0] slices_S16x128_o14_0_S1x128, prodStep q k cum 15#32 ![15, 0] slices_S16x128_o15_0_S1x128]

/-- The products summed over the lanes, by a product with ones. -/
def sumsV (q k cum : FVec Ideal S16x128 .f32) : FVec Ideal S256x128 .f32 :=
  matmul dot_S256x128_S128x128_S256x128_1_0_0_1_n_n none (catV (prods q k cum))
    (broadcast S128x128 (Scalar.ofBits (F := Ideal) .bf16 0x3F80#16)) (constant S256x128 .f32 0x00000000#32)

/-- The score matrix. -/
def scV (sums : FVec Ideal S256x128 .f32) : FVec Ideal S16x128 .f32 :=
  (scStep sums 15#32 ![240, 0] slices_S256x128_o240_0_S16x128 (scStep sums 14#32 ![224, 0] slices_S256x128_o224_0_S16x128 (scStep sums 13#32 ![208, 0] slices_S256x128_o208_0_S16x128 (scStep sums 12#32 ![192, 0] slices_S256x128_o192_0_S16x128 (scStep sums 11#32 ![176, 0] slices_S256x128_o176_0_S16x128 (scStep sums 10#32 ![160, 0] slices_S256x128_o160_0_S16x128 (scStep sums 9#32 ![144, 0] slices_S256x128_o144_0_S16x128 (scStep sums 8#32 ![128, 0] slices_S256x128_o128_0_S16x128 (scStep sums 7#32 ![112, 0] slices_S256x128_o112_0_S16x128 (scStep sums 6#32 ![96, 0] slices_S256x128_o96_0_S16x128 (scStep sums 5#32 ![80, 0] slices_S256x128_o80_0_S16x128 (scStep sums 4#32 ![64, 0] slices_S256x128_o64_0_S16x128 (scStep sums 3#32 ![48, 0] slices_S256x128_o48_0_S16x128 (scStep sums 2#32 ![32, 0] slices_S256x128_o32_0_S16x128 (scStep sums 1#32 ![16, 0] slices_S256x128_o16_0_S16x128 (scStep sums 0#32 ![0, 0] slices_S256x128_o0_0_S16x128 (broadcast S16x128 (Scalar.ofBits (F := Ideal) .f32 0x00000000#32))))))))))))))))))

/-- Sixteen rows padded with zero rows to a hundred and twenty-eight. -/
def padV (v : FVec Ideal S16x128 .f32) : FVec Ideal S128x128 .bf16 :=
  concatenate S128x128 0 [⟨S16x128, truncf .bf16 v bitsLt_bf16_f32⟩, ⟨S112x128, broadcast S112x128 (Scalar.ofBits (F := Ideal) .bf16 0x0000#16)⟩]
    concatenates_S16x128_S112x128_S128x128_d0

/-- The part of the output that the state before the sequence gives. -/
def oState (q cum : FVec Ideal S16x128 .f32) (st : FVec Ideal S128x128 .f32) : FVec Ideal S16x128 .f32 :=
  matmul dot_S16x128_S128x128_S16x128_1_1_0_0_n_n none (truncf .bf16 (mulf q (exp2 cum)) bitsLt_bf16_f32) (truncf .bf16 st bitsLt_bf16_f32)
    (constant S16x128 .f32 0x00000000#32)

/-- The output before the norm. -/
def oRaw (q k v cum : FVec Ideal S16x128 .f32) (st : FVec Ideal S128x128 .f32) : FVec Ideal S16x128 .f32 :=
  addf (oState q cum st) (matmul dot_S16x128_S128x128_S16x128_1_0_0_1_n_n none
    (truncf .bf16 (scV (sumsV q k cum)) bitsLt_bf16_f32) (padV v) (constant S16x128 .f32 0x00000000#32))

/-- The norm of each row, the norm's weights and the gate. -/
def normV (o gate : FVec Ideal S16x128 .f32) (ng : FVec Ideal S1x128 .f32) : FVec Ideal S16x128 .f32 :=
  mulf (mulf (mulf o (broadcastTo S16x128 (rsqrt (addf (divf
      (shapeCast S16x1 (multiReduction .add [1] S16 (mulf o o) 0x00000000#32 reduces_S16x128_S16 (.inl rfl) rfl) shapeCasts_S16_S16x1)
      (broadcast S16x1 (Scalar.ofBits (F := Ideal) .f32 0x43000000#32))) (broadcast S16x1 (Scalar.ofBits (F := Ideal) .f32 0x3727C5AC#32))))
      broadcasts_S16x1_S16x128))
    (broadcastTo S16x128 ng broadcasts_S1x128_S16x128)) gate

/-- The state after the sequence, transposed. -/
def stV (k v cum : FVec Ideal S16x128 .f32) (st : FVec Ideal S128x128 .f32) : FVec Ideal S128x128 .f32 :=
  addf (mulf st (broadcastTo S128x128 (exp2 (extractStridedSlice S1x128 ![15, 0] cum slices_S16x128_o15_0_S1x128)) broadcasts_S1x128_S128x128))
    (matmul dot_S128x128_S128x128_S128x128_0_0_1_1_n_n none (padV v)
      (padV (mulf k (exp2 (subf (broadcastTo S16x128 (extractStridedSlice S1x128 ![15, 0] cum slices_S16x128_o15_0_S1x128) broadcasts_S1x128_S16x128) cum))))
      (constant S128x128 .f32 0x00000000#32))

/-- Eight rows padded with zero rows to sixteen. -/
def padR (x : FVec Ideal S8x128 .f32) : FVec Ideal S16x128 .f32 :=
  concatenate S16x128 0 [⟨S8x128, x⟩, ⟨S8x128, broadcast S8x128 (Scalar.ofBits (F := Ideal) .f32 0x00000000#32)⟩] concatenates_S8x128_S8x128_S16x128_d0

/-- The first sequence's rows of a block at sixteen bits. -/
def rowsA (x : FVec Ideal S16x128 .f32) : FVec Ideal S16x128 .f32 :=
  padR (extractStridedSlice S8x128 ![0, 0] x slices_S16x128_o0_0_S8x128)
/-- The second sequence's rows. -/
def rowsB (x : FVec Ideal S16x128 .f32) : FVec Ideal S16x128 .f32 :=
  padR (extractStridedSlice S8x128 ![8, 0] x slices_S16x128_o8_0_S8x128)

/-- A head's block of a sixteen-bit operand, widened. -/
def blk16 (x : FVec Ideal S1x16x128 .bf16) : FVec Ideal S16x128 .f32 :=
  extf .f32 (shapeCast S16x128 x shapeCasts_S1x16x128_S16x128) bitsLt_bf16_f32
/-- A head's block of a thirty-two-bit operand. -/
def blk32 (x : FVec Ideal S1x16x128 .f32) : FVec Ideal S16x128 .f32 :=
  shapeCast S16x128 x shapeCasts_S1x16x128_S16x128
/-- A state, transposed. -/
def stT (x : FVec Ideal S1x1x128x128 .f32) : FVec Ideal S128x128 .f32 :=
  transpose S128x128 [1, 0] (shapeCast S128x128 x shapeCasts_S1x1x128x128_S128x128) transposes_S128x128_p1_0_S128x128
/-- A state as it is written back. -/
def stO (x : FVec Ideal S128x128 .f32) : FVec Ideal S1x1x128x128 .f32 :=
  shapeCast S1x1x128x128 (transpose S128x128 [1, 0] x transposes_S128x128_p1_0_S128x128) shapeCasts_S128x128_S1x1x128x128
/-- The two sequences' outputs of a head as they are written back. -/
def outO (a b : FVec Ideal S16x128 .f32) : FVec Ideal S1x16x128 .bf16 :=
  shapeCast S1x16x128 (truncf .bf16 (concatenate S16x128 0 [⟨S8x128, extractStridedSlice S8x128 ![0, 0] a slices_S16x128_o0_0_S8x128⟩,
    ⟨S8x128, extractStridedSlice S8x128 ![0, 0] b slices_S16x128_o0_0_S8x128⟩] concatenates_S8x128_S8x128_S16x128_d0) bitsLt_bf16_f32) shapeCasts_S16x128_S1x16x128

end Cert.KernelIdeal.Hgrn

end
-- ==== Proof.Pay.lean ====
module

public import proofs.«01_k».proof.Proof.Gen.KernelIdeal.Frame
public import proofs.«01_k».proof.Proof.Chain

@[expose] public section

set_option maxRecDepth 16384

noncomputable section

namespace Cert.KernelIdeal.Hgrn

open Idealize.ShloMosaic Idealize.SL.Sem Cert.KernelIdeal.Gen

/-! # What the kernel's body stores, in terms of one sequence and one head -/

/-- The output of one sequence and one head. -/
def chainO (q k g v gate : FVec Ideal S16x128 .f32) (st : FVec Ideal S128x128 .f32) (ng : FVec Ideal S1x128 .f32) : FVec Ideal S16x128 .f32 :=
  normV (oRaw q k v (cumV g) st) gate ng

/-- The state after the sequence, as it is written back. -/
def chainS (k g v : FVec Ideal S16x128 .f32) (st : FVec Ideal S128x128 .f32) : FVec Ideal S1x1x128x128 .f32 :=
  stO (stV k v (cumV g) st)

variable (x0 : Vec Ideal S4x16x128 .bf16) (x1 : Vec Ideal S4x16x128 .f32) (x2 : Vec Ideal S4x16x128 .f32) (x3 : Vec Ideal S4x16x128 .bf16)
  (x4 : Vec Ideal S4x16x128 .bf16) (x5 : Vec Ideal S1x128 .f32) (x6 : Vec Ideal S2x4x128x128 .f32)

theorem cum_0 : k0_pay437 (F := Ideal) x0 x1 x2 x3 x4 x5 x6 = cumV (rowsA (blk32 (View.ld x2 r0_1))) := rfl

theorem cum_1 : k0_pay439 (F := Ideal) x0 x1 x2 x3 x4 x5 x6 = cumV (rowsB (blk32 (View.ld x2 r0_1))) := rfl

theorem cum_2 : k0_pay441 (F := Ideal) x0 x1 x2 x3 x4 x5 x6 = cumV (rowsA (blk32 (View.ld x2 r0_4))) := rfl

theorem cum_3 : k0_pay443 (F := Ideal) x0 x1 x2 x3 x4 x5 x6 = cumV (rowsB (blk32 (View.ld x2 r0_4))) := rfl

theorem cum_4 : k0_pay445 (F := Ideal) x0 x1 x2 x3 x4 x5 x6 = cumV (rowsA (blk32 (View.ld x2 r0_7))) := rfl

theorem cum_5 : k0_pay447 (F := Ideal) x0 x1 x2 x3 x4 x5 x6 = cumV (rowsB (blk32 (View.ld x2 r0_7))) := rfl

theorem cum_6 : k0_pay449 (F := Ideal) x0 x1 x2 x3 x4 x5 x6 = cumV (rowsA (blk32 (View.ld x2 r0_10))) := rfl

theorem cum_7 : k0_pay450 (F := Ideal) x0 x1 x2 x3 x4 x5 x6 = cumV (rowsB (blk32 (View.ld x2 r0_10))) := rfl

theorem sums_0 : k0_pay457 (F := Ideal) x0 x1 x2 x3 x4 x5 x6 = sumsV (rowsA (blk16 (View.ld x0 r0_1))) (rowsA (blk32 (View.ld x1 r0_1))) (cumV (rowsA (blk32 (View.ld x2 r0_1)))) := by
  unfold k0_pay457
  rw [cum_0]
  rfl

theorem sums_1 : k0_pay458 (F := Ideal) x0 x1 x2 x3 x4 x5 x6 = sumsV (rowsB (blk16 (View.ld x0 r0_1))) (rowsB (blk32 (View.ld x1 r0_1))) (cumV (rowsB (blk32 (View.ld x2 r0_1)))) := by
  unfold k0_pay458
  rw [cum_1]
  rfl

theorem sums_2 : k0_pay459 (F := Ideal) x0 x1 x2 x3 x4 x5 x6 = sumsV (rowsA (blk16 (View.ld x0 r0_4))) (rowsA (blk32 (View.ld x1 r0_4))) (cumV (rowsA (blk32 (View.ld x2 r0_4)))) := by
  unfold k0_pay459
  rw [cum_2]
  rfl

theorem sums_3 : k0_pay460 (F := Ideal) x0 x1 x2 x3 x4 x5 x6 = sumsV (rowsB (blk16 (View.ld x0 r0_4))) (rowsB (blk32 (View.ld x1 r0_4))) (cumV (rowsB (blk32 (View.ld x2 r0_4)))) := by
  unfold k0_pay460
  rw [cum_3]
  rfl

theorem sums_4 : k0_pay461 (F := Ideal) x0 x1 x2 x3 x4 x5 x6 = sumsV (rowsA (blk16 (View.ld x0 r0_7))) (rowsA (blk32 (View.ld x1 r0_7))) (cumV (rowsA (blk32 (View.ld x2 r0_7)))) := by
  unfold k0_pay461
  rw [cum_4]
  rfl

theorem sums_5 : k0_pay462 (F := Ideal) x0 x1 x2 x3 x4 x5 x6 = sumsV (rowsB (blk16 (View.ld x0 r0_7))) (rowsB (blk32 (View.ld x1 r0_7))) (cumV (rowsB (blk32 (View.ld x2 r0_7)))) := by
  unfold k0_pay462
  rw [cum_5]
  rfl

theorem sums_6 : k0_pay463 (F := Ideal) x0 x1 x2 x3 x4 x5 x6 = sumsV (rowsA (blk16 (View.ld x0 r0_10))) (rowsA (blk32 (View.ld x1 r0_10))) (cumV (rowsA (blk32 (View.ld x2 r0_10)))) := by
  unfold k0_pay463
  rw [cum_6]
  rfl

theorem sums_7 : k0_pay464 (F := Ideal) x0 x1 x2 x3 x4 x5 x6 = sumsV (rowsB (blk16 (View.ld x0 r0_10))) (rowsB (blk32 (View.ld x1 r0_10))) (cumV (rowsB (blk32 (View.ld x2 r0_10)))) := by
  unfold k0_pay464
  rw [cum_7]
  rfl

/-- The output block: one piece per head, the two sequences stacked. -/
theorem out7_eq : out0_7 (F := Ideal) x0 x1 x2 x3 x4 x5 x6 = View.canon [⟨r0_10, outO (chainO (rowsA (blk16 (View.ld x0 r0_10))) (rowsA (blk32 (View.ld x1 r0_10))) (rowsA (blk32 (View.ld x2 r0_10))) (rowsA (blk16 (View.ld x3 r0_10))) (rowsA (blk16 (View.ld x4 r0_10))) (stT (View.ld x6 r0_11)) (View.ld x5 r0_0)) (chainO (rowsB (blk16 (View.ld x0 r0_10))) (rowsB (blk32 (View.ld x1 r0_10))) (rowsB (blk32 (View.ld x2 r0_10))) (rowsB (blk16 (View.ld x3 r0_10))) (rowsB (blk16 (View.ld x4 r0_10))) (stT (View.ld x6 r0_12)) (View.ld x5 r0_0))⟩,
    ⟨r0_7, outO (chainO (rowsA (blk16 (View.ld x0 r0_7))) (rowsA (blk32 (View.ld x1 r0_7))) (rowsA (blk32 (View.ld x2 r0_7))) (rowsA (blk16 (View.ld x3 r0_7))) (rowsA (blk16 (View.ld x4 r0_7))) (stT (View.ld x6 r0_8)) (View.ld x5 r0_0)) (chainO (rowsB (blk16 (View.ld x0 r0_7))) (rowsB (blk32 (View.ld x1 r0_7))) (rowsB (blk32 (View.ld x2 r0_7))) (rowsB (blk16 (View.ld x3 r0_7))) (rowsB (blk16 (View.ld x4 r0_7))) (stT (View.ld x6 r0_9)) (View.ld x5 r0_0))⟩,
    ⟨r0_4, outO (chainO (rowsA (blk16 (View.ld x0 r0_4))) (rowsA (blk32 (View.ld x1 r0_4))) (rowsA (blk32 (View.ld x2 r0_4))) (rowsA (blk16 (View.ld x3 r0_4))) (rowsA (blk16 (View.ld x4 r0_4))) (stT (View.ld x6 r0_5)) (View.ld x5 r0_0)) (chainO (rowsB (blk16 (View.ld x0 r0_4))) (rowsB (blk32 (View.ld x1 r0_4))) (rowsB (blk32 (View.ld x2 r0_4))) (rowsB (blk16 (View.ld x3 r0_4))) (rowsB (blk16 (View.ld x4 r0_4))) (stT (View.ld x6 r0_6)) (View.ld x5 r0_0))⟩,
    ⟨r0_1, outO (chainO (rowsA (blk16 (View.ld x0 r0_1))) (rowsA (blk32 (View.ld x1 r0_1))) (rowsA (blk32 (View.ld x2 r0_1))) (rowsA (blk16 (View.ld x3 r0_1))) (rowsA (blk16 (View.ld x4 r0_1))) (stT (View.ld x6 r0_2)) (View.ld x5 r0_0)) (chainO (rowsB (blk16 (View.ld x0 r0_1))) (rowsB (blk32 (View.ld x1 r0_1))) (rowsB (blk32 (View.ld x2 r0_1))) (rowsB (blk16 (View.ld x3 r0_1))) (rowsB (blk16 (View.ld x4 r0_1))) (stT (View.ld x6 r0_3)) (View.ld x5 r0_0))⟩] := by
  unfold out0_7
  simp only [k0_pay451, k0_pay452, k0_pay453, k0_pay454, k0_pay455, k0_pay456, k0_pay465, k0_pay467]
  rw [cum_0, cum_1, cum_2, cum_3, cum_4, cum_5, cum_6, cum_7, sums_0, sums_1, sums_2, sums_3, sums_4, sums_5, sums_6, sums_7]
  rfl

/-- The state block: one piece per head and sequence. -/
theorem out8_eq : out0_8 (F := Ideal) x0 x1 x2 x3 x4 x5 x6 = View.canon [⟨r0_12, (chainS (rowsB (blk32 (View.ld x1 r0_10))) (rowsB (blk32 (View.ld x2 r0_10))) (rowsB (blk16 (View.ld x3 r0_10))) (stT (View.ld x6 r0_12)))⟩,
    ⟨r0_11, (chainS (rowsA (blk32 (View.ld x1 r0_10))) (rowsA (blk32 (View.ld x2 r0_10))) (rowsA (blk16 (View.ld x3 r0_10))) (stT (View.ld x6 r0_11)))⟩,
    ⟨r0_9, (chainS (rowsB (blk32 (View.ld x1 r0_7))) (rowsB (blk32 (View.ld x2 r0_7))) (rowsB (blk16 (View.ld x3 r0_7))) (stT (View.ld x6 r0_9)))⟩,
    ⟨r0_8, (chainS (rowsA (blk32 (View.ld x1 r0_7))) (rowsA (blk32 (View.ld x2 r0_7))) (rowsA (blk16 (View.ld x3 r0_7))) (stT (View.ld x6 r0_8)))⟩,
    ⟨r0_6, (chainS (rowsB (blk32 (View.ld x1 r0_4))) (rowsB (blk32 (View.ld x2 r0_4))) (rowsB (blk16 (View.ld x3 r0_4))) (stT (View.ld x6 r0_6)))⟩,
    ⟨r0_5, (chainS (rowsA (blk32 (View.ld x1 r0_4))) (rowsA (blk32 (View.ld x2 r0_4))) (rowsA (blk16 (View.ld x3 r0_4))) (stT (View.ld x6 r0_5)))⟩,
    ⟨r0_3, (chainS (rowsB (blk32 (View.ld x1 r0_1))) (rowsB (blk32 (View.ld x2 r0_1))) (rowsB (blk16 (View.ld x3 r0_1))) (stT (View.ld x6 r0_3)))⟩,
    ⟨r0_2, (chainS (rowsA (blk32 (View.ld x1 r0_1))) (rowsA (blk32 (View.ld x2 r0_1))) (rowsA (blk16 (View.ld x3 r0_1))) (stT (View.ld x6 r0_2)))⟩] := by
  unfold out0_8
  rw [cum_0, cum_1, cum_2, cum_3, cum_4, cum_5, cum_6, cum_7]
  rfl

end Cert.KernelIdeal.Hgrn

end
-- ==== Proof.Forms.lean ====
module

public import Idealize.ShloMosaic.Lib.Pointwise

@[expose] public section

noncomputable section

namespace Cert.Forms

open Idealize.ShloMosaic

/-! # The recurrence over one sequence of eight rows, for one head -/

/-!
`Q`, `K`, `G`, `V`, `T` are a sequence's queries, keys, log decays, values and gates; `S0` its state. -/

/-- The running sum of the log decays. -/
def Cum (G : Fin 8 → Fin 128 → EReal) (t : Fin 8) (l : Fin 128) : EReal := ∑ s : Fin 8, if s ≤ t then G s l else 0

/-- The output before the norm. -/
def Out (Q K G V : Fin 8 → Fin 128 → EReal) (S0 : Fin 128 → Fin 128 → EReal) (t : Fin 8) (c : Fin 128) : EReal :=
  (∑ l : Fin 128, Q t l * Ideal.exp2 (Cum G t l) * S0 l c)
    + ∑ s : Fin 8, (∑ l : Fin 128, if s ≤ t then Q t l * K s l * Ideal.exp2 (Cum G t l - Cum G s l) else 0) * V s c

/-- The state after the sequence. -/
def New (K G V : Fin 8 → Fin 128 → EReal) (S0 : Fin 128 → Fin 128 → EReal) (l c : Fin 128) : EReal :=
  S0 l c * Ideal.exp2 (Cum G 7 l) + ∑ s : Fin 8, V s c * (K s l * Ideal.exp2 (Cum G 7 l - Cum G s l))

/-- The output: the norm of each row, the norm's weights and the gate. -/
def Res (Q K G V T : Fin 8 → Fin 128 → EReal) (S0 : Fin 128 → Fin 128 → EReal) (ng : Fin 128 → EReal) (t : Fin 8) (c : Fin 128) : EReal :=
  Out Q K G V S0 t c * Ideal.rsqrt (Ideal.div (∑ c' : Fin 128, Out Q K G V S0 t c' * Out Q K G V S0 t c') (Ideal.ofBits .f32 0x43000000#32)
    + Ideal.ofBits .f32 0x3727C5AC#32) * ng c * T t c

/-- The rows of sequence `b` and head `h` in an operand of all the rows. -/
def rows {α : Type} (a : (⟨3, ![4, 256, 128]⟩ : Shape).Idx → α) (h : Fin 4) (b : Fin 32) (t : Fin 8) (l : Fin 128) : α :=
  a (ix3 h ⟨b.val * 8 + t.val, by omega⟩ l)

end Cert.Forms

end
-- ==== Proof.Val.lean ====
module

public import proofs.«01_k».proof.Proof.Pay
public import proofs.«01_k».proof.Proof.Forms

@[expose] public section

set_option maxRecDepth 16384

noncomputable section

namespace Cert.KernelIdeal.Hgrn

open Idealize.ShloMosaic Idealize.SL.Sem Cert.KernelIdeal.Gen Cert.Forms

/-! # One sequence and one head at an index -/

theorem sge_word : ∀ t s : Fin 16, IntOp.cmpi .sge (BitVec.ofNat 32 t.val) (BitVec.ofNat 32 s.val) = if s ≤ t then 1#1 else 0#1 := by decide
theorem eq_word : ∀ (l : Fin 128) (s : Fin 16), IntOp.cmpi .eq (BitVec.ofNat 32 l.val) (BitVec.ofNat 32 s.val) = if l.val = s.val then 1#1 else 0#1 := by decide +kernel

theorem cumStep_apply (s : Fin 16) (g acc : FVec Ideal S16x128 .f32) (h : S16x128.Slices ![s.val, 0] S1x128) (t : Fin 16) (l : Fin 128) :
    cumStep g (BitVec.ofNat 32 s.val) ![s.val, 0] h acc (ix2 t l) = acc (ix2 t l) + if s ≤ t then g (ix2 s l) else 0 := by
  pointwise [cumStep]
  rw [sge_word]
  by_cases hst : s ≤ t <;> simp [hst, Scalar.select]

theorem prodStep_apply (s : Fin 16) (q k cum : FVec Ideal S16x128 .f32) (h : S16x128.Slices ![s.val, 0] S1x128) (t : Fin 16) (l : Fin 128) :
    prodStep q k cum (BitVec.ofNat 32 s.val) ![s.val, 0] h (ix2 t l)
      = if s ≤ t then q (ix2 t l) * k (ix2 s l) * Ideal.exp2 (cum (ix2 t l) - cum (ix2 s l)) else 0 := by
  pointwise [prodStep]
  rw [sge_word]
  by_cases hst : s ≤ t <;> simp [hst, Scalar.select] <;> rfl

theorem scStep_apply (s : Fin 16) (sums : FVec Ideal S256x128 .f32) (acc : FVec Ideal S16x128 .f32) (h : S256x128.Slices ![16 * s.val, 0] S16x128) (t : Fin 16) (l : Fin 128) :
    scStep sums (BitVec.ofNat 32 s.val) ![16 * s.val, 0] h acc (ix2 t l)
      = if l.val = s.val then sums (ix2 ⟨16 * s.val + t.val, by omega⟩ l) else acc (ix2 t l) := by
  pointwise [scStep]
  rw [eq_word]
  by_cases hst : l.val = s.val <;> simp [hst, Scalar.select]

theorem catV_apply (f : Fin 16 → FVec Ideal S16x128 .bf16) (s t : Fin 16) (l : Fin 128) :
    catV f (ix2 ⟨16 * s.val + t.val, by omega⟩ l) = f s (ix2 t l) := by
  refine concatenate_ofFn_apply (t := S256x128) (s₁ := S16x128) (0 : Fin 2) f _ rfl 16 rfl _ s ?_ (ix2 t l) ?_ ?_
  · show (16 * s.val + t.val) / 16 = s.val
    omega
  · show t.val = (16 * s.val + t.val) % 16
    omega
  · intro b hb
    match b with
    | ⟨0, _⟩ => exact absurd rfl hb
    | ⟨1, _⟩ => rfl

theorem cumV_apply (g : FVec Ideal S16x128 .f32) (t : Fin 16) (l : Fin 128) :
    cumV g (ix2 t l) = ∑ s : Fin 16, if s ≤ t then g (ix2 s l) else 0 := by
  have h := fun (s : Fin 16) (hs : S16x128.Slices ![s.val, 0] S1x128) (acc : FVec Ideal S16x128 .f32) => cumStep_apply s g acc hs t l
  unfold cumV
  rw [show cumStep g 15#32 ![15, 0] slices_S16x128_o15_0_S1x128 _ (ix2 t l) = _ from h 15 _ _]
  rw [show cumStep g 14#32 ![14, 0] slices_S16x128_o14_0_S1x128 _ (ix2 t l) = _ from h 14 _ _]
  rw [show cumStep g 13#32 ![13, 0] slices_S16x128_o13_0_S1x128 _ (ix2 t l) = _ from h 13 _ _]
  rw [show cumStep g 12#32 ![12, 0] slices_S16x128_o12_0_S1x128 _ (ix2 t l) = _ from h 12 _ _]
  rw [show cumStep g 11#32 ![11, 0] slices_S16x128_o11_0_S1x128 _ (ix2 t l) = _ from h 11 _ _]
  rw [show cumStep g 10#32 ![10, 0] slices_S16x128_o10_0_S1x128 _ (ix2 t l) = _ from h 10 _ _]
  rw [show cumStep g 9#32 ![9, 0] slices_S16x128_o9_0_S1x128 _ (ix2 t l) = _ from h 9 _ _]
  rw [show cumStep g 8#32 ![8, 0] slices_S16x128_o8_0_S1x128 _ (ix2 t l) = _ from h 8 _ _]
  rw [show cumStep g 7#32 ![7, 0] slices_S16x128_o7_0_S1x128 _ (ix2 t l) = _ from h 7 _ _]
  rw [show cumStep g 6#32 ![6, 0] slices_S16x128_o6_0_S1x128 _ (ix2 t l) = _ from h 6 _ _]
  rw [show cumStep g 5#32 ![5, 0] slices_S16x128_o5_0_S1x128 _ (ix2 t l) = _ from h 5 _ _]
  rw [show cumStep g 4#32 ![4, 0] slices_S16x128_o4_0_S1x128 _ (ix2 t l) = _ from h 4 _ _]
  rw [show cumStep g 3#32 ![3, 0] slices_S16x128_o3_0_S1x128 _ (ix2 t l) = _ from h 3 _ _]
  rw [show cumStep g 2#32 ![2, 0] slices_S16x128_o2_0_S1x128 _ (ix2 t l) = _ from h 2 _ _]
  rw [show cumStep g 1#32 ![1, 0] slices_S16x128_o1_0_S1x128 _ (ix2 t l) = _ from h 1 _ _]
  rw [show cumStep g 0#32 ![0, 0] slices_S16x128_o0_0_S1x128 _ (ix2 t l) = _ from h 0 _ _]
  simp only [Fin.sum_univ_succ, Fin.sum_univ_zero, add_zero, ← add_assoc]
  pointwise
  rfl

theorem prods_apply (q k cum : FVec Ideal S16x128 .f32) (s t : Fin 16) (l : Fin 128) :
    prods q k cum s (ix2 t l)
      = if s ≤ t then q (ix2 t l) * k (ix2 s l) * Ideal.exp2 (cum (ix2 t l) - cum (ix2 s l)) else 0 := by
  match s with
  | ⟨0, _⟩ => exact prodStep_apply 0 q k cum slices_S16x128_o0_0_S1x128 t l
  | ⟨1, _⟩ => exact prodStep_apply 1 q k cum slices_S16x128_o1_0_S1x128 t l
  | ⟨2, _⟩ => exact prodStep_apply 2 q k cum slices_S16x128_o2_0_S1x128 t l
  | ⟨3, _⟩ => exact prodStep_apply 3 q k cum slices_S16x128_o3_0_S1x128 t l
  | ⟨4, _⟩ => exact prodStep_apply 4 q k cum slices_S16x128_o4_0_S1x128 t l
  | ⟨5, _⟩ => exact prodStep_apply 5 q k cum slices_S16x128_o5_0_S1x128 t l
  | ⟨6, _⟩ => exact prodStep_apply 6 q k cum slices_S16x128_o6_0_S1x128 t l
  | ⟨7, _⟩ => exact prodStep_apply 7 q k cum slices_S16x128_o7_0_S1x128 t l
  | ⟨8, _⟩ => exact prodStep_apply 8 q k cum slices_S16x128_o8_0_S1x128 t l
  | ⟨9, _⟩ => exact prodStep_apply 9 q k cum slices_S16x128_o9_0_S1x128 t l
  | ⟨10, _⟩ => exact prodStep_apply 10 q k cum slices_S16x128_o10_0_S1x128 t l
  | ⟨11, _⟩ => exact prodStep_apply 11 q k cum slices_S16x128_o11_0_S1x128 t l
  | ⟨12, _⟩ => exact prodStep_apply 12 q k cum slices_S16x128_o12_0_S1x128 t l
  | ⟨13, _⟩ => exact prodStep_apply 13 q k cum slices_S16x128_o13_0_S1x128 t l
  | ⟨14, _⟩ => exact prodStep_apply 14 q k cum slices_S16x128_o14_0_S1x128 t l
  | ⟨15, _⟩ => exact prodStep_apply 15 q k cum slices_S16x128_o15_0_S1x128 t l
  | ⟨n + 16, hn⟩ => exact absurd hn (by omega)

theorem sumsV_apply (q k cum : FVec Ideal S16x128 .f32) (s t : Fin 16) (c : Fin 128) :
    sumsV q k cum (ix2 ⟨16 * s.val + t.val, by omega⟩ c)
      = ∑ l : Fin 128, if s ≤ t then q (ix2 t l) * k (ix2 s l) * Ideal.exp2 (cum (ix2 t l) - cum (ix2 s l)) else 0 := by
  pointwise [sumsV]
  refine Finset.sum_congr rfl fun l _ => ?_
  rw [catV_apply, prods_apply]

theorem scV_apply (sums : FVec Ideal S256x128 .f32) (t : Fin 16) (l : Fin 128) :
    scV sums (ix2 t l) = if h : l.val < 16 then sums (ix2 ⟨16 * l.val + t.val, by omega⟩ l) else 0 := by
  have h := fun (s : Fin 16) (hs : S256x128.Slices ![16 * s.val, 0] S16x128) (acc : FVec Ideal S16x128 .f32) => scStep_apply s sums acc hs t l
  unfold scV
  rw [show scStep sums 15#32 ![240, 0] slices_S256x128_o240_0_S16x128 _ (ix2 t l) = _ from h 15 _ _]
  rw [show scStep sums 14#32 ![224, 0] slices_S256x128_o224_0_S16x128 _ (ix2 t l) = _ from h 14 _ _]
  rw [show scStep sums 13#32 ![208, 0] slices_S256x128_o208_0_S16x128 _ (ix2 t l) = _ from h 13 _ _]
  rw [show scStep sums 12#32 ![192, 0] slices_S256x128_o192_0_S16x128 _ (ix2 t l) = _ from h 12 _ _]
  rw [show scStep sums 11#32 ![176, 0] slices_S256x128_o176_0_S16x128 _ (ix2 t l) = _ from h 11 _ _]
  rw [show scStep sums 10#32 ![160, 0] slices_S256x128_o160_0_S16x128 _ (ix2 t l) = _ from h 10 _ _]
  rw [show scStep sums 9#32 ![144, 0] slices_S256x128_o144_0_S16x128 _ (ix2 t l) = _ from h 9 _ _]
  rw [show scStep sums 8#32 ![128, 0] slices_S256x128_o128_0_S16x128 _ (ix2 t l) = _ from h 8 _ _]
  rw [show scStep sums 7#32 ![112, 0] slices_S256x128_o112_0_S16x128 _ (ix2 t l) = _ from h 7 _ _]
  rw [show scStep sums 6#32 ![96, 0] slices_S256x128_o96_0_S16x128 _ (ix2 t l) = _ from h 6 _ _]
  rw [show scStep sums 5#32 ![80, 0] slices_S256x128_o80_0_S16x128 _ (ix2 t l) = _ from h 5 _ _]
  rw [show scStep sums 4#32 ![64, 0] slices_S256x128_o64_0_S16x128 _ (ix2 t l) = _ from h 4 _ _]
  rw [show scStep sums 3#32 ![48, 0] slices_S256x128_o48_0_S16x128 _ (ix2 t l) = _ from h 3 _ _]
  rw [show scStep sums 2#32 ![32, 0] slices_S256x128_o32_0_S16x128 _ (ix2 t l) = _ from h 2 _ _]
  rw [show scStep sums 1#32 ![16, 0] slices_S256x128_o16_0_S16x128 _ (ix2 t l) = _ from h 1 _ _]
  rw [show scStep sums 0#32 ![0, 0] slices_S256x128_o0_0_S16x128 _ (ix2 t l) = _ from h 0 _ _]
  obtain ⟨l, hl⟩ := l
  by_cases h16 : l < 16
  · rw [dif_pos h16]
    interval_cases l <;> simp
  · rw [dif_neg h16]
    refine (if_neg fun e => h16 (by have e1 : l = 15 := e; omega)).trans ?_
    refine (if_neg fun e => h16 (by have e1 : l = 14 := e; omega)).trans ?_
    refine (if_neg fun e => h16 (by have e1 : l = 13 := e; omega)).trans ?_
    refine (if_neg fun e => h16 (by have e1 : l = 12 := e; omega)).trans ?_
    refine (if_neg fun e => h16 (by have e1 : l = 11 := e; omega)).trans ?_
    refine (if_neg fun e => h16 (by have e1 : l = 10 := e; omega)).trans ?_
    refine (if_neg fun e => h16 (by have e1 : l = 9 := e; omega)).trans ?_
    refine (if_neg fun e => h16 (by have e1 : l = 8 := e; omega)).trans ?_
    refine (if_neg fun e => h16 (by have e1 : l = 7 := e; omega)).trans ?_
    refine (if_neg fun e => h16 (by have e1 : l = 6 := e; omega)).trans ?_
    refine (if_neg fun e => h16 (by have e1 : l = 5 := e; omega)).trans ?_
    refine (if_neg fun e => h16 (by have e1 : l = 4 := e; omega)).trans ?_
    refine (if_neg fun e => h16 (by have e1 : l = 3 := e; omega)).trans ?_
    refine (if_neg fun e => h16 (by have e1 : l = 2 := e; omega)).trans ?_
    refine (if_neg fun e => h16 (by have e1 : l = 1 := e; omega)).trans ?_
    refine (if_neg fun e => h16 (by have e1 : l = 0 := e; omega)).trans ?_
    pointwise

theorem padV_apply (v : FVec Ideal S16x128 .f32) (s c : Fin 128) :
    padV v (ix2 s c) = if h : s.val < 16 then v (ix2 ⟨s.val, h⟩ c) else 0 := by
  pointwise [padV]

theorem padR_apply (v : FVec Ideal S8x128 .f32) (s : Fin 16) (c : Fin 128) :
    padR v (ix2 s c) = if h : s.val < 8 then v (ix2 ⟨s.val, h⟩ c) else 0 := by
  pointwise [padR]

/-- Rows of zeros below eight rows. -/
def ext (X : Fin 8 → Fin 128 → EReal) (s : Fin 16) (l : Fin 128) : EReal := if h : s.val < 8 then X ⟨s.val, h⟩ l else 0

theorem sum16 (f : Fin 8 → EReal) : (∑ s : Fin 16, if h : s.val < 8 then f ⟨s.val, h⟩ else 0) = ∑ s : Fin 8, f s := by
  simp [Fin.sum_univ_succ]

theorem sum128 (f : Fin 8 → EReal) : (∑ s : Fin 128, if h : s.val < 8 then f ⟨s.val, h⟩ else 0) = ∑ s : Fin 8, f s := by
  rw [Fin.sum_univ_add (a := 8) (b := 120) (fun s : Fin (8 + 120) => if h : s.val < 8 then f ⟨s.val, h⟩ else 0)]
  simp

theorem cum_ext (g : FVec Ideal S16x128 .f32) (G : Fin 8 → Fin 128 → EReal) (hg : ∀ s l, g (ix2 s l) = ext G s l) (t : Fin 8) (l : Fin 128) :
    cumV g (ix2 ⟨t.val, by omega⟩ l) = Cum G t l := by
  rw [cumV_apply, Cum, ← sum16]
  refine Finset.sum_congr rfl fun s _ => ?_
  rw [hg, ext]
  by_cases h : s.val < 8
  · rw [dif_pos h, dif_pos h]; rfl
  · rw [dif_neg h, dif_neg h, ite_self]

theorem cum_last (g : FVec Ideal S16x128 .f32) (G : Fin 8 → Fin 128 → EReal) (hg : ∀ s l, g (ix2 s l) = ext G s l) (l : Fin 128) :
    cumV g (ix2 15 l) = Cum G 7 l := by
  rw [cumV_apply, Cum, ← sum16]
  refine Finset.sum_congr rfl fun s _ => ?_
  rw [hg, ext, if_pos (show s ≤ 15 from Fin.le_last s)]
  by_cases h : s.val < 8
  · rw [dif_pos h, dif_pos h, if_pos (by show s.val ≤ 7; omega)]
  · rw [dif_neg h, dif_neg h]

section
variable (q k g v gate : FVec Ideal S16x128 .f32) (st : FVec Ideal S128x128 .f32) (ng : FVec Ideal S1x128 .f32)
  (Q K G V T : Fin 8 → Fin 128 → EReal) (S0 : Fin 128 → Fin 128 → EReal)
  (hq : ∀ s l, q (ix2 s l) = ext Q s l) (hk : ∀ s l, k (ix2 s l) = ext K s l) (hg : ∀ s l, g (ix2 s l) = ext G s l)
  (hv : ∀ s l, v (ix2 s l) = ext V s l) (ht : ∀ s l, gate (ix2 s l) = ext T s l) (hst : ∀ c l, st (ix2 c l) = S0 l c)

include hq hk hg hv hst in
theorem oRaw_apply (t : Fin 8) (c : Fin 128) : oRaw q k v (cumV g) st (ix2 ⟨t.val, by omega⟩ c) = Out Q K G V S0 t c := by
  have e8 : ∀ X (s : Fin 8) (l : Fin 128), ext X ⟨s.val, by omega⟩ l = X s l := fun X s l => dif_pos s.isLt
  pointwise [oRaw, oState]
  unfold Out
  congr 1
  · refine Finset.sum_congr rfl fun l _ => ?_
    rw [cum_ext g G hg, hq, e8, hst]
    rfl
  · rw [← sum128]
    refine Finset.sum_congr rfl fun s _ => ?_
    rw [scV_apply, padV_apply]
    by_cases h16 : s.val < 16
    · rw [dif_pos h16, dif_pos h16, hv, ext]
      by_cases h8 : s.val < 8
      · rw [dif_pos h8, dif_pos h8]
        congr 1
        have e := sumsV_apply q k (cumV g) ⟨s.val, h16⟩ ⟨t.val, by omega⟩ s
        refine e.trans (Finset.sum_congr rfl fun l _ => ?_)
        rw [cum_ext g G hg, hq, e8, hk, ext, dif_pos h8]
        rw [show cumV g (ix2 ⟨s.val, h16⟩ l) = Cum G ⟨s.val, h8⟩ l from cum_ext g G hg ⟨s.val, h8⟩ l]
        rfl
      · rw [dif_neg h8, dif_neg h8, mul_zero]
    · rw [dif_neg h16, dif_neg h16, mul_zero, dif_neg (fun h8 => h16 (by omega))]

include hq hk hg hv hst ht in
theorem chainO_apply (t : Fin 8) (c : Fin 128) : chainO q k g v gate st ng (ix2 ⟨t.val, by omega⟩ c)
    = Res Q K G V T S0 (fun c => ng (ix2 0 c)) t c := by
  have e8 : ∀ X (s : Fin 8) (l : Fin 128), ext X ⟨s.val, by omega⟩ l = X s l := fun X s l => dif_pos s.isLt
  have e := oRaw_apply q k g v st Q K G V S0 hq hk hg hv hst t
  pointwise [chainO, normV, Res]
  simp only [e, ht, e8]

include hk hg hv hst in
theorem stV_apply (c l : Fin 128) : stV k v (cumV g) st (ix2 c l) = New K G V S0 l c := by
  pointwise [stV]
  rw [cum_last g G hg, hst, New, ← sum128]
  congr 1
  refine Finset.sum_congr rfl fun s _ => ?_
  rw [padV_apply, padV_apply]
  by_cases h16 : s.val < 16
  · rw [dif_pos h16, dif_pos h16, hv, ext]
    by_cases h8 : s.val < 8
    · rw [dif_pos h8, dif_pos h8]
      congr 1
      pointwise
      rw [hk, ext, dif_pos h8, cum_last g G hg, show cumV g (ix2 ⟨s.val, h16⟩ l) = Cum G ⟨s.val, h8⟩ l from cum_ext g G hg ⟨s.val, h8⟩ l]
      rfl
    · rw [dif_neg h8, dif_neg h8, zero_mul]
  · rw [dif_neg h16, dif_neg h16, dif_neg (by omega), zero_mul]

end

end Cert.KernelIdeal.Hgrn

end
-- ==== Proof.Arr.lean ====
module

public import proofs.«01_k».proof.Proof.Val
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Hgrn

open Idealize.ShloMosaic Idealize.SL.Sem Cert.KernelIdeal Cert.KernelIdeal.Gen Cert.Forms

/-! # The kernel's output arrays -/

theorem rowsA_blk16 (x : FVec Ideal S1x16x128 .bf16) (Q : Fin 8 → Fin 128 → EReal) (hx : ∀ (s : Fin 8) l, x (ix3 0 ⟨s.val, by omega⟩ l) = Q s l)
    (s : Fin 16) (l : Fin 128) : rowsA (blk16 x) (ix2 s l) = ext Q s l := by
  rw [rowsA, padR_apply, ext]
  split_ifs with h
  · rw [← hx]; pointwise [blk16]
  · rfl

theorem rowsB_blk16 (x : FVec Ideal S1x16x128 .bf16) (Q : Fin 8 → Fin 128 → EReal) (hx : ∀ (s : Fin 8) l, x (ix3 0 ⟨8 + s.val, by omega⟩ l) = Q s l)
    (s : Fin 16) (l : Fin 128) : rowsB (blk16 x) (ix2 s l) = ext Q s l := by
  rw [rowsB, padR_apply, ext]
  split_ifs with h
  · rw [← hx]; pointwise [blk16]
  · rfl

theorem rowsA_blk32 (x : FVec Ideal S1x16x128 .f32) (Q : Fin 8 → Fin 128 → EReal) (hx : ∀ (s : Fin 8) l, x (ix3 0 ⟨s.val, by omega⟩ l) = Q s l)
    (s : Fin 16) (l : Fin 128) : rowsA (blk32 x) (ix2 s l) = ext Q s l := by
  rw [rowsA, padR_apply, ext]
  split_ifs with h
  · rw [← hx]; pointwise [blk32]
  · rfl

theorem rowsB_blk32 (x : FVec Ideal S1x16x128 .f32) (Q : Fin 8 → Fin 128 → EReal) (hx : ∀ (s : Fin 8) l, x (ix3 0 ⟨8 + s.val, by omega⟩ l) = Q s l)
    (s : Fin 16) (l : Fin 128) : rowsB (blk32 x) (ix2 s l) = ext Q s l := by
  rw [rowsB, padR_apply, ext]
  split_ifs with h
  · rw [← hx]; pointwise [blk32]
  · rfl

theorem stT_apply (x : FVec Ideal S1x1x128x128 .f32) (S0 : Fin 128 → Fin 128 → EReal) (hx : ∀ l c, x (ix4 0 0 l c) = S0 l c) (c l : Fin 128) :
    stT x (ix2 c l) = S0 l c := by
  rw [← hx]; pointwise [stT]

theorem stO_apply (x : FVec Ideal S128x128 .f32) (l c : Fin 128) : stO x (ix4 0 0 l c) = x (ix2 c l) := by pointwise [stO]

theorem outO_apply (a b : FVec Ideal S16x128 .f32) (r : Fin 16) (c : Fin 128) :
    outO a b (ix3 0 r c) = if hr : r.val < 8 then a (ix2 ⟨r.val, by omega⟩ c) else b (ix2 ⟨r.val - 8, by omega⟩ c) := by
  pointwise [outO]

section
variable (a0 : FVec Ideal S4x256x128 .bf16) (a1 a2 : FVec Ideal S4x256x128 .f32) (a3 a4 : FVec Ideal S4x256x128 .bf16) (a5 : FVec Ideal S1x128 .f32)
  (a6 : FVec Ideal S32x4x128x128 .f32)

/-- An output. -/
def outAt (h : Fin 4) (b : Fin 32) (t : Fin 8) (y : Fin 128) : EReal :=
  Res (rows a0 h b) (rows a1 h b) (rows a2 h b) (rows a3 h b) (rows a4 h b) (fun x y => a6 (ix4 b h x y)) (fun y => a5 (ix2 0 y)) t y

/-- The outputs as an array. -/
def outArr : FVec Ideal S4x256x128 .bf16 := fun i =>
  outAt a0 a1 a2 a3 a4 a5 a6 (i 0) ⟨(i 1).val / 8, by have h : (i 1).val < 256 := (i 1).isLt; omega⟩ ⟨(i 1).val % 8, by omega⟩ (i 2)

/-- The new states as an array. -/
def stateArr : FVec Ideal S32x4x128x128 .f32 := fun i =>
  New (rows a1 (i 1) (i 0)) (rows a2 (i 1) (i 0)) (rows a3 (i 1) (i 0)) (fun x y => a6 (ix4 (i 0) (i 1) x y)) (i 2) (i 3)

theorem outArr_apply (h : Fin 4) (b : Fin 32) (t : Fin 8) (y : Fin 128) (r : Fin 256) (hr : r.val = b.val * 8 + t.val) :
    outArr a0 a1 a2 a3 a4 a5 a6 (ix3 h r y)
      = Res (rows a0 h b) (rows a1 h b) (rows a2 h b) (rows a3 h b) (rows a4 h b) (fun x y => a6 (ix4 b h x y)) (fun y => a5 (ix2 0 y)) t y := by
  show outAt a0 a1 a2 a3 a4 a5 a6 h ⟨r.val / 8, by omega⟩ ⟨r.val % 8, by omega⟩ y = outAt a0 a1 a2 a3 a4 a5 a6 h b t y
  congr 1 <;> apply Fin.ext <;> dsimp only <;> omega

variable (X0 : FVec Ideal S1x16x128 .bf16) (X1 X2 : FVec Ideal S1x16x128 .f32) (X3 X4 : FVec Ideal S1x16x128 .bf16) (X5 : FVec Ideal S1x128 .f32)
  (XA XB : FVec Ideal S1x1x128x128 .f32) (h : Fin 4) (t : Fin 16)
  (h0 : ∀ (s : Fin 16) l, X0 (ix3 0 s l) = a0 (ix3 h ⟨16 * t.val + s.val, by omega⟩ l))
  (h1 : ∀ (s : Fin 16) l, X1 (ix3 0 s l) = a1 (ix3 h ⟨16 * t.val + s.val, by omega⟩ l))
  (h2 : ∀ (s : Fin 16) l, X2 (ix3 0 s l) = a2 (ix3 h ⟨16 * t.val + s.val, by omega⟩ l))
  (h3 : ∀ (s : Fin 16) l, X3 (ix3 0 s l) = a3 (ix3 h ⟨16 * t.val + s.val, by omega⟩ l))
  (h4 : ∀ (s : Fin 16) l, X4 (ix3 0 s l) = a4 (ix3 h ⟨16 * t.val + s.val, by omega⟩ l))
  (h5 : ∀ l, X5 (ix2 0 l) = a5 (ix2 0 l))
  (hA : ∀ l c, XA (ix4 0 0 l c) = a6 (ix4 ⟨2 * t.val, by omega⟩ h l c))
  (hB : ∀ l c, XB (ix4 0 0 l c) = a6 (ix4 ⟨2 * t.val + 1, by omega⟩ h l c))

theorem lowA {α : Type} (X : S1x16x128.Idx → α) (a : S4x256x128.Idx → α) (hX : ∀ (s : Fin 16) l, X (ix3 0 s l) = a (ix3 h ⟨16 * t.val + s.val, by omega⟩ l))
    (s : Fin 8) (l : Fin 128) : X (ix3 0 ⟨s.val, by omega⟩ l) = rows a h ⟨2 * t.val, by omega⟩ s l := by
  rw [hX, rows]
  have e : 16 * t.val + s.val = 2 * t.val * 8 + s.val := by omega
  simp only [e]

theorem lowB {α : Type} (X : S1x16x128.Idx → α) (a : S4x256x128.Idx → α) (hX : ∀ (s : Fin 16) l, X (ix3 0 s l) = a (ix3 h ⟨16 * t.val + s.val, by omega⟩ l))
    (s : Fin 8) (l : Fin 128) : X (ix3 0 ⟨8 + s.val, by omega⟩ l) = rows a h ⟨2 * t.val + 1, by omega⟩ s l := by
  rw [hX, rows]
  have e : 16 * t.val + (8 + s.val) = (2 * t.val + 1) * 8 + s.val := by omega
  simp only [e]

include h0 h1 h2 h3 h4 h5 hA hB in
/-- A head's outputs at a grid point. -/
theorem pieceO (r : Fin 16) (y : Fin 128) :
    outO (chainO (rowsA (blk16 X0)) (rowsA (blk32 X1)) (rowsA (blk32 X2)) (rowsA (blk16 X3)) (rowsA (blk16 X4)) (stT XA) X5)
      (chainO (rowsB (blk16 X0)) (rowsB (blk32 X1)) (rowsB (blk32 X2)) (rowsB (blk16 X3)) (rowsB (blk16 X4)) (stT XB) X5) (ix3 0 r y)
      = outArr a0 a1 a2 a3 a4 a5 a6 (ix3 h ⟨16 * t.val + r.val, by omega⟩ y) := by
  rw [outO_apply]
  split_ifs with hr
  · rw [chainO_apply _ _ _ _ _ _ _ _ _ _ _ _ _ (rowsA_blk16 X0 _ (lowA h t X0 a0 h0)) (rowsA_blk32 X1 _ (lowA h t X1 a1 h1)) (rowsA_blk32 X2 _ (lowA h t X2 a2 h2))
      (rowsA_blk16 X3 _ (lowA h t X3 a3 h3)) (rowsA_blk16 X4 _ (lowA h t X4 a4 h4)) (stT_apply XA _ hA) ⟨r.val, hr⟩ y,
      outArr_apply a0 a1 a2 a3 a4 a5 a6 h ⟨2 * t.val, by omega⟩ ⟨r.val, hr⟩ y _ (by show 16 * t.val + r.val = 2 * t.val * 8 + r.val; omega)]
    simp only [h5]
  · rw [chainO_apply _ _ _ _ _ _ _ _ _ _ _ _ _ (rowsB_blk16 X0 _ (lowB h t X0 a0 h0)) (rowsB_blk32 X1 _ (lowB h t X1 a1 h1)) (rowsB_blk32 X2 _ (lowB h t X2 a2 h2))
      (rowsB_blk16 X3 _ (lowB h t X3 a3 h3)) (rowsB_blk16 X4 _ (lowB h t X4 a4 h4)) (stT_apply XB _ hB) ⟨r.val - 8, by omega⟩ y,
      outArr_apply a0 a1 a2 a3 a4 a5 a6 h ⟨2 * t.val + 1, by omega⟩ ⟨r.val - 8, by omega⟩ y _ (by show 16 * t.val + r.val = (2 * t.val + 1) * 8 + (r.val - 8); omega)]
    simp only [h5]

include h1 h2 h3 hA in
/-- The first sequence's new state of a head at a grid point. -/
theorem pieceA (x y : Fin 128) : chainS (rowsA (blk32 X1)) (rowsA (blk32 X2)) (rowsA (blk16 X3)) (stT XA) (ix4 0 0 x y)
    = stateArr a1 a2 a3 a6 (ix4 ⟨2 * t.val, by omega⟩ h x y) := by
  rw [chainS, stO_apply, stV_apply _ _ _ _ _ _ _ _ (rowsA_blk32 X1 _ (lowA h t X1 a1 h1)) (rowsA_blk32 X2 _ (lowA h t X2 a2 h2))
      (rowsA_blk16 X3 _ (lowA h t X3 a3 h3)) (stT_apply XA _ hA)]
  rfl

include h1 h2 h3 hB in
/-- The second sequence's. -/
theorem pieceB (x y : Fin 128) : chainS (rowsB (blk32 X1)) (rowsB (blk32 X2)) (rowsB (blk16 X3)) (stT XB) (ix4 0 0 x y)
    = stateArr a1 a2 a3 a6 (ix4 ⟨2 * t.val + 1, by omega⟩ h x y) := by
  rw [chainS, stO_apply, stV_apply _ _ _ _ _ _ _ _ (rowsB_blk32 X1 _ (lowB h t X1 a1 h1)) (rowsB_blk32 X2 _ (lowB h t X2 a2 h2))
      (rowsB_blk16 X3 _ (lowB h t X3 a3 h3)) (stT_apply XB _ hB)]
  rfl

end

section
variable (a0 : FVec Ideal S4x256x128 .bf16) (a1 a2 : FVec Ideal S4x256x128 .f32) (a3 a4 : FVec Ideal S4x256x128 .bf16) (a5 : FVec Ideal S1x128 .f32)
  (a6 : FVec Ideal S32x4x128x128 .f32)
variable (x0 : Vec Ideal S4x16x128 .bf16) (x1 : Vec Ideal S4x16x128 .f32) (x2 : Vec Ideal S4x16x128 .f32) (x3 : Vec Ideal S4x16x128 .bf16)
  (x4 : Vec Ideal S4x16x128 .bf16) (x5 : Vec Ideal S1x128 .f32) (x6 : Vec Ideal S2x4x128x128 .f32) (t : Fin 16)

theorem ld_head {e : EltTy} (X : Vec Ideal S4x16x128 e) (n : Nat) (inb) (h : Fin 4) (hn : h.val = n) (s : Fin 16) (l : Fin 128) :
    View.ld X (Rect.unit (s := S4x16x128) ![n, 0, 0] S1x16x128.size inb) (ix3 (0 : Fin 1) s l) = X (ix3 h s l) := by
  refine View.ld_unit_apply_of X _ _ _ _ _ fun a => ?_
  match a with
  | ⟨0, _⟩ => exact hn
  | ⟨1, _⟩ => exact (Nat.zero_add _).symm
  | ⟨2, _⟩ => exact (Nat.zero_add _).symm

theorem ld_state {e : EltTy} (X : Vec Ideal S2x4x128x128 e) (k n : Nat) (inb) (b : Fin 2) (hb : b.val = k) (h : Fin 4) (hn : h.val = n) (l y : Fin 128) :
    View.ld X (Rect.unit (s := S2x4x128x128) ![k, n, 0, 0] S1x1x128x128.size inb) (ix4 (0 : Fin 1) (0 : Fin 1) l y) = X (ix4 b h l y) := by
  refine View.ld_unit_apply_of X _ _ _ _ _ fun a => ?_
  match a with
  | ⟨0, _⟩ => exact hb
  | ⟨1, _⟩ => exact hn
  | ⟨2, _⟩ => exact (Nat.zero_add _).symm
  | ⟨3, _⟩ => exact (Nat.zero_add _).symm

theorem ld_weights {e : EltTy} (X : Vec Ideal S1x128 e) (inb) (l : Fin 128) :
    View.ld X (Rect.unit (s := S1x128) ![0, 0] S1x128.size inb) (ix2 (0 : Fin 1) l) = X (ix2 0 l) := by
  refine View.ld_unit_apply_of X _ _ _ _ _ fun a => ?_
  match a with
  | ⟨0, _⟩ => rfl
  | ⟨1, _⟩ => exact (Nat.zero_add _).symm

variable (h0 : ∀ h s l, x0 (ix3 h s l) = a0 (ix3 h ⟨16 * t.val + s.val, by omega⟩ l))
  (h1 : ∀ h s l, x1 (ix3 h s l) = a1 (ix3 h ⟨16 * t.val + s.val, by omega⟩ l))
  (h2 : ∀ h s l, x2 (ix3 h s l) = a2 (ix3 h ⟨16 * t.val + s.val, by omega⟩ l))
  (h3 : ∀ h s l, x3 (ix3 h s l) = a3 (ix3 h ⟨16 * t.val + s.val, by omega⟩ l))
  (h4 : ∀ h s l, x4 (ix3 h s l) = a4 (ix3 h ⟨16 * t.val + s.val, by omega⟩ l))
  (h5 : ∀ l, x5 (ix2 0 l) = a5 (ix2 0 l))
  (h6 : ∀ (b : Fin 2) h l y, x6 (ix4 b h l y) = a6 (ix4 ⟨2 * t.val + b.val, by omega⟩ h l y))

include h0 h1 h2 h3 h4 h5 h6 in
/-- A head's outputs at a grid point, from the blocks. -/
theorem headO (n : Nat) (inb inA inB inG) (h : Fin 4) (hn : h.val = n) (r : Fin 16) (y : Fin 128) :
    outO (chainO (rowsA (blk16 (View.ld x0 (Rect.unit (s := S4x16x128) ![n, 0, 0] S1x16x128.size inb)))) (rowsA (blk32 (View.ld x1 (Rect.unit (s := S4x16x128) ![n, 0, 0] S1x16x128.size inb))))
        (rowsA (blk32 (View.ld x2 (Rect.unit (s := S4x16x128) ![n, 0, 0] S1x16x128.size inb)))) (rowsA (blk16 (View.ld x3 (Rect.unit (s := S4x16x128) ![n, 0, 0] S1x16x128.size inb))))
        (rowsA (blk16 (View.ld x4 (Rect.unit (s := S4x16x128) ![n, 0, 0] S1x16x128.size inb)))) (stT (View.ld x6 (Rect.unit (s := S2x4x128x128) ![0, n, 0, 0] S1x1x128x128.size inA)))
        (View.ld x5 (Rect.unit (s := S1x128) ![0, 0] S1x128.size inG)))
      (chainO (rowsB (blk16 (View.ld x0 (Rect.unit (s := S4x16x128) ![n, 0, 0] S1x16x128.size inb)))) (rowsB (blk32 (View.ld x1 (Rect.unit (s := S4x16x128) ![n, 0, 0] S1x16x128.size inb))))
        (rowsB (blk32 (View.ld x2 (Rect.unit (s := S4x16x128) ![n, 0, 0] S1x16x128.size inb)))) (rowsB (blk16 (View.ld x3 (Rect.unit (s := S4x16x128) ![n, 0, 0] S1x16x128.size inb))))
        (rowsB (blk16 (View.ld x4 (Rect.unit (s := S4x16x128) ![n, 0, 0] S1x16x128.size inb)))) (stT (View.ld x6 (Rect.unit (s := S2x4x128x128) ![1, n, 0, 0] S1x1x128x128.size inB)))
        (View.ld x5 (Rect.unit (s := S1x128) ![0, 0] S1x128.size inG))) (ix3 0 r y)
      = outArr a0 a1 a2 a3 a4 a5 a6 (ix3 h ⟨16 * t.val + r.val, by omega⟩ y) :=
  pieceO a0 a1 a2 a3 a4 a5 a6 _ _ _ _ _ _ _ _ h t
    (fun s l => (ld_head x0 n inb h hn s l).trans (h0 h s l)) (fun s l => (ld_head x1 n inb h hn s l).trans (h1 h s l)) (fun s l => (ld_head x2 n inb h hn s l).trans (h2 h s l))
    (fun s l => (ld_head x3 n inb h hn s l).trans (h3 h s l)) (fun s l => (ld_head x4 n inb h hn s l).trans (h4 h s l)) (fun l => (ld_weights x5 inG l).trans (h5 l))
    (fun l y => (ld_state x6 0 n inA 0 rfl h hn l y).trans (h6 0 h l y)) (fun l y => (ld_state x6 1 n inB 1 rfl h hn l y).trans (h6 1 h l y)) r y

include h1 h2 h3 h6 in
theorem headA (n : Nat) (inb inA) (h : Fin 4) (hn : h.val = n) (x y : Fin 128) :
    chainS (rowsA (blk32 (View.ld x1 (Rect.unit (s := S4x16x128) ![n, 0, 0] S1x16x128.size inb)))) (rowsA (blk32 (View.ld x2 (Rect.unit (s := S4x16x128) ![n, 0, 0] S1x16x128.size inb))))
        (rowsA (blk16 (View.ld x3 (Rect.unit (s := S4x16x128) ![n, 0, 0] S1x16x128.size inb)))) (stT (View.ld x6 (Rect.unit (s := S2x4x128x128) ![0, n, 0, 0] S1x1x128x128.size inA))) (ix4 0 0 x y)
      = stateArr a1 a2 a3 a6 (ix4 ⟨2 * t.val, by omega⟩ h x y) :=
  pieceA a1 a2 a3 a6 _ _ _ _ h t (fun s l => (ld_head x1 n inb h hn s l).trans (h1 h s l)) (fun s l => (ld_head x2 n inb h hn s l).trans (h2 h s l))
    (fun s l => (ld_head x3 n inb h hn s l).trans (h3 h s l)) (fun l y => (ld_state x6 0 n inA 0 rfl h hn l y).trans (h6 0 h l y)) x y

include h1 h2 h3 h6 in
theorem headB (n : Nat) (inb inA) (h : Fin 4) (hn : h.val = n) (x y : Fin 128) :
    chainS (rowsB (blk32 (View.ld x1 (Rect.unit (s := S4x16x128) ![n, 0, 0] S1x16x128.size inb)))) (rowsB (blk32 (View.ld x2 (Rect.unit (s := S4x16x128) ![n, 0, 0] S1x16x128.size inb))))
        (rowsB (blk16 (View.ld x3 (Rect.unit (s := S4x16x128) ![n, 0, 0] S1x16x128.size inb)))) (stT (View.ld x6 (Rect.unit (s := S2x4x128x128) ![1, n, 0, 0] S1x1x128x128.size inA))) (ix4 0 0 x y)
      = stateArr a1 a2 a3 a6 (ix4 ⟨2 * t.val + 1, by omega⟩ h x y) :=
  pieceB a1 a2 a3 a6 _ _ _ _ h t (fun s l => (ld_head x1 n inb h hn s l).trans (h1 h s l)) (fun s l => (ld_head x2 n inb h hn s l).trans (h2 h s l))
    (fun s l => (ld_head x3 n inb h hn s l).trans (h3 h s l)) (fun l y => (ld_state x6 1 n inA 1 rfl h hn l y).trans (h6 1 h l y)) x y

include h0 h1 h2 h3 h4 h5 h6 in
theorem block_out (h : Fin 4) (r : Fin 16) (y : Fin 128) :
    out0_7 (F := Ideal) x0 x1 x2 x3 x4 x5 x6 (ix3 h r y) = outArr a0 a1 a2 a3 a4 a5 a6 (ix3 h ⟨16 * t.val + r.val, by omega⟩ y) := by
  rw [out7_eq]
  canon_tiles x hh
  · obtain ⟨p, q, z, rfl⟩ : ∃ (p : Fin 1) (q : Fin 16) (z : Fin 128), x = ix3 p q z := ⟨x 0, x 1, x 2, eq_ix3 x⟩
    obtain rfl : p = 0 := Subsingleton.elim _ _
    obtain rfl : h = 3 := Fin.ext (by first | exact hh0 | (have e : h.val = 0 + 0 := hh0; exact e))
    obtain rfl : r = q := Fin.ext hh1
    obtain rfl : y = z := Fin.ext hh2
    exact headO a0 a1 a2 a3 a4 a5 a6 x0 x1 x2 x3 x4 x5 x6 t h0 h1 h2 h3 h4 h5 h6 3 _ _ _ _ 3 rfl _ _
  · obtain ⟨p, q, z, rfl⟩ : ∃ (p : Fin 1) (q : Fin 16) (z : Fin 128), x = ix3 p q z := ⟨x 0, x 1, x 2, eq_ix3 x⟩
    obtain rfl : p = 0 := Subsingleton.elim _ _
    obtain rfl : h = 2 := Fin.ext (by first | exact hh0 | (have e : h.val = 0 + 0 := hh0; exact e))
    obtain rfl : r = q := Fin.ext hh1
    obtain rfl : y = z := Fin.ext hh2
    exact headO a0 a1 a2 a3 a4 a5 a6 x0 x1 x2 x3 x4 x5 x6 t h0 h1 h2 h3 h4 h5 h6 2 _ _ _ _ 2 rfl _ _
  · obtain ⟨p, q, z, rfl⟩ : ∃ (p : Fin 1) (q : Fin 16) (z : Fin 128), x = ix3 p q z := ⟨x 0, x 1, x 2, eq_ix3 x⟩
    obtain rfl : p = 0 := Subsingleton.elim _ _
    obtain rfl : h = 1 := Fin.ext (by first | exact hh0 | (have e : h.val = 0 + 0 := hh0; exact e))
    obtain rfl : r = q := Fin.ext hh1
    obtain rfl : y = z := Fin.ext hh2
    exact headO a0 a1 a2 a3 a4 a5 a6 x0 x1 x2 x3 x4 x5 x6 t h0 h1 h2 h3 h4 h5 h6 1 _ _ _ _ 1 rfl _ _
  · obtain ⟨p, q, z, rfl⟩ : ∃ (p : Fin 1) (q : Fin 16) (z : Fin 128), x = ix3 p q z := ⟨x 0, x 1, x 2, eq_ix3 x⟩
    obtain rfl : p = 0 := Subsingleton.elim _ _
    obtain rfl : h = 0 := Fin.ext (by first | exact hh0 | (have e : h.val = 0 + 0 := hh0; exact e))
    obtain rfl : r = q := Fin.ext hh1
    obtain rfl : y = z := Fin.ext hh2
    exact headO a0 a1 a2 a3 a4 a5 a6 x0 x1 x2 x3 x4 x5 x6 t h0 h1 h2 h3 h4 h5 h6 0 _ _ _ _ 0 rfl _ _

include h1 h2 h3 h6 in
theorem block_state (b : Fin 2) (h : Fin 4) (l y : Fin 128) :
    out0_8 (F := Ideal) x0 x1 x2 x3 x4 x5 x6 (ix4 b h l y) = stateArr a1 a2 a3 a6 (ix4 ⟨2 * t.val + b.val, by omega⟩ h l y) := by
  rw [out8_eq]
  canon_tiles x hh
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 1 := Fin.ext hh0
    obtain rfl : h = 3 := Fin.ext hh1
    obtain rfl : l = u := Fin.ext hh2
    obtain rfl : y = z := Fin.ext hh3
    exact headB a1 a2 a3 a6 x1 x2 x3 x6 t h1 h2 h3 h6 3 _ _ 3 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 0 := Fin.ext hh0
    obtain rfl : h = 3 := Fin.ext hh1
    obtain rfl : l = u := Fin.ext hh2
    obtain rfl : y = z := Fin.ext hh3
    exact headA a1 a2 a3 a6 x1 x2 x3 x6 t h1 h2 h3 h6 3 _ _ 3 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 1 := Fin.ext hh0
    obtain rfl : h = 2 := Fin.ext hh1
    obtain rfl : l = u := Fin.ext hh2
    obtain rfl : y = z := Fin.ext hh3
    exact headB a1 a2 a3 a6 x1 x2 x3 x6 t h1 h2 h3 h6 2 _ _ 2 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 0 := Fin.ext hh0
    obtain rfl : h = 2 := Fin.ext hh1
    obtain rfl : l = u := Fin.ext hh2
    obtain rfl : y = z := Fin.ext hh3
    exact headA a1 a2 a3 a6 x1 x2 x3 x6 t h1 h2 h3 h6 2 _ _ 2 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 1 := Fin.ext hh0
    obtain rfl : h = 1 := Fin.ext hh1
    obtain rfl : l = u := Fin.ext hh2
    obtain rfl : y = z := Fin.ext hh3
    exact headB a1 a2 a3 a6 x1 x2 x3 x6 t h1 h2 h3 h6 1 _ _ 1 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 0 := Fin.ext hh0
    obtain rfl : h = 1 := Fin.ext hh1
    obtain rfl : l = u := Fin.ext hh2
    obtain rfl : y = z := Fin.ext hh3
    exact headA a1 a2 a3 a6 x1 x2 x3 x6 t h1 h2 h3 h6 1 _ _ 1 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 1 := Fin.ext hh0
    obtain rfl : h = 0 := Fin.ext hh1
    obtain rfl : l = u := Fin.ext hh2
    obtain rfl : y = z := Fin.ext hh3
    exact headB a1 a2 a3 a6 x1 x2 x3 x6 t h1 h2 h3 h6 0 _ _ 0 rfl _ _
  · obtain ⟨p, p', u, z, rfl⟩ : ∃ (p : Fin 1) (p' : Fin 1) (u : Fin 128) (z : Fin 128), x = ix4 p p' u z := ⟨x 0, x 1, x 2, x 3, eq_ix4 x⟩
    obtain rfl : p = 0 := Subsingleton.elim _ _
    obtain rfl : p' = 0 := Subsingleton.elim _ _
    obtain rfl : b = 0 := Fin.ext hh0
    obtain rfl : h = 0 := Fin.ext hh1
    obtain rfl : l = u := Fin.ext hh2
    obtain rfl : y = z := Fin.ext hh3
    exact headA a1 a2 a3 a6 x1 x2 x3 x6 t h1 h2 h3 h6 0 _ _ 0 rfl _ _

end

section
variable (m : (ℓ : Loc nD τ sig) → Buf (Elt Ideal) ℓ) (c : Dev nD)

theorem idx_rows : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, 0] ∧ win0_6.index t = ![t.val, 0, 0, 0] ∧ win0_7.index t = ![0, t.val, 0] ∧ win0_8.index t = ![t.val, 0, 0, 0] := by
  decide +kernel

theorem read0 (t : Fin cfg0.N) (h : Fin 4) (s : Fin 16) (l : Fin 128) :
    iblk m c 0 t (ix3 h s l) = m ((c.tc : Thread nD τ).loc main_arg0) (ix3 h ⟨16 * t.val + s.val, by have := t.isLt; change t.val < 16 at this; omega⟩ l) := by
  blk_ext [iblk, idx_rows t]

theorem read1 (t : Fin cfg0.N) (h : Fin 4) (s : Fin 16) (l : Fin 128) :
    iblk m c 1 t (ix3 h s l) = m ((c.tc : Thread nD τ).loc main_arg1) (ix3 h ⟨16 * t.val + s.val, by have := t.isLt; change t.val < 16 at this; omega⟩ l) := by
  blk_ext [iblk, idx_rows t]

theorem read2 (t : Fin cfg0.N) (h : Fin 4) (s : Fin 16) (l : Fin 128) :
    iblk m c 2 t (ix3 h s l) = m ((c.tc : Thread nD τ).loc main_arg2) (ix3 h ⟨16 * t.val + s.val, by have := t.isLt; change t.val < 16 at this; omega⟩ l) := by
  blk_ext [iblk, idx_rows t]

theorem read3 (t : Fin cfg0.N) (h : Fin 4) (s : Fin 16) (l : Fin 128) :
    iblk m c 3 t (ix3 h s l) = m ((c.tc : Thread nD τ).loc main_arg3) (ix3 h ⟨16 * t.val + s.val, by have := t.isLt; change t.val < 16 at this; omega⟩ l) := by
  blk_ext [iblk, idx_rows t]

theorem read4 (t : Fin cfg0.N) (h : Fin 4) (s : Fin 16) (l : Fin 128) :
    iblk m c 4 t (ix3 h s l) = m ((c.tc : Thread nD τ).loc main_arg4) (ix3 h ⟨16 * t.val + s.val, by have := t.isLt; change t.val < 16 at this; omega⟩ l) := by
  blk_ext [iblk, idx_rows t]

theorem read5 (t : Fin cfg0.N) (l : Fin 128) : iblk m c 5 t (ix2 0 l) = m ((c.tc : Thread nD τ).loc main_arg5) (ix2 0 l) := by
  blk_ext [iblk, idx_rows t]

theorem read6 (t : Fin cfg0.N) (b : Fin 2) (h : Fin 4) (l y : Fin 128) :
    iblk m c 6 t (ix4 b h l y) = m ((c.tc : Thread nD τ).loc main_arg6) (ix4 ⟨2 * t.val + b.val, by have := t.isLt; change t.val < 16 at this; omega⟩ h l y) := by
  blk_ext [iblk, idx_rows t]

theorem out_arr : (dats m 0 c).arrAt 7 cfg0.N = outArr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  obtain ⟨h, r, z, rfl⟩ : ∃ (h : Fin 4) (r : Fin 16) (z : Fin 128), y = ix3 h r z := ⟨y 0, y 1, y 2, eq_ix3 y⟩
  refine (block_out _ _ _ _ _ _ _ _ _ _ _ _ _ _ ⟨t.val, t.isLt⟩ (read0 m c t) (read1 m c t) (read2 m c t) (read3 m c t) (read4 m c t) (read5 m c t) (read6 m c t) h r z).trans ?_
  refine congrArg _ ?_
  blk_ext [idx_rows t]

theorem state_arr : (dats m 0 c).arrAt 8 cfg0.N = stateArr (m ((c.tc : Thread nD τ).loc main_arg1)) (m ((c.tc : Thread nD τ).loc main_arg2))
    (m ((c.tc : Thread nD τ).loc main_arg3)) (m ((c.tc : Thread nD τ).loc main_arg6)) := by
  refine (dats m 0 c).arrAt_eq_of_covers 8 _ (by decide +kernel) fun t hf y => ?_
  blk_simp
  rw [after0_8]
  obtain ⟨b, h, l, z, rfl⟩ : ∃ (b : Fin 2) (h : Fin 4) (l : Fin 128) (z : Fin 128), y = ix4 b h l z := ⟨y 0, y 1, y 2, y 3, eq_ix4 y⟩
  refine (block_state _ _ _ _ _ _ _ _ _ _ _ ⟨t.val, t.isLt⟩ (read1 m c t) (read2 m c t) (read3 m c t) (read6 m c t) b h l z).trans ?_
  refine congrArg _ ?_
  blk_ext [idx_rows t]

end

end Cert.KernelIdeal.Hgrn

end
-- ==== Proof.Ref.lean ====
module

public import proofs.«01_k».proof.Proof.Gen.ReferenceIdeal.Run
public import proofs.«01_k».proof.Proof.Forms
public import Idealize.ShloMosaic.Lib.Pointwise
public import Idealize.ShloMosaic.Lib.Tactic.CleanTypes

@[expose] public section

set_option maxRecDepth 16384

noncomputable section

namespace Cert.ReferenceIdeal.Hgrn

open Idealize.ShloMosaic Idealize.SL.Sem Cert.ReferenceIdeal Cert.ReferenceIdeal.Gen Cert.ReferenceIdeal.Value Cert.Forms

/-! # The reference at an index -/

theorem window_val : ∀ n : Fin 8, ((⟨4, ![1, 1, 8, 1]⟩ : Shape).rowMajor.symm n 0).val = 0 ∧ ((⟨4, ![1, 1, 8, 1]⟩ : Shape).rowMajor.symm n 1).val = 0
    ∧ ((⟨4, ![1, 1, 8, 1]⟩ : Shape).rowMajor.symm n 2).val = n.val ∧ ((⟨4, ![1, 1, 8, 1]⟩ : Shape).rowMajor.symm n 3).val = 0 := by decide +kernel

/-- The running sum over a sequence's eight rows. -/
theorem cumsum_apply (x : FVec Ideal S32x4x8x128 .f32) (init : FVec Ideal S_ .f32) (hi : ∀ i, init i = 0)
    (b : Fin 32) (h : Fin 4) (t : Fin 8) (l : Fin 128) :
    Host.reduceWindowAdd ![1, 1, 8, 1] ![1, 1, 1, 1] ![0, 0, 7, 0] ![0, 0, 0, 0] x init
      reduceWindows_S32x4x8x128_S32x4x8x128_w1s1p0_0_w1s1p0_0_w8s1p7_0_w1s1p0_0 h_S_ (ix4 b h t l)
      = ∑ s : Fin 8, if s ≤ t then x (ix4 b h s l) else 0 := by
  unfold Host.reduceWindowAdd
  show Ideal.hostReduceWindowAdd _ _ _ _ _ x _ (ix4 b h t l) = _
  unfold Ideal.hostReduceWindowAdd Host.reduceWindow
  rw [hi]
  have key : ∀ (n : Fin 8) (p : Fin 4 → Nat) (p0 : p 0 = b.val) (p1 : p 1 = h.val) (p2 : p 2 = t.val + n.val) (p3 : p 3 = l.val)
      (d : Decidable (∀ a : Fin 4, (![0, 0, 7, 0] : Fin 4 → Nat) a ≤ p a ∧ p a - (![0, 0, 7, 0] : Fin 4 → Nat) a < S32x4x8x128.size a)),
      (@dite EReal _ d (fun hin => x (fun a => ⟨p a - (![0, 0, 7, 0] : Fin 4 → Nat) a, (hin a).2⟩)) (fun _ => (0 : EReal)))
      = if hn : 7 ≤ t.val + n.val then x (ix4 b h ⟨t.val + n.val - 7, by omega⟩ l) else 0 := by
    intro n p p0 p1 p2 p3 d
    by_cases hn : 7 ≤ t.val + n.val
    · rw [dif_pos hn]
      have hin : ∀ a : Fin 4, (![0, 0, 7, 0] : Fin 4 → Nat) a ≤ p a ∧ p a - (![0, 0, 7, 0] : Fin 4 → Nat) a < S32x4x8x128.size a := by
        intro a
        match a with
        | ⟨0, _⟩ => show 0 ≤ p 0 ∧ p 0 - 0 < 32; omega
        | ⟨1, _⟩ => show 0 ≤ p 1 ∧ p 1 - 0 < 4; omega
        | ⟨2, _⟩ => show 7 ≤ p 2 ∧ p 2 - 7 < 8; omega
        | ⟨3, _⟩ => show 0 ≤ p 3 ∧ p 3 - 0 < 128; omega
      rw [dif_pos hin]
      congr 1
      funext a
      apply Fin.ext
      match a with
      | ⟨0, _⟩ => show p 0 - 0 = b.val; omega
      | ⟨1, _⟩ => show p 1 - 0 = h.val; omega
      | ⟨2, _⟩ => show p 2 - 7 = t.val + n.val - 7; omega
      | ⟨3, _⟩ => show p 3 - 0 = l.val; omega
    · rw [dif_neg hn, dif_neg]
      intro hin
      have := (hin 2).1
      have h7 : 7 ≤ p 2 := this
      omega
  have fold : ∀ (f : Fin 8 → EReal), (List.finRange 8).foldl (fun r n => r + f n) 0 = ∑ n : Fin 8, f n := by
    intro f
    simp [List.finRange, List.ofFn, Fin.foldr, Fin.foldr.loop, Fin.sum_univ_succ, add_assoc]
  refine (fold (fun n => _)).trans ?_
  refine (Finset.sum_congr rfl (g := fun n : Fin 8 => if hn : 7 ≤ t.val + n.val then x (ix4 b h ⟨t.val + n.val - 7, by omega⟩ l) else 0) fun n _ => ?_).trans ?_
  · obtain ⟨e0, e1, e2, e3⟩ := window_val n
    refine key n _ ?_ ?_ ?_ ?_ _
    · show b.val * 1 + _ = _; rw [Nat.mul_one]; exact congrArg (b.val + ·) e0
    · show h.val * 1 + _ = _; rw [Nat.mul_one]; exact congrArg (h.val + ·) e1
    · show t.val * 1 + _ = _; rw [Nat.mul_one]; exact congrArg (t.val + ·) e2
    · show l.val * 1 + _ = _; rw [Nat.mul_one]; exact congrArg (l.val + ·) e3
  fin_cases t <;> simp [Fin.sum_univ_succ]

theorem two : Ideal.ofBits .f32 0x40000000#32 = ((2 : ℝ) : EReal) := by
  simp [Ideal.ofBits, Ideal.ieee, -EReal.coe_mul]; norm_num

theorem bot : Ideal.ofBits .f32 0xFF800000#32 = (⊥ : EReal) := by
  simp [Ideal.ofBits, Ideal.ieee]

/-- The exponential of `x` times the logarithm of two is two to the power `x`. -/
theorem exp_two (x : EReal) : Ideal.exp (x * Ideal.log (Ideal.ofBits .f32 0x40000000#32)) = Ideal.exp2 x := by
  have hl : Ideal.log (Ideal.ofBits .f32 0x40000000#32) = ((Real.log 2 : ℝ) : EReal) := by
    rw [two]
    show (if (2 : ℝ) ≤ 0 then (⊥ : EReal) else ((Real.log 2 : ℝ) : EReal)) = _
    rw [if_neg (by norm_num)]
  have hp : 0 < Real.log 2 := Real.log_pos (by norm_num)
  rw [hl]
  induction x with
  | bot => rw [EReal.bot_mul_coe_of_pos hp]; rfl
  | top => rw [EReal.top_mul_coe_of_pos hp]; rfl
  | coe r =>
    rw [← EReal.coe_mul]
    show ((Real.exp (r * Real.log 2) : ℝ) : EReal) = ((Real.rpow 2 r : ℝ) : EReal)
    congr 1
    show _ = (2 : ℝ) ^ r
    rw [Real.rpow_def_of_pos (by norm_num), mul_comm]

theorem exp2_bot : Ideal.exp2 (⊥ : EReal) = 0 := rfl

theorem causal_eq : ∀ t s : Fin 8, (Scalar.select (IntOp.cmpi .sge (IntOp.addi (BitVec.ofNat 32 t.val) 0#32) (BitVec.ofNat 32 s.val)) 1#1 0#1 : BitVec 1)
    = if s ≤ t then 1#1 else 0#1 := by decide +kernel

theorem sel (p : Prop) [Decidable p] (x y : EReal) : Scalar.select (if p then 1#1 else 0#1 : BitVec 1) x y = if p then x else y := by
  by_cases hp : p <;> simp [hp, Scalar.select]

/-- The masked power: the causal differences, zero elsewhere. -/
theorem masked (t s : Fin 8) (x : EReal) :
    Ideal.exp2 (Scalar.select (Scalar.select (IntOp.cmpi .sge (IntOp.addi (BitVec.ofNat 32 t.val) 0#32) (BitVec.ofNat 32 s.val)) 1#1 0#1 : BitVec 1) x
      (Ideal.ofBits .f32 0xFF800000#32)) = if s ≤ t then Ideal.exp2 x else 0 := by
  rw [causal_eq, sel, bot]
  split_ifs
  · rfl
  · exact exp2_bot

/-- The reference's log decays by sequence and head. -/
abbrev decays (a : FVec Ideal S4x256x128 .f32) : FVec Ideal S32x4x8x128 .f32 :=
  transpose S32x4x8x128 [1, 0, 2, 3] (shapeCast S4x32x8x128 a shapeCasts_S4x256x128_S4x32x8x128) transposes_S4x32x8x128_S32x4x8x128_1_0_2_3

theorem decays_apply (a : FVec Ideal S4x256x128 .f32) (b : Fin 32) (h : Fin 4) (t : Fin 8) (l : Fin 128) : decays a (ix4 b h t l) = rows a h b t l := by
  pointwise [decays, rows]

theorem cum_apply (a : FVec Ideal S4x256x128 .f32) (b : Fin 32) (h : Fin 4) (t : Fin 8) (l : Fin 128) :
    Host.reduceWindowAdd ![1, 1, 8, 1] ![1, 1, 1, 1] ![0, 0, 7, 0] ![0, 0, 0, 0] (decays a) (broadcastInDim S_ ![] bcast_S_S_ (constant S_ .f32 0x00000000#32))
      reduceWindows_S32x4x8x128_S32x4x8x128_w1s1p0_0_w1s1p0_0_w8s1p7_0_w1s1p0_0 h_S_ (ix4 b h t l) = Cum (rows a h b) t l := by
  rw [cumsum_apply]
  · simp only [decays_apply, Cum]
  · intro i
    show Ideal.ofBits .f32 0x00000000#32 = 0
    simp

/-- The reference's running sums. -/
abbrev cums (a : FVec Ideal S4x256x128 .f32) : FVec Ideal S32x4x8x128 .f32 :=
  Host.reduceWindowAdd ![1, 1, 8, 1] ![1, 1, 1, 1] ![0, 0, 7, 0] ![0, 0, 0, 0] (decays a) (broadcastInDim S_ ![] bcast_S_S_ (constant S_ .f32 0x00000000#32))
    reduceWindows_S32x4x8x128_S32x4x8x128_w1s1p0_0_w1s1p0_0_w8s1p7_0_w1s1p0_0 h_S_

/-- The reference's outputs before the norm. -/
def raw (q k g v : FVec Ideal S4x256x128 .f32) (s0 : FVec Ideal S32x4x128x128 .f32) : FVec Ideal S32x4x8x128 .f32 :=
  addf (Host.dotGeneral dot_S32x4x8x128_S32x4x128x128_S32x4x8x128_3_2_2_3_01_01 none
      (mulf (decays q) (Host.exp (mulf (cums g) (broadcastInDim S32x4x8x128 ![] bcast_S_S32x4x8x128 (Host.log (constant S_ .f32 0x40000000#32)))))) s0)
    (Host.dotGeneral dot_S32x4x8x8_S32x4x8x128_S32x4x8x128_3_2_2_3_01_01 none
      (Host.reduceAdd (mulf (mulf
          (broadcastInDim S32x4x8x8x128 ![0, 1, 2, 3, 4] bcast_S32x4x8x1x128_S32x4x8x8x128_0_1_2_3_4 (broadcastInDim S32x4x8x1x128 ![0, 1, 2, 4] bcast_S32x4x8x128_S32x4x8x1x128_0_1_2_4 (decays q)))
          (broadcastInDim S32x4x8x8x128 ![0, 1, 2, 3, 4] bcast_S32x4x1x8x128_S32x4x8x8x128_0_1_2_3_4 (broadcastInDim S32x4x1x8x128 ![0, 1, 3, 4] bcast_S32x4x8x128_S32x4x1x8x128_0_1_3_4 (decays k))))
        (Host.exp (mulf (select
            (broadcastInDim S32x4x8x8x128 ![2, 3, 4] bcast_S8x8x1_S32x4x8x8x128_2_3_4 (broadcastInDim S8x8x1 ![0, 1] bcast_S8x8_S8x8x1_0_1
              (select (cmpi .sge (addi (iotaInDim S8x8 32 0) (broadcastInDim S8x8 ![] bcast_S_S8x8 (constantI S_ 32 0#32))) (iotaInDim S8x8 32 1))
                (broadcastInDim S8x8 ![] bcast_S_S8x8 (constantI S_ 1 1#1)) (broadcastInDim S8x8 ![] bcast_S_S8x8 (constantI S_ 1 0#1)))))
            (subf
              (broadcastInDim S32x4x8x8x128 ![0, 1, 2, 3, 4] bcast_S32x4x8x1x128_S32x4x8x8x128_0_1_2_3_4 (broadcastInDim S32x4x8x1x128 ![0, 1, 2, 4] bcast_S32x4x8x128_S32x4x8x1x128_0_1_2_4 (cums g)))
              (broadcastInDim S32x4x8x8x128 ![0, 1, 2, 3, 4] bcast_S32x4x1x8x128_S32x4x8x8x128_0_1_2_3_4 (broadcastInDim S32x4x1x8x128 ![0, 1, 3, 4] bcast_S32x4x8x128_S32x4x1x8x128_0_1_3_4 (cums g))))
            (broadcastInDim S32x4x8x8x128 ![] bcast_S_S32x4x8x8x128 (id (constant S_ .f32 0xFF800000#32))))
          (broadcastInDim S32x4x8x8x128 ![] bcast_S_S32x4x8x8x128 (Host.log (constant S_ .f32 0x40000000#32))))))
        (constant S_ .f32 0x00000000#32) reducesTo_S32x4x8x8x128_S32x4x8x8_d4 h_S_)
      (decays v))

theorem raw_apply (q k g v s0) (b : Fin 32) (h : Fin 4) (t : Fin 8) (l : Fin 128) :
    raw q k g v s0 (ix4 b h t l) = Out (rows q h b) (rows k h b) (rows g h b) (rows v h b) (fun x y => s0 (ix4 b h x y)) t l := by
  unfold raw
  pointwise
  have hb : id (constant S_ .f32 0xFF800000#32 : FVec Ideal S_ .f32) ix0 = Ideal.ofBits .f32 0xFF800000#32 := rfl
  simp only [cum_apply, exp_two, hb, masked, Out, rows, mul_ite, mul_zero]

/-- The reference's outputs. -/
def outs (q : FVec Ideal S4x256x128 .bf16) (k g : FVec Ideal S4x256x128 .f32) (v gate : FVec Ideal S4x256x128 .bf16) (ng : FVec Ideal S1x128 .f32)
    (s0 : FVec Ideal S32x4x128x128 .f32) : FVec Ideal S4x256x128 .bf16 :=
  truncf .bf16 (shapeCast S4x256x128 (transpose S4x32x8x128 [1, 0, 2, 3] (mulf (mulf (mulf (raw (extf .f32 q bitsLt_bf16_f32) k g (extf .f32 v bitsLt_bf16_f32) s0)
      (broadcastInDim S32x4x8x128 ![0, 1, 2, 3] bcast_S32x4x8x1_S32x4x8x128_0_1_2_3 (Host.rsqrt (addf
        (Host.divf (broadcastInDim S32x4x8x1 ![0, 1, 2] bcast_S32x4x8_S32x4x8x1_0_1_2 (Host.reduceAdd
            (mulf (raw (extf .f32 q bitsLt_bf16_f32) k g (extf .f32 v bitsLt_bf16_f32) s0) (raw (extf .f32 q bitsLt_bf16_f32) k g (extf .f32 v bitsLt_bf16_f32) s0))
            (constant S_ .f32 0x00000000#32) reducesTo_S32x4x8x128_S32x4x8_d3 h_S_))
          (broadcastInDim S32x4x8x1 ![] bcast_S_S32x4x8x1 (constant S_ .f32 0x43000000#32)))
        (broadcastInDim S32x4x8x1 ![] bcast_S_S32x4x8x1 (constant S_ .f32 0x3727C5AC#32))))))
      (broadcastInDim S32x4x8x128 ![0, 1, 2, 3] bcast_S1x1x1x128_S32x4x8x128_0_1_2_3 (broadcastInDim S1x1x1x128 ![3] bcast_S128_S1x1x1x128_3
        (shapeCast S128 ng shapeCasts_S1x128_S128))))
      (decays (extf .f32 gate bitsLt_bf16_f32))) transposes_S32x4x8x128_S4x32x8x128_1_0_2_3) shapeCasts_S4x32x8x128_S4x256x128) bitsLt_bf16_f32

theorem outs_apply (q k g v gate ng s0) (h : Fin 4) (b : Fin 32) (t : Fin 8) (l : Fin 128) :
    outs q k g v gate ng s0 (ix3 h ⟨b.val * 8 + t.val, by omega⟩ l)
      = Res (rows q h b) (rows k h b) (rows g h b) (rows v h b) (rows gate h b) (fun x y => s0 (ix4 b h x y)) (fun y => ng (ix2 0 y)) t l := by
  unfold outs
  pointwise
  simp only [raw_apply, Res]
  rfl

/-- The reference's new states. -/
def state (k g : FVec Ideal S4x256x128 .f32) (v : FVec Ideal S4x256x128 .bf16) (s0 : FVec Ideal S32x4x128x128 .f32) : FVec Ideal S32x4x128x128 .f32 :=
  addf (mulf (broadcastInDim S32x4x128x128 ![0, 1, 2, 3] bcast_S32x4x128x1_S32x4x128x128_0_1_2_3 (broadcastInDim S32x4x128x1 ![0, 1, 2] bcast_S32x4x128_S32x4x128x1_0_1_2
      (Host.exp (mulf (shapeCast S32x4x128 (extractStridedSlice S32x4x1x128 ![0, 0, 7, 0] (cums g) slices_S32x4x8x128_S32x4x1x128_0_0_7_0) shapeCasts_S32x4x1x128_S32x4x128)
        (broadcastInDim S32x4x128 ![] bcast_S_S32x4x128 (Host.log (constant S_ .f32 0x40000000#32))))))) s0)
    (Host.dotGeneral dot_S32x4x8x128_S32x4x8x128_S32x4x128x128_2_2_3_3_01_01 none
      (mulf (decays k) (Host.exp (mulf (subf (broadcastInDim S32x4x8x128 ![0, 1, 2, 3] bcast_S32x4x1x128_S32x4x8x128_0_1_2_3
          (extractStridedSlice S32x4x1x128 ![0, 0, 7, 0] (cums g) slices_S32x4x8x128_S32x4x1x128_0_0_7_0)) (cums g))
        (broadcastInDim S32x4x8x128 ![] bcast_S_S32x4x8x128 (Host.log (constant S_ .f32 0x40000000#32))))))
      (decays (extf .f32 v bitsLt_bf16_f32)))

/-- The reference's new states, read off. -/
theorem state_apply (k g v s0) (b : Fin 32) (h : Fin 4) (x y : Fin 128) :
    state k g v s0 (ix4 b h x y) = New (rows k h b) (rows g h b) (rows v h b) (fun x y => s0 (ix4 b h x y)) x y := by
  unfold state
  pointwise
  simp only [cum_apply, exp_two, New, rows]
  rw [mul_comm]
  congr 1
  exact Finset.sum_congr rfl fun _ _ => mul_comm _ _

variable (m : (ℓ : Loc nD τ sig) → Buf (Elt Ideal) ℓ) (c : Dev nD)

/-- The reference's outputs. -/
theorem out0_apply (h : Fin 4) (b : Fin 32) (t : Fin 8) (l : Fin 128) :
    res_out0 m c (ix3 h ⟨b.val * 8 + t.val, by omega⟩ l)
      = Res (rows (m ((c.tc : Thread nD τ).loc main_arg0)) h b) (rows (m ((c.tc : Thread nD τ).loc main_arg1)) h b) (rows (m ((c.tc : Thread nD τ).loc main_arg2)) h b)
          (rows (m ((c.tc : Thread nD τ).loc main_arg3)) h b) (rows (m ((c.tc : Thread nD τ).loc main_arg4)) h b)
          (fun x y => m ((c.tc : Thread nD τ).loc main_arg6) (ix4 b h x y)) (fun y => m ((c.tc : Thread nD τ).loc main_arg5) (ix2 0 y)) t l := by
  have e : res_out0 m c = outs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl
  rw [e, outs_apply]

end Cert.ReferenceIdeal.Hgrn

end
-- ==== Proof.Tie.lean ====
module

public import proofs.«01_k».proof.Defs
public import proofs.«01_k».proof.Proof.Arr
public import proofs.«01_k».proof.Proof.Ref
public import Idealize.ShloMosaic.Lib.Quiescent
public import Idealize.ShloMosaic.Lib.Claim

@[expose] public section

noncomputable section

namespace Cert.HgrnTie

open Idealize.ShloMosaic Idealize.SL.Sem Cert.Forms Cert.KernelIdeal.Hgrn

/-! # The kernel's arrays are the reference's -/

theorem outs_eq (a0 a1 a2 a3 a4 a5 a6) : Cert.ReferenceIdeal.Hgrn.outs a0 a1 a2 a3 a4 a5 a6 = outArr a0 a1 a2 a3 a4 a5 a6 := by
  funext i
  obtain ⟨h, r, y, rfl⟩ : ∃ (h : Fin 4) (r : Fin 256) (y : Fin 128), i = ix3 h r y := ⟨i 0, i 1, i 2, eq_ix3 i⟩
  obtain ⟨b, t, rfl⟩ : ∃ (b : Fin 32) (t : Fin 8), r = ⟨b.val * 8 + t.val, by omega⟩ :=
    ⟨⟨r.val / 8, by omega⟩, ⟨r.val % 8, by omega⟩, Fin.ext (by show r.val = r.val / 8 * 8 + r.val % 8; omega)⟩
  rw [Cert.ReferenceIdeal.Hgrn.outs_apply, outArr_apply a0 a1 a2 a3 a4 a5 a6 h b t y _ rfl]

theorem state_eq (a1 a2 a3 a6) : Cert.ReferenceIdeal.Hgrn.state a1 a2 a3 a6 = stateArr a1 a2 a3 a6 := by
  funext i
  obtain ⟨b, h, x, y, rfl⟩ : ∃ (b : Fin 32) (h : Fin 4) (x : Fin 128) (y : Fin 128), i = ix4 b h x y := ⟨i 0, i 1, i 2, i 3, eq_ix4 i⟩
  rw [Cert.ReferenceIdeal.Hgrn.state_apply]
  rfl

theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)

theorem algebraic : Cert.algebraic_KernelIdeal_ReferenceIdeal (hKernelIdeal := Cert.KernelIdeal.Gen.facts) (hReferenceIdeal := Cert.ReferenceIdeal.Gen.facts) := by
  intro m ρ m' ρ' _ hag
  refine ⟨fun c => outArr (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6)),
    fun c => stateArr (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg6)),
    (θ_run _ _ _).mono (fun r h c => ⟨(h c).1.trans (out_arr m c), (h c).2.1.trans (state_arr m c), (h c).2.2⟩) (Cert.KernelIdeal.Value.run_blocks m ρ),
    (θ_run _ _ _).mono (fun r h c => ⟨(h c).1.trans ?_, (h c).2.1.trans ?_, (h c).2.2⟩) (Cert.ReferenceIdeal.Value.run m' ρ')⟩
  · obtain ⟨e0, e1, e2, e3, e4, e5, e6⟩ := hag c
    refine (outs_eq _ _ _ _ _ _ _).trans ?_
    rw [e0, e1, e2, e3, e4, e5, e6]
  · obtain ⟨e0, e1, e2, e3, e4, e5, e6⟩ := hag c
    refine (state_eq _ _ _ _).trans ?_
    rw [e1, e2, e3, e6]

end Cert.HgrnTie

end
-- ==== Proof.ProjFrame.lean ====
/- The run of the projection's program: @main up to its one call, the arrays' contents there, each window's block at a grid point, what
   each output's buffer holds after the body, the body's triple, the run, and the frame claim at any float values. It follows the text
   that is generated for a kernel of this shape; the limits of two theorems are larger, for the call has twenty-eight windows. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Proj

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

abbrev r0_0 : Rect S256x1024 := Rect.unit (s := S256x1024) ![0, 0] S256x1024.size inb_S256x1024_S256x1024_0_0
abbrev r0_1 : Rect S1x512 := Rect.unit (s := S1x512) ![0, 0] S1x512.size inb_S1x512_S1x512_0_0
abbrev r0_2 : Rect S1024x3200 := Rect.unit (s := S1024x3200) ![0, 0] S1024x512.size inb_S1024x3200_S1024x512_0_0
abbrev r0_3 : Rect S1024x3200 := Rect.unit (s := S1024x3200) ![0, 512] S1024x512.size inb_S1024x3200_S1024x512_0_512
abbrev r0_4 : Rect S1024x3200 := Rect.unit (s := S1024x3200) ![0, 1024] S1024x512.size inb_S1024x3200_S1024x512_0_1024
abbrev r0_5 : Rect S1024x3200 := Rect.unit (s := S1024x3200) ![0, 1536] S1024x512.size inb_S1024x3200_S1024x512_0_1536
abbrev r0_6 : Rect S4x256x128 := Rect.unit (s := S4x256x128) ![0, 0, 0] S1x256x128.size inb_S4x256x128_S1x256x128_0_0_0
abbrev r0_7 : Rect S4x256x128 := Rect.unit (s := S4x256x128) ![1, 0, 0] S1x256x128.size inb_S4x256x128_S1x256x128_1_0_0
abbrev r0_8 : Rect S4x256x128 := Rect.unit (s := S4x256x128) ![2, 0, 0] S1x256x128.size inb_S4x256x128_S1x256x128_2_0_0
abbrev r0_9 : Rect S4x256x128 := Rect.unit (s := S4x256x128) ![3, 0, 0] S1x256x128.size inb_S4x256x128_S1x256x128_3_0_0
abbrev r0_10 : Rect S256x128 := Rect.unit (s := S256x128) ![0, 0] S256x128.size inb_S256x128_S256x128_0_0
abbrev r0_11 : Rect S1024x3200 := Rect.unit (s := S1024x3200) ![0, 2048] S1024x512.size inb_S1024x3200_S1024x512_0_2048
abbrev r0_12 : Rect S256x512 := Rect.unit (s := S256x512) ![0, 0] S256x512.size inb_S256x512_S256x512_0_0
abbrev r0_13 : Rect S1024x3200 := Rect.unit (s := S1024x3200) ![0, 2560] S1024x512.size inb_S1024x3200_S1024x512_0_2560
abbrev r0_14 : Rect S1024x3200 := Rect.unit (s := S1024x3200) ![0, 3072] S1024x128.size inb_S1024x3200_S1024x128_0_3072
abbrev r0_15 : Rect S1x128 := Rect.unit (s := S1x128) ![0, 0] S1x128.size inb_S1x128_S1x128_0_0
abbrev r0_16 : Rect S256x64 := Rect.unit (s := S256x64) ![0, 0] S256x64.size inb_S256x64_S256x64_0_0
abbrev r0_17 : Rect S8x256 := Rect.unit (s := S8x256) ![0, 0] S8x256.size inb_S8x256_S8x256_0_0
abbrev r0_18 : Rect S2640x1024 := Rect.unit (s := S2640x1024) ![0, 0] S512x1024.size inb_S2640x1024_S512x1024_0_0
abbrev r0_19 : Rect S512x256 := Rect.unit (s := S512x256) ![0, 0] S64x256.size inb_S512x256_S64x256_0_0
abbrev r0_20 : Rect S512x256 := Rect.unit (s := S512x256) ![64, 0] S64x256.size inb_S512x256_S64x256_64_0
abbrev r0_21 : Rect S512x256 := Rect.unit (s := S512x256) ![128, 0] S64x256.size inb_S512x256_S64x256_128_0
abbrev r0_22 : Rect S512x256 := Rect.unit (s := S512x256) ![192, 0] S64x256.size inb_S512x256_S64x256_192_0
abbrev r0_23 : Rect S512x256 := Rect.unit (s := S512x256) ![256, 0] S64x256.size inb_S512x256_S64x256_256_0
abbrev r0_24 : Rect S512x256 := Rect.unit (s := S512x256) ![320, 0] S64x256.size inb_S512x256_S64x256_320_0
abbrev r0_25 : Rect S512x256 := Rect.unit (s := S512x256) ![384, 0] S64x256.size inb_S512x256_S64x256_384_0
abbrev r0_26 : Rect S512x256 := Rect.unit (s := S512x256) ![448, 0] S64x256.size inb_S512x256_S64x256_448_0
abbrev r0_27 : Rect S2640x1024 := Rect.unit (s := S2640x1024) ![512, 0] S512x1024.size inb_S2640x1024_S512x1024_512_0
abbrev r0_28 : Rect S2x512x128 := Rect.unit (s := S2x512x128) ![0, 0, 0] S1x64x128.size inb_S2x512x128_S1x64x128_0_0_0
abbrev r0_29 : Rect S2x512x128 := Rect.unit (s := S2x512x128) ![1, 0, 0] S1x64x128.size inb_S2x512x128_S1x64x128_1_0_0
abbrev r0_30 : Rect S2x512x128 := Rect.unit (s := S2x512x128) ![0, 64, 0] S1x64x128.size inb_S2x512x128_S1x64x128_0_64_0
abbrev r0_31 : Rect S2x512x128 := Rect.unit (s := S2x512x128) ![1, 64, 0] S1x64x128.size inb_S2x512x128_S1x64x128_1_64_0
abbrev r0_32 : Rect S2x512x128 := Rect.unit (s := S2x512x128) ![0, 128, 0] S1x64x128.size inb_S2x512x128_S1x64x128_0_128_0
abbrev r0_33 : Rect S2x512x128 := Rect.unit (s := S2x512x128) ![1, 128, 0] S1x64x128.size inb_S2x512x128_S1x64x128_1_128_0
abbrev r0_34 : Rect S2x512x128 := Rect.unit (s := S2x512x128) ![0, 192, 0] S1x64x128.size inb_S2x512x128_S1x64x128_0_192_0
abbrev r0_35 : Rect S2x512x128 := Rect.unit (s := S2x512x128) ![1, 192, 0] S1x64x128.size inb_S2x512x128_S1x64x128_1_192_0
abbrev r0_36 : Rect S2x512x128 := Rect.unit (s := S2x512x128) ![0, 256, 0] S1x64x128.size inb_S2x512x128_S1x64x128_0_256_0
abbrev r0_37 : Rect S2x512x128 := Rect.unit (s := S2x512x128) ![1, 256, 0] S1x64x128.size inb_S2x512x128_S1x64x128_1_256_0
abbrev r0_38 : Rect S2x512x128 := Rect.unit (s := S2x512x128) ![0, 320, 0] S1x64x128.size inb_S2x512x128_S1x64x128_0_320_0
abbrev r0_39 : Rect S2x512x128 := Rect.unit (s := S2x512x128) ![1, 320, 0] S1x64x128.size inb_S2x512x128_S1x64x128_1_320_0
abbrev r0_40 : Rect S2x512x128 := Rect.unit (s := S2x512x128) ![0, 384, 0] S1x64x128.size inb_S2x512x128_S1x64x128_0_384_0
abbrev r0_41 : Rect S2x512x128 := Rect.unit (s := S2x512x128) ![1, 384, 0] S1x64x128.size inb_S2x512x128_S1x64x128_1_384_0
abbrev r0_42 : Rect S2x512x128 := Rect.unit (s := S2x512x128) ![0, 448, 0] S1x64x128.size inb_S2x512x128_S1x64x128_0_448_0
abbrev r0_43 : Rect S2x512x128 := Rect.unit (s := S2x512x128) ![1, 448, 0] S1x64x128.size inb_S2x512x128_S1x64x128_1_448_0
abbrev r0_44 : Rect S2640x1024 := Rect.unit (s := S2640x1024) ![1024, 0] S512x1024.size inb_S2640x1024_S512x1024_1024_0
abbrev r0_45 : Rect S512x256 := Rect.unit (s := S512x256) ![0, 0] S512x256.size inb_S512x256_S512x256_0_0
abbrev r0_46 : Rect S2x512x128 := Rect.unit (s := S2x512x128) ![0, 0, 0] S1x512x128.size inb_S2x512x128_S1x512x128_0_0_0
abbrev r0_47 : Rect S2x512x128 := Rect.unit (s := S2x512x128) ![1, 0, 0] S1x512x128.size inb_S2x512x128_S1x512x128_1_0_0
abbrev r0_48 : Rect S2640x1024 := Rect.unit (s := S2640x1024) ![1536, 0] S1024x1024.size inb_S2640x1024_S1024x1024_1536_0
abbrev r0_49 : Rect S2x64x2048 := Rect.unit (s := S2x64x2048) ![0, 0, 0] S1x64x128.size inb_S2x64x2048_S1x64x128_0_0_0
abbrev r0_50 : Rect S2x64x2048 := Rect.unit (s := S2x64x2048) ![1, 0, 0] S1x64x128.size inb_S2x64x2048_S1x64x128_1_0_0
abbrev r0_51 : Rect S2x64x2048 := Rect.unit (s := S2x64x2048) ![0, 0, 128] S1x64x128.size inb_S2x64x2048_S1x64x128_0_0_128
abbrev r0_52 : Rect S2x64x2048 := Rect.unit (s := S2x64x2048) ![1, 0, 128] S1x64x128.size inb_S2x64x2048_S1x64x128_1_0_128
abbrev r0_53 : Rect S2x64x2048 := Rect.unit (s := S2x64x2048) ![0, 0, 256] S1x64x128.size inb_S2x64x2048_S1x64x128_0_0_256
abbrev r0_54 : Rect S2x64x2048 := Rect.unit (s := S2x64x2048) ![1, 0, 256] S1x64x128.size inb_S2x64x2048_S1x64x128_1_0_256
abbrev r0_55 : Rect S2x64x2048 := Rect.unit (s := S2x64x2048) ![0, 0, 384] S1x64x128.size inb_S2x64x2048_S1x64x128_0_0_384
abbrev r0_56 : Rect S2x64x2048 := Rect.unit (s := S2x64x2048) ![1, 0, 384] S1x64x128.size inb_S2x64x2048_S1x64x128_1_0_384
abbrev r0_57 : Rect S2x64x2048 := Rect.unit (s := S2x64x2048) ![0, 0, 512] S1x64x128.size inb_S2x64x2048_S1x64x128_0_0_512
abbrev r0_58 : Rect S2x64x2048 := Rect.unit (s := S2x64x2048) ![1, 0, 512] S1x64x128.size inb_S2x64x2048_S1x64x128_1_0_512
abbrev r0_59 : Rect S2x64x2048 := Rect.unit (s := S2x64x2048) ![0, 0, 640] S1x64x128.size inb_S2x64x2048_S1x64x128_0_0_640
abbrev r0_60 : Rect S2x64x2048 := Rect.unit (s := S2x64x2048) ![1, 0, 640] S1x64x128.size inb_S2x64x2048_S1x64x128_1_0_640
abbrev r0_61 : Rect S2x64x2048 := Rect.unit (s := S2x64x2048) ![0, 0, 768] S1x64x128.size inb_S2x64x2048_S1x64x128_0_0_768
abbrev r0_62 : Rect S2x64x2048 := Rect.unit (s := S2x64x2048) ![1, 0, 768] S1x64x128.size inb_S2x64x2048_S1x64x128_1_0_768
abbrev r0_63 : Rect S2x64x2048 := Rect.unit (s := S2x64x2048) ![0, 0, 896] S1x64x128.size inb_S2x64x2048_S1x64x128_0_0_896
abbrev r0_64 : Rect S2x64x2048 := Rect.unit (s := S2x64x2048) ![1, 0, 896] S1x64x128.size inb_S2x64x2048_S1x64x128_1_0_896
abbrev r0_65 : Rect S2x64x2048 := Rect.unit (s := S2x64x2048) ![0, 0, 1024] S1x64x128.size inb_S2x64x2048_S1x64x128_0_0_1024
abbrev r0_66 : Rect S2x64x2048 := Rect.unit (s := S2x64x2048) ![1, 0, 1024] S1x64x128.size inb_S2x64x2048_S1x64x128_1_0_1024
abbrev r0_67 : Rect S2x64x2048 := Rect.unit (s := S2x64x2048) ![0, 0, 1152] S1x64x128.size inb_S2x64x2048_S1x64x128_0_0_1152
abbrev r0_68 : Rect S2x64x2048 := Rect.unit (s := S2x64x2048) ![1, 0, 1152] S1x64x128.size inb_S2x64x2048_S1x64x128_1_0_1152
abbrev r0_69 : Rect S2x64x2048 := Rect.unit (s := S2x64x2048) ![0, 0, 1280] S1x64x128.size inb_S2x64x2048_S1x64x128_0_0_1280
abbrev r0_70 : Rect S2x64x2048 := Rect.unit (s := S2x64x2048) ![1, 0, 1280] S1x64x128.size inb_S2x64x2048_S1x64x128_1_0_1280
abbrev r0_71 : Rect S2x64x2048 := Rect.unit (s := S2x64x2048) ![0, 0, 1408] S1x64x128.size inb_S2x64x2048_S1x64x128_0_0_1408
abbrev r0_72 : Rect S2x64x2048 := Rect.unit (s := S2x64x2048) ![1, 0, 1408] S1x64x128.size inb_S2x64x2048_S1x64x128_1_0_1408
abbrev r0_73 : Rect S2x64x2048 := Rect.unit (s := S2x64x2048) ![0, 0, 1536] S1x64x128.size inb_S2x64x2048_S1x64x128_0_0_1536
abbrev r0_74 : Rect S2x64x2048 := Rect.unit (s := S2x64x2048) ![1, 0, 1536] S1x64x128.size inb_S2x64x2048_S1x64x128_1_0_1536
abbrev r0_75 : Rect S2x64x2048 := Rect.unit (s := S2x64x2048) ![0, 0, 1664] S1x64x128.size inb_S2x64x2048_S1x64x128_0_0_1664
abbrev r0_76 : Rect S2x64x2048 := Rect.unit (s := S2x64x2048) ![1, 0, 1664] S1x64x128.size inb_S2x64x2048_S1x64x128_1_0_1664
abbrev r0_77 : Rect S2x64x2048 := Rect.unit (s := S2x64x2048) ![0, 0, 1792] S1x64x128.size inb_S2x64x2048_S1x64x128_0_0_1792
abbrev r0_78 : Rect S2x64x2048 := Rect.unit (s := S2x64x2048) ![1, 0, 1792] S1x64x128.size inb_S2x64x2048_S1x64x128_1_0_1792
abbrev r0_79 : Rect S2x64x2048 := Rect.unit (s := S2x64x2048) ![0, 0, 1920] S1x64x128.size inb_S2x64x2048_S1x64x128_0_0_1920
abbrev r0_80 : Rect S2x64x2048 := Rect.unit (s := S2x64x2048) ![1, 0, 1920] S1x64x128.size inb_S2x64x2048_S1x64x128_1_0_1920
abbrev r0_81 : Rect S2640x1024 := Rect.unit (s := S2640x1024) ![2560, 0] S16x1024.size inb_S2640x1024_S16x1024_2560_0
abbrev r0_82 : Rect S16x256 := Rect.unit (s := S16x256) ![0, 0] S16x256.size inb_S16x256_S16x256_0_0
abbrev r0_83 : Rect S2640x1024 := Rect.unit (s := S2640x1024) ![2576, 0] S64x1024.size inb_S2640x1024_S64x1024_2576_0
abbrev r0_84 : Rect S64x1 := Rect.unit (s := S64x1) ![0, 0] S64x1.size inb_S64x1_S64x1_0_0
abbrev r0_85 : Rect S2x64x128 := Rect.unit (s := S2x64x128) ![0, 0, 0] S1x64x128.size inb_S2x64x128_S1x64x128_0_0_0
abbrev r0_86 : Rect S2x64x128 := Rect.unit (s := S2x64x128) ![1, 0, 0] S1x64x128.size inb_S2x64x128_S1x64x128_1_0_0

/-! ## What the body leaves in each output window's buffer -/

/-! ### Values of the body that the stores' payloads, spelt out, would write more than once

    Each is a vector the body binds (often a part call's result), stated over the input windows' blocks and
    numbered on from the skeleton's payload functions (`k0_pay163` …, after `k0_pay162`), so that
    `out0_W` and the values after it name it instead of spelling it out (`unfold_out out0_W` opens a canon
    with them, `unfold_payloads` opens them with the payloads); the comment after each is the printed function's
    name for the value (a count appended where that name is bound again). -/

def k0_pay163 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x1024 .bf16 :=
  k0_pay4 (View.ld x0 r0_0) -- `v2`
def k0_pay164 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x512 .f32 :=
  k0_pay5 (View.ld x0 r0_0) (View.ld x1 r0_2) -- `v8`
def k0_pay165 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x512 .f32 :=
  k0_pay7 (View.ld x0 r0_0) (View.ld x3 r0_1) (View.ld x1 r0_3) -- `v21`
def k0_pay166 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x512 .f32 :=
  k0_pay8 (View.ld x0 r0_0) (View.ld x3 r0_1) (View.ld x1 r0_3) -- `v28`
def k0_pay167 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x512 .f32 :=
  k0_pay9 (View.ld x0 r0_0) (View.ld x1 r0_4) -- `v31`
def k0_pay168 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x512 .f32 :=
  k0_pay10 (View.ld x0 r0_0) (View.ld x1 r0_5) -- `v36`
def k0_pay169 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x128 .f32 :=
  k0_pay34 (View.ld x8 r0_10) -- `v130`
def k0_pay170 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S256x128 .f32 :=
  k0_pay35 (View.ld x9 r0_10) -- `v132`
def k0_pay171 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay44 (View.ld x11 r0_17) -- `v225`
def k0_pay172 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay45 (View.ld x12 r0_17) -- `v227`
def k0_pay173 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S512x256 .f32 :=
  k0_pay46 (k0_pay163 x0 x1 x2 x3 x4 x5 x6 x7 x8 x9 x10 x11 x12) (View.ld x2 r0_18) -- `v230`
def k0_pay174 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S512x256 .f32 :=
  k0_pay55 (k0_pay163 x0 x1 x2 x3 x4 x5 x6 x7 x8 x9 x10 x11 x12) (View.ld x2 r0_27) -- `v353`
def k0_pay175 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay62 (k0_pay163 x0 x1 x2 x3 x4 x5 x6 x7 x8 x9 x10 x11 x12) (View.ld x2 r0_27) -- `v392`
def k0_pay176 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay63 (k0_pay163 x0 x1 x2 x3 x4 x5 x6 x7 x8 x9 x10 x11 x12) (View.ld x2 r0_27) -- `v393`
def k0_pay177 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay64 (k0_pay163 x0 x1 x2 x3 x4 x5 x6 x7 x8 x9 x10 x11 x12) (View.ld x2 r0_27) -- `v394`
def k0_pay178 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay71 (k0_pay174 x0 x1 x2 x3 x4 x5 x6 x7 x8 x9 x10 x11 x12) -- `v430`
def k0_pay179 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay74 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12) -- `v435`
def k0_pay180 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay75 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12) -- `v438`
def k0_pay181 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S1024x256 .f32 :=
  k0_pay94 (k0_pay163 x0 x1 x2 x3 x4 x5 x6 x7 x8 x9 x10 x11 x12) (View.ld x2 r0_48) -- `v521`
def k0_pay182 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay120 (k0_pay181 x0 x1 x2 x3 x4 x5 x6 x7 x8 x9 x10 x11 x12) -- `v682`
def k0_pay183 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay121 (k0_pay181 x0 x1 x2 x3 x4 x5 x6 x7 x8 x9 x10 x11 x12) -- `v683`
def k0_pay184 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay122 (k0_pay181 x0 x1 x2 x3 x4 x5 x6 x7 x8 x9 x10 x11 x12) -- `v684`
def k0_pay185 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay123 (k0_pay171 x0 x1 x2 x3 x4 x5 x6 x7 x8 x9 x10 x11 x12) (k0_pay181 x0 x1 x2 x3 x4 x5 x6 x7 x8 x9 x10 x11 x12) -- `v685`
def k0_pay186 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay130 (k0_pay181 x0 x1 x2 x3 x4 x5 x6 x7 x8 x9 x10 x11 x12) -- `v722`
def k0_pay187 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay133 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12) -- `v727`
def k0_pay188 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay134 (k0_pay172 x0 x1 x2 x3 x4 x5 x6 x7 x8 x9 x10 x11 x12) (k0_pay181 x0 x1 x2 x3 x4 x5 x6 x7 x8 x9 x10 x11 x12) -- `v728`
def k0_pay189 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay135 (k0_pay171 x0 x1 x2 x3 x4 x5 x6 x7 x8 x9 x10 x11 x12) (k0_pay181 x0 x1 x2 x3 x4 x5 x6 x7 x8 x9 x10 x11 x12) -- `v729`
def k0_pay190 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .bf16 :=
  k0_pay142 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12) -- `v773`
def k0_pay191 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay156 (k0_pay163 x0 x1 x2 x3 x4 x5 x6 x7 x8 x9 x10 x11 x12) (View.ld x2 r0_83) -- `v850`
def k0_pay192 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S64x256 .f32 :=
  k0_pay157 (k0_pay191 x0 x1 x2 x3 x4 x5 x6 x7 x8 x9 x10 x11 x12) (View.ld x6 r0_84) (View.ld x7 r0_84) -- `v874`
def k0_pay193 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay160 (k0_pay171 x0 x1 x2 x3 x4 x5 x6 x7 x8 x9 x10 x11 x12) (k0_pay172 x0 x1 x2 x3 x4 x5 x6 x7 x8 x9 x10 x11 x12) (k0_pay191 x0 x1 x2 x3 x4 x5 x6 x7 x8 x9 x10 x11 x12) (View.ld x6 r0_84) (View.ld x7 r0_84) -- `v879`
def k0_pay194 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay161 (k0_pay172 x0 x1 x2 x3 x4 x5 x6 x7 x8 x9 x10 x11 x12) (k0_pay191 x0 x1 x2 x3 x4 x5 x6 x7 x8 x9 x10 x11 x12) (View.ld x6 r0_84) (View.ld x7 r0_84) -- `v880`
def k0_pay195 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : FVec F S8x256 .f32 :=
  k0_pay162 (k0_pay171 x0 x1 x2 x3 x4 x5 x6 x7 x8 x9 x10 x11 x12) (k0_pay191 x0 x1 x2 x3 x4 x5 x6 x7 x8 x9 x10 x11 x12) (View.ld x6 r0_84) (View.ld x7 r0_84) -- `v881`

/-- Window 13's staging buffer after the body, from the input windows' blocks: its 4 stores as pieces, LAST
    FIRST (Lib/Pipeline/FrameBody.lean `View.canon`; the payloads are the skeleton's and the values stated above). -/
def out0_13 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S4x256x128 .bf16 :=
  View.canon [⟨r0_9, k0_pay29 (k0_pay164 x0 x1 x2 x3 x4 x5 x6 x7 x8 x9 x10 x11 x12)⟩,
    ⟨r0_8, k0_pay23 (k0_pay164 x0 x1 x2 x3 x4 x5 x6 x7 x8 x9 x10 x11 x12)⟩,
    ⟨r0_7, k0_pay17 (k0_pay164 x0 x1 x2 x3 x4 x5 x6 x7 x8 x9 x10 x11 x12)⟩,
    ⟨r0_6, k0_pay12 (k0_pay11 (View.ld x0 r0_0) (View.ld x1 r0_2))⟩]

/-- Its stores tile the buffer (checked by evaluation), so they cover it. -/
theorem cover0_13 (p0 : Vec F S1x256x128 .bf16) (p1 : Vec F S1x256x128 .bf16) (p2 : Vec F S1x256x128 .bf16) (p3 : Vec F S1x256x128 .bf16) (y : S4x256x128.Idx) :
    ∃ pc ∈ ([⟨r0_9, p0⟩, ⟨r0_8, p1⟩, ⟨r0_7, p2⟩, ⟨r0_6, p3⟩] : List (View.Piece (Elt F) S4x256x128 .bf16)), y ∈ pc.1.set :=
  View.cover_of_tiled [⟨r0_9, p0⟩, ⟨r0_8, p1⟩, ⟨r0_7, p2⟩, ⟨r0_6, p3⟩] S1x256x128.size (by rfl) y

/-- Window 14's staging buffer after the body, from the input windows' blocks: its 4 stores as pieces, LAST
    FIRST (Lib/Pipeline/FrameBody.lean `View.canon`; the payloads are the skeleton's and the values stated above). -/
def out0_14 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S4x256x128 .f32 :=
  View.canon [⟨r0_9, k0_pay30 (k0_pay166 x0 x1 x2 x3 x4 x5 x6 x7 x8 x9 x10 x11 x12)⟩,
    ⟨r0_8, k0_pay24 (k0_pay166 x0 x1 x2 x3 x4 x5 x6 x7 x8 x9 x10 x11 x12)⟩,
    ⟨r0_7, k0_pay18 (k0_pay166 x0 x1 x2 x3 x4 x5 x6 x7 x8 x9 x10 x11 x12)⟩,
    ⟨r0_6, k0_pay13 (k0_pay166 x0 x1 x2 x3 x4 x5 x6 x7 x8 x9 x10 x11 x12)⟩]

/-- Its stores tile the buffer (checked by evaluation), so they cover it. -/
theorem cover0_14 (p0 : Vec F S1x256x128 .f32) (p1 : Vec F S1x256x128 .f32) (p2 : Vec F S1x256x128 .f32) (p3 : Vec F S1x256x128 .f32) (y : S4x256x128.Idx) :
    ∃ pc ∈ ([⟨r0_9, p0⟩, ⟨r0_8, p1⟩, ⟨r0_7, p2⟩, ⟨r0_6, p3⟩] : List (View.Piece (Elt F) S4x256x128 .f32)), y ∈ pc.1.set :=
  View.cover_of_tiled [⟨r0_9, p0⟩, ⟨r0_8, p1⟩, ⟨r0_7, p2⟩, ⟨r0_6, p3⟩] S1x256x128.size (by rfl) y

/-- Window 15's staging buffer after the body, from the input windows' blocks: its 4 stores as pieces, LAST
    FIRST (Lib/Pipeline/FrameBody.lean `View.canon`; the payloads are the skeleton's and the values stated above). -/
def out0_15 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S4x256x128 .f32 :=
  View.canon [⟨r0_9, k0_pay31 (k0_pay165 x0 x1 x2 x3 x4 x5 x6 x7 x8 x9 x10 x11 x12)⟩,
    ⟨r0_8, k0_pay25 (k0_pay165 x0 x1 x2 x3 x4 x5 x6 x7 x8 x9 x10 x11 x12)⟩,
    ⟨r0_7, k0_pay20 (k0_pay19 (k0_pay165 x0 x1 x2 x3 x4 x5 x6 x7 x8 x9 x10 x11 x12))⟩,
    ⟨r0_6, k0_pay14 (k0_pay165 x0 x1 x2 x3 x4 x5 x6 x7 x8 x9 x10 x11 x12)⟩]

/-- Its stores tile the buffer (checked by evaluation), so they cover it. -/
theorem cover0_15 (p0 : Vec F S1x256x128 .f32) (p1 : Vec F S1x256x128 .f32) (p2 : Vec F S1x256x128 .f32) (p3 : Vec F S1x256x128 .f32) (y : S4x256x128.Idx) :
    ∃ pc ∈ ([⟨r0_9, p0⟩, ⟨r0_8, p1⟩, ⟨r0_7, p2⟩, ⟨r0_6, p3⟩] : List (View.Piece (Elt F) S4x256x128 .f32)), y ∈ pc.1.set :=
  View.cover_of_tiled [⟨r0_9, p0⟩, ⟨r0_8, p1⟩, ⟨r0_7, p2⟩, ⟨r0_6, p3⟩] S1x256x128.size (by rfl) y

/-- Window 16's staging buffer after the body, from the input windows' blocks: its 4 stores as pieces, LAST
    FIRST (Lib/Pipeline/FrameBody.lean `View.canon`; the payloads are the skeleton's and the values stated above). -/
def out0_16 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S4x256x128 .bf16 :=
  View.canon [⟨r0_9, k0_pay32 (k0_pay167 x0 x1 x2 x3 x4 x5 x6 x7 x8 x9 x10 x11 x12)⟩,
    ⟨r0_8, k0_pay26 (k0_pay167 x0 x1 x2 x3 x4 x5 x6 x7 x8 x9 x10 x11 x12)⟩,
    ⟨r0_7, k0_pay21 (k0_pay167 x0 x1 x2 x3 x4 x5 x6 x7 x8 x9 x10 x11 x12)⟩,
    ⟨r0_6, k0_pay15 (k0_pay167 x0 x1 x2 x3 x4 x5 x6 x7 x8 x9 x10 x11 x12)⟩]

/-- Its stores tile the buffer (checked by evaluation), so they cover it. -/
theorem cover0_16 (p0 : Vec F S1x256x128 .bf16) (p1 : Vec F S1x256x128 .bf16) (p2 : Vec F S1x256x128 .bf16) (p3 : Vec F S1x256x128 .bf16) (y : S4x256x128.Idx) :
    ∃ pc ∈ ([⟨r0_9, p0⟩, ⟨r0_8, p1⟩, ⟨r0_7, p2⟩, ⟨r0_6, p3⟩] : List (View.Piece (Elt F) S4x256x128 .bf16)), y ∈ pc.1.set :=
  View.cover_of_tiled [⟨r0_9, p0⟩, ⟨r0_8, p1⟩, ⟨r0_7, p2⟩, ⟨r0_6, p3⟩] S1x256x128.size (by rfl) y

/-- Window 17's staging buffer after the body, from the input windows' blocks: its 4 stores as pieces, LAST
    FIRST (Lib/Pipeline/FrameBody.lean `View.canon`; the payloads are the skeleton's and the values stated above). -/
def out0_17 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S4x256x128 .bf16 :=
  View.canon [⟨r0_9, k0_pay33 (k0_pay168 x0 x1 x2 x3 x4 x5 x6 x7 x8 x9 x10 x11 x12)⟩,
    ⟨r0_8, k0_pay28 (k0_pay27 (k0_pay168 x0 x1 x2 x3 x4 x5 x6 x7 x8 x9 x10 x11 x12))⟩,
    ⟨r0_7, k0_pay22 (k0_pay168 x0 x1 x2 x3 x4 x5 x6 x7 x8 x9 x10 x11 x12)⟩,
    ⟨r0_6, k0_pay16 (k0_pay168 x0 x1 x2 x3 x4 x5 x6 x7 x8 x9 x10 x11 x12)⟩]

/-- Its stores tile the buffer (checked by evaluation), so they cover it. -/
theorem cover0_17 (p0 : Vec F S1x256x128 .bf16) (p1 : Vec F S1x256x128 .bf16) (p2 : Vec F S1x256x128 .bf16) (p3 : Vec F S1x256x128 .bf16) (y : S4x256x128.Idx) :
    ∃ pc ∈ ([⟨r0_9, p0⟩, ⟨r0_8, p1⟩, ⟨r0_7, p2⟩, ⟨r0_6, p3⟩] : List (View.Piece (Elt F) S4x256x128 .bf16)), y ∈ pc.1.set :=
  View.cover_of_tiled [⟨r0_9, p0⟩, ⟨r0_8, p1⟩, ⟨r0_7, p2⟩, ⟨r0_6, p3⟩] S1x256x128.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S256x512 .bf16 :=
  View.canon [⟨r0_12, k0_pay37 (k0_pay163 x0 x1 x2 x3 x4 x5 x6 x7 x8 x9 x10 x11 x12) (k0_pay169 x0 x1 x2 x3 x4 x5 x6 x7 x8 x9 x10 x11 x12) (k0_pay170 x0 x1 x2 x3 x4 x5 x6 x7 x8 x9 x10 x11 x12) (View.ld x10 r0_10) (View.ld x1 r0_11)⟩]

/-- Its stores tile the buffer (checked by evaluation), so they cover it. -/
theorem cover0_18 (p0 : Vec F S256x512 .bf16) (y : S256x512.Idx) :
    ∃ pc ∈ ([⟨r0_12, p0⟩] : List (View.Piece (Elt F) S256x512 .bf16)), y ∈ pc.1.set :=
  View.cover_of_tiled [⟨r0_12, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S256x512 .bf16 :=
  View.canon [⟨r0_12, k0_pay39 (k0_pay38 (k0_pay163 x0 x1 x2 x3 x4 x5 x6 x7 x8 x9 x10 x11 x12) (View.ld x1 r0_13))⟩]

/-- Its stores tile the buffer (checked by evaluation), so they cover it. -/
theorem cover0_19 (p0 : Vec F S256x512 .bf16) (y : S256x512.Idx) :
    ∃ pc ∈ ([⟨r0_12, p0⟩] : List (View.Piece (Elt F) S256x512 .bf16)), y ∈ pc.1.set :=
  View.cover_of_tiled [⟨r0_12, p0⟩] S256x512.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S256x64 .bf16 :=
  View.canon [⟨r0_16, k0_pay43 (k0_pay36 (View.ld x10 r0_10)) (k0_pay40 (k0_pay163 x0 x1 x2 x3 x4 x5 x6 x7 x8 x9 x10 x11 x12) (View.ld x1 r0_14) (View.ld x4 r0_15) (View.ld x5 r0_15)) (k0_pay41 (k0_pay163 x0 x1 x2 x3 x4 x5 x6 x7 x8 x9 x10 x11 x12) (k0_pay169 x0 x1 x2 x3 x4 x5 x6 x7 x8 x9 x10 x11 x12) (View.ld x1 r0_14) (View.ld x4 r0_15) (View.ld x5 r0_15)) (k0_pay42 (k0_pay163 x0 x1 x2 x3 x4 x5 x6 x7 x8 x9 x10 x11 x12) (k0_pay170 x0 x1 x2 x3 x4 x5 x6 x7 x8 x9 x10 x11 x12) (View.ld x1 r0_14) (View.ld x4 r0_15) (View.ld x5 r0_15))⟩]

/-- Its stores tile the buffer (checked by evaluation), so they cover it. -/
theorem cover0_20 (p0 : Vec F S256x64 .bf16) (y : S256x64.Idx) :
    ∃ pc ∈ ([⟨r0_16, p0⟩] : List (View.Piece (Elt F) S256x64 .bf16)), y ∈ pc.1.set :=
  View.cover_of_tiled [⟨r0_16, p0⟩] S256x64.size (by rfl) y

/-- Window 21's staging buffer after the body, from the input windows' blocks: its 8 stores as pieces, LAST
    FIRST (Lib/Pipeline/FrameBody.lean `View.canon`; the payloads are the skeleton's and the values stated above). -/
def out0_21 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S512x256 .bf16 :=
  View.canon [⟨r0_26, k0_pay54 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_25, k0_pay53 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_24, k0_pay52 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_23, k0_pay51 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_22, k0_pay50 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_21, k0_pay49 (k0_pay171 x0 x1 x2 x3 x4 x5 x6 x7 x8 x9 x10 x11 x12) (k0_pay172 x0 x1 x2 x3 x4 x5 x6 x7 x8 x9 x10 x11 x12) (k0_pay173 x0 x1 x2 x3 x4 x5 x6 x7 x8 x9 x10 x11 x12)⟩,
    ⟨r0_20, k0_pay48 (k0_pay163 x0 x1 x2 x3 x4 x5 x6 x7 x8 x9 x10 x11 x12) (View.ld x11 r0_17) (View.ld x12 r0_17) (View.ld x2 r0_18)⟩,
    ⟨r0_19, k0_pay47 (k0_pay163 x0 x1 x2 x3 x4 x5 x6 x7 x8 x9 x10 x11 x12) (View.ld x11 r0_17) (View.ld x12 r0_17) (View.ld x2 r0_18)⟩]

/-- Its stores tile the buffer (checked by evaluation), so they cover it. -/
theorem cover0_21 (p0 : Vec F S64x256 .bf16) (p1 : Vec F S64x256 .bf16) (p2 : Vec F S64x256 .bf16) (p3 : Vec F S64x256 .bf16) (p4 : Vec F S64x256 .bf16) (p5 : Vec F S64x256 .bf16) (p6 : Vec F S64x256 .bf16) (p7 : Vec F S64x256 .bf16) (y : S512x256.Idx) :
    ∃ pc ∈ ([⟨r0_26, p0⟩, ⟨r0_25, p1⟩, ⟨r0_24, p2⟩, ⟨r0_23, p3⟩, ⟨r0_22, p4⟩, ⟨r0_21, p5⟩, ⟨r0_20, p6⟩, ⟨r0_19, p7⟩] : List (View.Piece (Elt F) S512x256 .bf16)), y ∈ pc.1.set :=
  View.cover_of_tiled [⟨r0_26, p0⟩, ⟨r0_25, p1⟩, ⟨r0_24, p2⟩, ⟨r0_23, p3⟩, ⟨r0_22, p4⟩, ⟨r0_21, p5⟩, ⟨r0_20, p6⟩, ⟨r0_19, p7⟩] S64x256.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S512x256 .bf16 :=
  View.canon [⟨r0_45, k0_pay90 (k0_pay163 x0 x1 x2 x3 x4 x5 x6 x7 x8 x9 x10 x11 x12) (View.ld x2 r0_44)⟩]

/-- Its stores tile the buffer (checked by evaluation), so they cover it. -/
theorem cover0_22 (p0 : Vec F S512x256 .bf16) (y : S512x256.Idx) :
    ∃ pc ∈ ([⟨r0_45, p0⟩] : List (View.Piece (Elt F) S512x256 .bf16)), y ∈ pc.1.set :=
  View.cover_of_tiled [⟨r0_45, p0⟩] S512x256.size (by rfl) y

/-- Window 23's staging buffer after the body, from the input windows' blocks: its 32 stores as pieces, LAST
    FIRST (Lib/Pipeline/FrameBody.lean `View.canon`; the payloads are the skeleton's and the values stated above). -/
def out0_23 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S2x64x2048 .bf16 :=
  View.canon [⟨r0_80, k0_pay154 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_79, k0_pay153 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_78, k0_pay151 (k0_pay148 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12))⟩,
    ⟨r0_77, k0_pay150 (k0_pay149 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12))⟩,
    ⟨r0_76, k0_pay147 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_75, k0_pay146 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_74, k0_pay144 (k0_pay190 x0 x1 x2 x3 x4 x5 x6 x7 x8 x9 x10 x11 x12)⟩,
    ⟨r0_73, k0_pay143 (k0_pay190 x0 x1 x2 x3 x4 x5 x6 x7 x8 x9 x10 x11 x12)⟩,
    ⟨r0_72, k0_pay141 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_71, k0_pay140 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_70, k0_pay138 (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) (k0_pay189 x0 x1 x2 x3 x4 x5 x6 x7 x8 x9 x10 x11 x12)⟩,
    ⟨r0_69, k0_pay137 (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) (k0_pay189 x0 x1 x2 x3 x4 x5 x6 x7 x8 x9 x10 x11 x12)⟩,
    ⟨r0_68, k0_pay129 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_67, k0_pay128 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_66, k0_pay126 (k0_pay171 x0 x1 x2 x3 x4 x5 x6 x7 x8 x9 x10 x11 x12) (k0_pay172 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12)⟩,
    ⟨r0_65, k0_pay125 (k0_pay171 x0 x1 x2 x3 x4 x5 x6 x7 x8 x9 x10 x11 x12) (k0_pay172 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12)⟩,
    ⟨r0_64, k0_pay119 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_63, k0_pay118 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_62, k0_pay116 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_61, k0_pay115 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_60, k0_pay113 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_59, k0_pay112 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_58, k0_pay110 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_57, k0_pay109 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_56, k0_pay107 (k0_pay106 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12))⟩,
    ⟨r0_55, k0_pay105 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_54, k0_pay103 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_53, k0_pay102 (k0_pay171 x0 x1 x2 x3 x4 x5 x6 x7 x8 x9 x10 x11 x12) (k0_pay172 x0 x1 x2 x3 x4 x5 x6 x7 x8 x9 x10 x11 x12) (k0_pay181 x0 x1 x2 x3 x4 x5 x6 x7 x8 x9 x10 x11 x12)⟩,
    ⟨r0_52, k0_pay100 (k0_pay98 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_48))⟩,
    ⟨r0_51, k0_pay99 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_48)⟩,
    ⟨r0_50, k0_pay97 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_48)⟩,
    ⟨r0_49, k0_pay96 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_48)⟩]

/-- Its stores tile the buffer (checked by evaluation), so they cover it. -/
theorem cover0_23 (p0 : Vec F S1x64x128 .bf16) (p1 : Vec F S1x64x128 .bf16) (p2 : Vec F S1x64x128 .bf16) (p3 : Vec F S1x64x128 .bf16) (p4 : Vec F S1x64x128 .bf16) (p5 : Vec F S1x64x128 .bf16) (p6 : Vec F S1x64x128 .bf16) (p7 : Vec F S1x64x128 .bf16) (p8 : Vec F S1x64x128 .bf16) (p9 : Vec F S1x64x128 .bf16) (p10 : Vec F S1x64x128 .bf16) (p11 : Vec F S1x64x128 .bf16) (p12 : Vec F S1x64x128 .bf16) (p13 : Vec F S1x64x128 .bf16) (p14 : Vec F S1x64x128 .bf16) (p15 : Vec F S1x64x128 .bf16) (p16 : Vec F S1x64x128 .bf16) (p17 : Vec F S1x64x128 .bf16) (p18 : Vec F S1x64x128 .bf16) (p19 : Vec F S1x64x128 .bf16) (p20 : Vec F S1x64x128 .bf16) (p21 : Vec F S1x64x128 .bf16) (p22 : Vec F S1x64x128 .bf16) (p23 : Vec F S1x64x128 .bf16) (p24 : Vec F S1x64x128 .bf16) (p25 : Vec F S1x64x128 .bf16) (p26 : Vec F S1x64x128 .bf16) (p27 : Vec F S1x64x128 .bf16) (p28 : Vec F S1x64x128 .bf16) (p29 : Vec F S1x64x128 .bf16) (p30 : Vec F S1x64x128 .bf16) (p31 : Vec F S1x64x128 .bf16) (y : S2x64x2048.Idx) :
    ∃ pc ∈ ([⟨r0_80, p0⟩, ⟨r0_79, p1⟩, ⟨r0_78, p2⟩, ⟨r0_77, p3⟩, ⟨r0_76, p4⟩, ⟨r0_75, p5⟩, ⟨r0_74, p6⟩, ⟨r0_73, p7⟩, ⟨r0_72, p8⟩, ⟨r0_71, p9⟩, ⟨r0_70, p10⟩, ⟨r0_69, p11⟩, ⟨r0_68, p12⟩, ⟨r0_67, p13⟩, ⟨r0_66, p14⟩, ⟨r0_65, p15⟩, ⟨r0_64, p16⟩, ⟨r0_63, p17⟩, ⟨r0_62, p18⟩, ⟨r0_61, p19⟩, ⟨r0_60, p20⟩, ⟨r0_59, p21⟩, ⟨r0_58, p22⟩, ⟨r0_57, p23⟩, ⟨r0_56, p24⟩, ⟨r0_55, p25⟩, ⟨r0_54, p26⟩, ⟨r0_53, p27⟩, ⟨r0_52, p28⟩, ⟨r0_51, p29⟩, ⟨r0_50, p30⟩, ⟨r0_49, p31⟩] : List (View.Piece (Elt F) S2x64x2048 .bf16)), y ∈ pc.1.set :=
  View.cover_of_tiled [⟨r0_80, p0⟩, ⟨r0_79, p1⟩, ⟨r0_78, p2⟩, ⟨r0_77, p3⟩, ⟨r0_76, p4⟩, ⟨r0_75, p5⟩, ⟨r0_74, p6⟩, ⟨r0_73, p7⟩, ⟨r0_72, p8⟩, ⟨r0_71, p9⟩, ⟨r0_70, p10⟩, ⟨r0_69, p11⟩, ⟨r0_68, p12⟩, ⟨r0_67, p13⟩, ⟨r0_66, p14⟩, ⟨r0_65, p15⟩, ⟨r0_64, p16⟩, ⟨r0_63, p17⟩, ⟨r0_62, p18⟩, ⟨r0_61, p19⟩, ⟨r0_60, p20⟩, ⟨r0_59, p21⟩, ⟨r0_58, p22⟩, ⟨r0_57, p23⟩, ⟨r0_56, p24⟩, ⟨r0_55, p25⟩, ⟨r0_54, p26⟩, ⟨r0_53, p27⟩, ⟨r0_52, p28⟩, ⟨r0_51, p29⟩, ⟨r0_50, p30⟩, ⟨r0_49, p31⟩] S1x64x128.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S16x256 .f32 :=
  View.canon [⟨r0_82, k0_pay155 (k0_pay163 x0 x1 x2 x3 x4 x5 x6 x7 x8 x9 x10 x11 x12) (View.ld x2 r0_81)⟩]

/-- Its stores tile the buffer (checked by evaluation), so they cover it. -/
theorem cover0_24 (p0 : Vec F S16x256 .f32) (y : S16x256.Idx) :
    ∃ pc ∈ ([⟨r0_82, p0⟩] : List (View.Piece (Elt F) S16x256 .f32)), y ∈ pc.1.set :=
  View.cover_of_tiled [⟨r0_82, p0⟩] S16x256.size (by rfl) y

/-- Window 25's staging buffer after the body, from the input windows' blocks: its 16 stores as pieces, LAST
    FIRST (Lib/Pipeline/FrameBody.lean `View.canon`; the payloads are the skeleton's and the values stated above). -/
def out0_25 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S2x512x128 .f32 :=
  View.canon [⟨r0_43, k0_pay88 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_42, k0_pay87 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_41, k0_pay85 (k0_pay82 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12))⟩,
    ⟨r0_40, k0_pay84 (k0_pay83 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12))⟩,
    ⟨r0_39, k0_pay81 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_38, k0_pay80 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_37, k0_pay78 (k0_pay178 x0 x1 x2 x3 x4 x5 x6 x7 x8 x9 x10 x11 x12) (k0_pay179 x0 x1 x2 x3 x4 x5 x6 x7 x8 x9 x10 x11 x12) (k0_pay180 x0 x1 x2 x3 x4 x5 x6 x7 x8 x9 x10 x11 x12)⟩,
    ⟨r0_36, k0_pay77 (k0_pay178 x0 x1 x2 x3 x4 x5 x6 x7 x8 x9 x10 x11 x12) (k0_pay179 x0 x1 x2 x3 x4 x5 x6 x7 x8 x9 x10 x11 x12) (k0_pay180 x0 x1 x2 x3 x4 x5 x6 x7 x8 x9 x10 x11 x12)⟩,
    ⟨r0_35, k0_pay70 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_34, k0_pay69 (k0_pay171 x0 x1 x2 x3 x4 x5 x6 x7 x8 x9 x10 x11 x12) (k0_pay172 x0 x1 x2 x3 x4 x5 x6 x7 x8 x9 x10 x11 x12) (k0_pay174 x0 x1 x2 x3 x4 x5 x6 x7 x8 x9 x10 x11 x12)⟩,
    ⟨r0_33, k0_pay67 (k0_pay171 x0 x1 x2 x3 x4 x5 x6 x7 x8 x9 x10 x11 x12) (k0_pay172 x0 x1 x2 x3 x4 x5 x6 x7 x8 x9 x10 x11 x12) (k0_pay175 x0 x1 x2 x3 x4 x5 x6 x7 x8 x9 x10 x11 x12) (k0_pay176 x0 x1 x2 x3 x4 x5 x6 x7 x8 x9 x10 x11 x12) (k0_pay177 x0 x1 x2 x3 x4 x5 x6 x7 x8 x9 x10 x11 x12)⟩,
    ⟨r0_32, k0_pay66 (k0_pay171 x0 x1 x2 x3 x4 x5 x6 x7 x8 x9 x10 x11 x12) (k0_pay172 x0 x1 x2 x3 x4 x5 x6 x7 x8 x9 x10 x11 x12) (k0_pay175 x0 x1 x2 x3 x4 x5 x6 x7 x8 x9 x10 x11 x12) (k0_pay176 x0 x1 x2 x3 x4 x5 x6 x7 x8 x9 x10 x11 x12) (k0_pay177 x0 x1 x2 x3 x4 x5 x6 x7 x8 x9 x10 x11 x12)⟩,
    ⟨r0_31, k0_pay61 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_27)⟩,
    ⟨r0_30, k0_pay60 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_27)⟩,
    ⟨r0_29, k0_pay58 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_27)⟩,
    ⟨r0_28, k0_pay57 (k0_pay163 x0 x1 x2 x3 x4 x5 x6 x7 x8 x9 x10 x11 x12) (k0_pay171 x0 x1 x2 x3 x4 x5 x6 x7 x8 x9 x10 x11 x12) (k0_pay172 x0 x1 x2 x3 x4 x5 x6 x7 x8 x9 x10 x11 x12) (View.ld x2 r0_27)⟩]

/-- Its stores tile the buffer (checked by evaluation), so they cover it. -/
theorem cover0_25 (p0 : Vec F S1x64x128 .f32) (p1 : Vec F S1x64x128 .f32) (p2 : Vec F S1x64x128 .f32) (p3 : Vec F S1x64x128 .f32) (p4 : Vec F S1x64x128 .f32) (p5 : Vec F S1x64x128 .f32) (p6 : Vec F S1x64x128 .f32) (p7 : Vec F S1x64x128 .f32) (p8 : Vec F S1x64x128 .f32) (p9 : Vec F S1x64x128 .f32) (p10 : Vec F S1x64x128 .f32) (p11 : Vec F S1x64x128 .f32) (p12 : Vec F S1x64x128 .f32) (p13 : Vec F S1x64x128 .f32) (p14 : Vec F S1x64x128 .f32) (p15 : Vec F S1x64x128 .f32) (y : S2x512x128.Idx) :
    ∃ pc ∈ ([⟨r0_43, p0⟩, ⟨r0_42, p1⟩, ⟨r0_41, p2⟩, ⟨r0_40, p3⟩, ⟨r0_39, p4⟩, ⟨r0_38, p5⟩, ⟨r0_37, p6⟩, ⟨r0_36, p7⟩, ⟨r0_35, p8⟩, ⟨r0_34, p9⟩, ⟨r0_33, p10⟩, ⟨r0_32, p11⟩, ⟨r0_31, p12⟩, ⟨r0_30, p13⟩, ⟨r0_29, p14⟩, ⟨r0_28, p15⟩] : List (View.Piece (Elt F) S2x512x128 .f32)), y ∈ pc.1.set :=
  View.cover_of_tiled [⟨r0_43, p0⟩, ⟨r0_42, p1⟩, ⟨r0_41, p2⟩, ⟨r0_40, p3⟩, ⟨r0_39, p4⟩, ⟨r0_38, p5⟩, ⟨r0_37, p6⟩, ⟨r0_36, p7⟩, ⟨r0_35, p8⟩, ⟨r0_34, p9⟩, ⟨r0_33, p10⟩, ⟨r0_32, p11⟩, ⟨r0_31, p12⟩, ⟨r0_30, p13⟩, ⟨r0_29, p14⟩, ⟨r0_28, p15⟩] S1x64x128.size (by rfl) y

/-- Window 26's staging buffer after the body, from the input windows' blocks: its 2 stores as pieces, LAST
    FIRST (Lib/Pipeline/FrameBody.lean `View.canon`; the payloads are the skeleton's and the values stated above). -/
def out0_26 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S2x512x128 .f32 :=
  View.canon [⟨r0_47, k0_pay93 (k0_pay92 (k0_pay163 x0 x1 x2 x3 x4 x5 x6 x7 x8 x9 x10 x11 x12) (View.ld x2 r0_44))⟩,
    ⟨r0_46, k0_pay91 (k0_pay163 x0 x1 x2 x3 x4 x5 x6 x7 x8 x9 x10 x11 x12) (View.ld x2 r0_44)⟩]

/-- Its stores tile the buffer (checked by evaluation), so they cover it. -/
theorem cover0_26 (p0 : Vec F S1x512x128 .f32) (p1 : Vec F S1x512x128 .f32) (y : S2x512x128.Idx) :
    ∃ pc ∈ ([⟨r0_47, p0⟩, ⟨r0_46, p1⟩] : List (View.Piece (Elt F) S2x512x128 .f32)), y ∈ pc.1.set :=
  View.cover_of_tiled [⟨r0_47, p0⟩, ⟨r0_46, p1⟩] S1x512x128.size (by rfl) y

/-- Window 27's staging buffer after the body, from the input windows' blocks: its 2 stores as pieces, LAST
    FIRST (Lib/Pipeline/FrameBody.lean `View.canon`; the payloads are the skeleton's and the values stated above). -/
def out0_27 (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) : Vec F S2x64x128 .f32 :=
  View.canon [⟨r0_86, k0_pay3 (k0_pay192 x0 x1 x2 x3 x4 x5 x6 x7 x8 x9 x10 x11 x12) (k0_pay193 x0 x1 x2 x3 x4 x5 x6 x7 x8 x9 x10 x11 x12) (k0_pay194 x0 x1 x2 x3 x4 x5 x6 x7 x8 x9 x10 x11 x12) (k0_pay195 x0 x1 x2 x3 x4 x5 x6 x7 x8 x9 x10 x11 x12)⟩,
    ⟨r0_85, k0_pay2 (k0_pay192 x0 x1 x2 x3 x4 x5 x6 x7 x8 x9 x10 x11 x12) (k0_pay193 x0 x1 x2 x3 x4 x5 x6 x7 x8 x9 x10 x11 x12) (k0_pay194 x0 x1 x2 x3 x4 x5 x6 x7 x8 x9 x10 x11 x12) (k0_pay195 x0 x1 x2 x3 x4 x5 x6 x7 x8 x9 x10 x11 x12)⟩]

/-- Its stores tile the buffer (checked by evaluation), so they cover it. -/
theorem cover0_27 (p0 : Vec F S1x64x128 .f32) (p1 : Vec F S1x64x128 .f32) (y : S2x64x128.Idx) :
    ∃ pc ∈ ([⟨r0_86, p0⟩, ⟨r0_85, p1⟩] : List (View.Piece (Elt F) S2x64x128 .f32)), y ∈ pc.1.set :=
  View.cover_of_tiled [⟨r0_86, p0⟩, ⟨r0_85, p1⟩] S1x64x128.size (by rfl) y

/-! ## The body's triple -/

set_option maxHeartbeats 1264000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1024x3200 .bf16) (harg2 : arg2.IsWhole) (arg3 : Memref sig .tc .vmem S2640x1024 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8x256 .f32) (harg12 : arg12.IsWhole) (arg13 : Memref sig .tc .vmem S8x256 .f32) (harg13 : arg13.IsWhole) (arg14 : Memref sig .tc .vmem S4x256x128 .bf16) (harg14 : arg14.IsWhole) (arg15 : Memref sig .tc .vmem S4x256x128 .f32) (harg15 : arg15.IsWhole) (arg16 : Memref sig .tc .vmem S4x256x128 .f32) (harg16 : arg16.IsWhole) (arg17 : Memref sig .tc .vmem S4x256x128 .bf16) (harg17 : arg17.IsWhole) (arg18 : Memref sig .tc .vmem S4x256x128 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x64 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S2x64x2048 .bf16) (harg24 : arg24.IsWhole) (arg25 : Memref sig .tc .vmem S16x256 .f32) (harg25 : arg25.IsWhole) (arg26 : Memref sig .tc .vmem S2x512x128 .f32) (harg26 : arg26.IsWhole) (arg27 : Memref sig .tc .vmem S2x512x128 .f32) (harg27 : arg27.IsWhole) (arg28 : Memref sig .tc .vmem S2x64x128 .f32) (harg28 : arg28.IsWhole)
    (x0 : Vec F S256x1024 .f32) (x1 : Vec F S1024x3200 .bf16) (x2 : Vec F S2640x1024 .bf16) (x3 : Vec F S1x512 .f32) (x4 : Vec F S1x128 .f32) (x5 : Vec F S1x128 .f32) (x6 : Vec F S64x1 .f32) (x7 : Vec F S64x1 .f32) (x8 : Vec F S256x128 .f32) (x9 : Vec F S256x128 .f32) (x10 : Vec F S256x128 .f32) (x11 : Vec F S8x256 .f32) (x12 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12) ∗ owns (c : Thread nD τ) arg25 fullShare (out0_24 x0 x1 x2 x3 x4 x5 x6 x7 x8 x9 x10 x11 x12) ∗ owns (c : Thread nD τ) arg26 fullShare (out0_25 x0 x1 x2 x3 x4 x5 x6 x7 x8 x9 x10 x11 x12) ∗ owns (c : Thread nD τ) arg27 fullShare (out0_26 x0 x1 x2 x3 x4 x5 x6 x7 x8 x9 x10 x11 x12) ∗ owns (c : Thread nD τ) arg28 fullShare (out0_27 x0 x1 x2 x3 x4 x5 x6 x7 x8 x9 x10 x11 x12)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_proj_eq_skeleton]; unfold cc0_proj_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _ _ _ _ _ _ _ _ _ _ _ _ _ _ _ _ _ _ _ _ _ _ _ _ _ _ _ _ _ _ _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _ _ _ _ _ _ _ _ _ _ _ _ _ _ _)).trans ?_
    rfl
  isplitl [H26]
  · iexists _; isplitr
    swap; · iexact H26
    ipureintro
    refine (View.read_writes_eq_canon _ _ _ (cover0_26 _ _)).trans ?_
    rfl
  iexists _; isplitr
  swap; · iexact H27
  ipureintro
  refine (View.read_writes_eq_canon _ _ _ (cover0_27 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Proj

end
-- ==== Proof.Rows.lean ====
module

public import Idealize.ShloMosaic.PureOps.Ideal
public import Idealize.ShloMosaic.Lib.IdealHost
public import Mathlib.Algebra.BigOperators.Fin

@[expose] public section

noncomputable section

namespace Cert.Rows

open Idealize.ShloMosaic

/-! # What the projection computes of one token

A token's projected columns are a function `u` of the column's number; each result is one of the forms below of it. Columns, lanes and
table entries are numbered by natural numbers, so that no form carries a bound. -/

/-- `x` times its logistic. -/
def silu (x : EReal) : EReal := x * Ideal.logistic x

/-- The forget gate's complement: the key of a gated lane. -/
def keyAt (l x : EReal) : EReal := (1 - l) * Ideal.logistic (-x)

/-- The logarithm to base two of the forget gate. -/
def decayAt (l x : EReal) : EReal := Ideal.log (l + (1 - l) * Ideal.logistic x) * ((Real.log 2)⁻¹ : ℝ)

/-- The rotation of the first sixteen lanes, in halves of eight, by the angles with cosines `c` and sines `s`. -/
def rope (z c s : Nat → EReal) (d : Nat) : EReal :=
  if d < 8 then z d * c d - z (d + 8) * s d else if d < 16 then z (d - 8) * s (d - 8) + z d * c (d - 8) else z d

/-- The mean of sixty-four lanes. -/
def mean (z : Nat → EReal) : EReal := Ideal.div (∑ d : Fin 64, z d.val) ((64 : ℝ) : EReal)

/-- The small number under the root. -/
def eps : EReal := Ideal.ofBits .f32 0x3727C5AC#32

/-- The layer norm of sixty-four lanes. -/
def lnorm (z g b : Nat → EReal) (d : Nat) : EReal :=
  (z d - mean z) * Ideal.rsqrt (mean (fun e => (z e - mean z) * (z e - mean z)) + eps) * g d + b d

theorem sixty_four : Ideal.ofBits .f32 0x42800000#32 = ((64 : ℝ) : EReal) := by
  simp [Ideal.ofBits, Ideal.ieee, -EReal.coe_mul]; norm_num

theorem one_64th : Ideal.ofBits .f32 0x3C800000#32 = ((1 / 64 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- Multiplying by a 64th is dividing by 64. -/
theorem mul_64th (x : EReal) : x * Ideal.ofBits .f32 0x3C800000#32 = Ideal.div x ((64 : ℝ) : EReal) := by
  rw [one_64th, Ideal.div_coe (by norm_num)]

theorem div_64 (x : EReal) : Ideal.div x (Ideal.ofBits .f32 0x42800000#32) = Ideal.div x ((64 : ℝ) : EReal) := by rw [sixty_four]

theorem zero_sub (x : EReal) : (0 : EReal) - x = -x := by rw [sub_eq_add_neg, zero_add]

/-- Dividing by the logarithm of two is multiplying by its inverse. -/
theorem div_log_two (x : EReal) : Ideal.div x (Ideal.log (Ideal.ofBits .f32 0x40000000#32)) = x * ((Real.log 2)⁻¹ : ℝ) := by
  have hl : Ideal.log (Ideal.ofBits .f32 0x40000000#32) = ((Real.log 2 : ℝ) : EReal) := by
    rw [two]
    show (if (2 : ℝ) ≤ 0 then (⊥ : EReal) else ((Real.log 2 : ℝ) : EReal)) = _
    rw [if_neg (by norm_num)]
  rw [hl, Ideal.div_coe (Real.log_pos (by norm_num)).ne', one_div]

/-- The rotation of a pair of sixty-four lane groups by three tables: the cosines, the sines of the first halves negated, the sines of the second. -/
def cnAt (c : Nat → EReal) (j : Nat) : EReal := if j % 64 < 8 then c (j % 64) else if j % 64 < 16 then c (j % 64 - 8) else 1
def saAt (s : Nat → EReal) (j : Nat) : EReal := if j % 64 < 8 then -s (j % 64) else 0
def sbAt (s : Nat → EReal) (j : Nat) : EReal := if j % 64 < 8 then 0 else if j % 64 < 16 then s (j % 64 - 8) else 0

/-- The three-table form is the rotation, whatever the lanes that a zero multiplies. -/
theorem rope_tables (z zr zl c s : Nat → EReal) (j : Nat) (hr : j % 64 < 8 → zr j = z (j + 8)) (hl : 8 ≤ j % 64 → j % 64 < 16 → zl j = z (j - 8)) :
    z j * cnAt c j + zr j * saAt s j + zl j * sbAt s j = rope (fun d => z (j / 64 * 64 + d)) c s (j % 64) := by
  have e : j / 64 * 64 + j % 64 = j := by omega
  unfold cnAt saAt sbAt rope
  split_ifs with h1 h2
  · have e1 : j / 64 * 64 + (j % 64 + 8) = j + 8 := by omega
    simp only [e, e1]
    rw [hr h1, mul_zero, add_zero, mul_neg, ← sub_eq_add_neg]
  · have e1 : j / 64 * 64 + (j % 64 - 8) = j - 8 := by omega
    simp only [e, e1]
    rw [hl (by omega) h2, mul_zero, add_zero, add_comm]
  · simp only [e]
    rw [mul_one, mul_zero, mul_zero, add_zero, add_zero]

/-- The rotation as the program writes it, from a group's lanes. -/
theorem rope_eq (z c s : Nat → EReal) (d : Nat) :
    (if d < 8 then z d * c d - z (8 + d) * s d else if d - 8 < 8 then z (d - 8) * s (d - 8) + z (8 + (d - 8)) * c (d - 8) else z (16 + (d - 8 - 8))) = rope z c s d := by
  unfold rope
  split_ifs with h1 h2 h3 h3
  · rw [add_comm 8 d]
  · rw [show 8 + (d - 8) = d by omega]
  · omega
  · omega
  · rw [show 16 + (d - 8 - 8) = d by omega]

/-- The same of a group that starts at a row. -/
theorem rope_piece (z c s : Nat → EReal) (o a : Nat) (ha : a < 64) (ho : o % 64 = 0) :
    (if a < 8 then z (o + a) * c a - z (o + (8 + a)) * s a else if a - 8 < 8 then z (o + (a - 8)) * s (a - 8) + z (o + (8 + (a - 8))) * c (a - 8)
      else z (o + (16 + (a - 8 - 8)))) = rope (fun d => z ((o + a) / 64 * 64 + d)) c s ((o + a) % 64) := by
  have e1 : (o + a) / 64 * 64 = o := by omega
  have e2 : (o + a) % 64 = a := by omega
  rw [e1, e2]
  exact rope_eq (fun d => z (o + d)) c s a

/-- A sum over 128 lanes of which the first 64 count. -/
theorem sum_half (f : Nat → EReal) : (∑ j : Fin 128, if j.val < 64 then f j.val else 0) = ∑ d : Fin 64, f d.val := by
  rw [show (128 : Nat) = 64 + 64 from rfl, Fin.sum_univ_add]
  have h1 : ∀ i : Fin 64, (if (Fin.castAdd 64 i).val < 64 then f (Fin.castAdd 64 i).val else 0) = f i.val := fun i => by
    rw [if_pos (by show i.val < 64; omega)]; rfl
  have h2 : ∀ i : Fin 64, (if (Fin.natAdd 64 i).val < 64 then f (Fin.natAdd 64 i).val else 0) = 0 := fun i => by
    rw [if_neg (by show ¬ (64 + i.val < 64); omega)]
  simp only [h1, h2, Finset.sum_const_zero, add_zero]

/-- The same of lanes that agree with a function on the first 64. -/
theorem sum_half_of (z : Fin 128 → EReal) (f : Nat → EReal) (hz : ∀ j : Fin 128, j.val < 64 → z j = f j.val) :
    (∑ j : Fin 128, if j.val < 64 then z j else 0) = ∑ d : Fin 64, f d.val := by
  rw [← sum_half]
  refine Finset.sum_congr rfl fun j _ => ?_
  split_ifs with h
  · rw [hz j h]
  · rfl

/-- A masked mean of 128 lanes, as a product with a 64th. -/
def maskMean (z : Fin 128 → EReal) : EReal := (∑ j : Fin 128, if j.val < 64 then z j else 0) * Ideal.ofBits .f32 0x3C800000#32

theorem maskMean_of (z : Fin 128 → EReal) (f : Nat → EReal) (hz : ∀ j : Fin 128, j.val < 64 → z j = f j.val) : maskMean z = mean f := by
  rw [maskMean, sum_half_of z f hz, mul_64th, mean]

/-- The rotation reads the sixty-four lanes only. -/
theorem rope_congr (z z' c s : Nat → EReal) (d : Nat) (hd : d < 64) (hz : ∀ e, e < 64 → z e = z' e) : rope z c s d = rope z' c s d := by
  unfold rope
  split_ifs with h1 h2
  · rw [hz _ hd, hz _ (by omega)]
  · rw [hz _ (by omega), hz _ hd]
  · rw [hz _ hd]

/-- The three-table form of one 128-lane column group: the rotated lanes come from eight lanes on and eight lanes back, around the group. -/
theorem tables_piece (z c s : Nat → EReal) (o q : Nat) (hq : q < 128) (ho : o % 128 = 0) :
    z (o + q) * cnAt c q + z (o + (q + 128 - 120) % 128) * saAt s q + z (o + (q + 128 - 8) % 128) * sbAt s q
      = rope (fun d => z ((o + q) / 64 * 64 + d)) c s ((o + q) % 64) := by
  have e1 : (o + q) / 64 * 64 = o + q / 64 * 64 := by omega
  have e2 : (o + q) % 64 = q % 64 := by omega
  rw [e1, e2, rope_tables (fun n => z (o + n)) (fun n => z (o + (n + 128 - 120) % 128)) (fun n => z (o + (n + 128 - 8) % 128)) c s q]
  · refine congrArg (fun f => rope f c s (q % 64)) (funext fun d => congrArg z (by omega))
  · intro h; exact congrArg z (by omega)
  · intro h h'; exact congrArg z (by omega)

end Cert.Rows

end
-- ==== Proof.ProjForms.lean ====
module

public import proofs.«01_k».proof.Proof.Rows
public import Idealize.ShloMosaic.Lib.Pointwise

@[expose] public section

noncomputable section

namespace Cert.Rows

open Idealize.ShloMosaic

/-! # The projection's results as arrays

The tokens are numbered through the batch; a token's place in its sequence is its number modulo 2048. -/

variable (x : FVec Ideal ⟨3, ![8, 2048, 1024]⟩ .f32) (w : FVec Ideal ⟨2, ![1024, 5200]⟩ .f32) (lb : FVec Ideal ⟨2, ![1, 512]⟩ .f32)
  (g b : FVec Ideal ⟨1, ![64]⟩ .f32) (pos : IVec ⟨1, ![2048]⟩ 32)

/-- A token's entry, zero past the last token. -/
def xAt (n : Nat) (d : Fin 1024) : EReal := if h : n < 16384 then x (ix3 ⟨n / 2048, by omega⟩ ⟨n % 2048, by omega⟩ d) else 0

/-- A weight, zero past the last column. -/
def wAt (d : Fin 1024) (j : Nat) : EReal := if h : j < 5200 then w (ix2 d ⟨j, h⟩) else 0

/-- A token's projected column. -/
def cols (n j : Nat) : EReal := ∑ d : Fin 1024, xAt x n d * wAt w d j

/-- A gate's lower bound. -/
def lbAt (j : Nat) : EReal := if h : j < 512 then lb (ix2 0 ⟨j, h⟩) else 0

/-- A norm's weight, zero past the last lane. -/
def vecAt (j : Nat) : EReal := if h : j < 64 then g (ix1 ⟨j, h⟩) else 0

/-- The angle of a place's rotation of a lane. -/
def angle (p d : Nat) : EReal :=
  (if h : p < 2048 then FloatOps.sitofp (F := Ideal) .f32 (pos (ix1 ⟨p, h⟩)) else 0)
    * Ideal.pow (Ideal.ofBits .f32 0x48F42400#32) (Ideal.div (-(FloatOps.sitofp (F := Ideal) .f32 (BitVec.ofNat 32 d))) (Ideal.ofBits .f32 0x41000000#32))

/-- A token's cosines and sines. -/
def cosAt (n d : Nat) : EReal := Ideal.cos (angle pos (n % 2048) d)
def sinAt (n d : Nat) : EReal := Ideal.sin (angle pos (n % 2048) d)

/-- A token's rotated columns from column `o` on, in groups of sixty-four. -/
def rot (o n j : Nat) : EReal := rope (fun d => cols x w n (o + (j / 64 * 64 + d))) (cosAt pos n) (sinAt pos n) (j % 64)

/-- A token's rotated index key. -/
def rotIdx (n d : Nat) : EReal := rope (lnorm (fun e => cols x w n (5120 + e)) (vecAt g) (vecAt b)) (cosAt pos n) (sinAt pos n) d

/-- The results, by their indices. -/
def arrQ : FVec Ideal ⟨3, ![4, 16384, 128]⟩ .bf16 := fun i => silu (cols x w (i 1).val ((i 0).val * 128 + (i 2).val))
def arrK : FVec Ideal ⟨3, ![4, 16384, 128]⟩ .f32 := fun i =>
  keyAt (lbAt lb ((i 0).val * 128 + (i 2).val)) (cols x w (i 1).val (512 + ((i 0).val * 128 + (i 2).val)))
def arrG : FVec Ideal ⟨3, ![4, 16384, 128]⟩ .f32 := fun i =>
  decayAt (lbAt lb ((i 0).val * 128 + (i 2).val)) (cols x w (i 1).val (512 + ((i 0).val * 128 + (i 2).val)))
def arrV : FVec Ideal ⟨3, ![4, 16384, 128]⟩ .bf16 := fun i => cols x w (i 1).val (1024 + ((i 0).val * 128 + (i 2).val))
def arrGate : FVec Ideal ⟨3, ![4, 16384, 128]⟩ .bf16 := fun i => silu (cols x w (i 1).val (1536 + ((i 0).val * 128 + (i 2).val)))
def arrKb : FVec Ideal ⟨2, ![16384, 512]⟩ .bf16 := fun i => rot x w pos 2560 (i 0).val (i 1).val
def arrGb : FVec Ideal ⟨2, ![16384, 512]⟩ .bf16 := fun i => silu (cols x w (i 0).val (3584 + (i 1).val))
def arrKi : FVec Ideal ⟨2, ![16384, 64]⟩ .bf16 := fun i => rotIdx x w g b pos (i 0).val (i 1).val
def arrQt : FVec Ideal ⟨2, ![512, 16384]⟩ .bf16 := fun i => rot x w pos 2048 (i 1).val (i 0).val * Ideal.ofBits .f32 0x3E000000#32
def arrVt : FVec Ideal ⟨2, ![512, 16384]⟩ .bf16 := fun i => cols x w (i 1).val (3072 + (i 0).val)
def arrQi : FVec Ideal ⟨3, ![128, 64, 2048]⟩ .bf16 := fun i =>
  rot x w pos 4096 ((i 0).val * 128 + (i 2).val % 128) ((i 2).val / 128 * 64 + (i 1).val)
def arrWt : FVec Ideal ⟨2, ![16, 16384]⟩ .f32 := fun i => cols x w (i 1).val (5184 + (i 0).val) * Ideal.ofBits .f32 0x3D000000#32
def arrKp : FVec Ideal ⟨3, ![128, 512, 128]⟩ .f32 := fun i => rot x w pos 2560 ((i 0).val * 128 + (i 2).val) (i 1).val
def arrVp : FVec Ideal ⟨3, ![128, 512, 128]⟩ .f32 := fun i => cols x w ((i 0).val * 128 + (i 2).val) (3072 + (i 1).val)
def arrKip : FVec Ideal ⟨3, ![128, 64, 128]⟩ .f32 := fun i => rotIdx x w g b pos ((i 0).val * 128 + (i 2).val) (i 1).val

end Cert.Rows

end
-- ==== Proof.ProjPay.lean ====
module

public import proofs.«01_k».proof.Proof.ProjFrame
public import proofs.«01_k».proof.Proof.ProjForms
public import Idealize.ShloMosaic.Lib.Pointwise
public import Idealize.ShloMosaic.Lib.Pipeline.ValueKit

@[expose] public section

set_option maxRecDepth 16384

noncomputable section

namespace Cert.Kernel2Ideal.Proj

open Idealize.ShloMosaic Idealize.SL.Sem Cert.Kernel2Ideal Cert.Kernel2Ideal.Gen Cert.Rows

/-! # The projection's stored terms at an index -/

/-- A column of the natural-order weights, among the layer's. -/
def colN (j : Nat) : Nat := if j < 2048 then j else if j < 2560 then j + 512 else if j < 3072 then j + 1024 else j + 2048

/-- A row of the transposed weights, among the layer's columns. -/
def rowN (j : Nat) : Nat := if j < 1536 then j + 2048 else if j < 2560 then j + 2560 else if j < 2576 then j + 2624 else j + 2544

/-- A grid point's blocks, by the values they hold. -/
structure Blk (x0 : FVec Ideal S256x1024 .f32) (x1 : FVec Ideal S1024x3200 .bf16) (x2 : FVec Ideal S2640x1024 .bf16) (x3 : FVec Ideal S1x512 .f32)
    (x4 x5 : FVec Ideal S1x128 .f32) (x6 x7 : FVec Ideal S64x1 .f32) (x8 x9 x10 : FVec Ideal S256x128 .f32) (x11 x12 : FVec Ideal S8x256 .f32)
    (X : Nat → Fin 1024 → EReal) (W : Fin 1024 → Nat → EReal) (L G B : Nat → EReal) (c s : Nat → Nat → EReal) : Prop where
  h0 : ∀ r d, x0 (ix2 r d) = X r.val d
  h1 : ∀ d (j : Fin 3200), j.val < 3136 → x1 (ix2 d j) = W d (colN j.val)
  h2 : ∀ (j : Fin 2640) d, x2 (ix2 j d) = W d (rowN j.val)
  h3 : ∀ j, x3 (ix2 0 j) = L j.val
  h4 : ∀ j : Fin 128, j.val < 64 → x4 (ix2 0 j) = G j.val
  h5 : ∀ j : Fin 128, j.val < 64 → x5 (ix2 0 j) = B j.val
  h6 : ∀ j, x6 (ix2 j 0) = G j.val
  h7 : ∀ j, x7 (ix2 j 0) = B j.val
  h8 : ∀ r j, x8 (ix2 r j) = cnAt (c r.val) j.val
  h9 : ∀ r j, x9 (ix2 r j) = saAt (s r.val) j.val
  h10 : ∀ r j, x10 (ix2 r j) = sbAt (s r.val) j.val
  h11 : ∀ d r, x11 (ix2 d r) = c r.val d.val
  h12 : ∀ d r, x12 (ix2 d r) = s r.val d.val

variable {x0 : FVec Ideal S256x1024 .f32} {x1 : FVec Ideal S1024x3200 .bf16} {x2 : FVec Ideal S2640x1024 .bf16} {x3 : FVec Ideal S1x512 .f32}
    {x4 x5 : FVec Ideal S1x128 .f32} {x6 x7 : FVec Ideal S64x1 .f32} {x8 x9 x10 : FVec Ideal S256x128 .f32} {x11 x12 : FVec Ideal S8x256 .f32}
    {X : Nat → Fin 1024 → EReal} {W : Fin 1024 → Nat → EReal} {L G B : Nat → EReal} {c s : Nat → Nat → EReal}
    (hb : Blk x0 x1 x2 x3 x4 x5 x6 x7 x8 x9 x10 x11 x12 X W L G B c s)

/-- A row's product with a column. -/
abbrev colB (X : Nat → Fin 1024 → EReal) (W : Fin 1024 → Nat → EReal) (r k : Nat) : EReal := ∑ d, X r d * W d k

include hb in
/-- The columns of a load of the natural-order weights. -/
theorem ld_nat {n : Nat} (o : Nat) (h : ∀ a, (![0, o] : Fin 2 → Nat) a + (⟨2, ![1024, n]⟩ : Shape).size a ≤ S1024x3200.size a) (d : Fin 1024) (j : Fin n) (hj : o + j.val < 3136) :
    View.ld (Val := Elt Ideal) (e' := .bf16) x1 (Rect.unit (s := S1024x3200) ![0, o] (⟨2, ![1024, n]⟩ : Shape).size h) (ix2 d j) = W d (colN (o + j.val)) := by
  rw [View.ld_unit_apply_of (S := S1024x3200) (Val := Elt Ideal) (e := .bf16) x1 ![0, o] (⟨2, ![1024, n]⟩ : Shape).size h (ix2 d j) (ix2 d ⟨o + j.val, by omega⟩) (by intro a; fin_cases a <;> simp), hb.h1 _ _ hj]

include hb in
/-- The rows of a load of the transposed weights. -/
theorem ld_tr {n : Nat} (o : Nat) (h : ∀ a, (![o, 0] : Fin 2 → Nat) a + (⟨2, ![n, 1024]⟩ : Shape).size a ≤ S2640x1024.size a) (j : Fin n) (d : Fin 1024) :
    View.ld (Val := Elt Ideal) (e' := .bf16) x2 (Rect.unit (s := S2640x1024) ![o, 0] (⟨2, ![n, 1024]⟩ : Shape).size h) (ix2 j d) = W d (rowN (o + j.val)) := by
  have hj : o + j.val < 2640 := by have := h 0; simp at this; omega
  rw [View.ld_unit_apply_of (S := S2640x1024) (Val := Elt Ideal) (e := .bf16) x2 ![o, 0] (⟨2, ![n, 1024]⟩ : Shape).size h (ix2 j d) (ix2 ⟨o + j.val, hj⟩ d) (by intro a; fin_cases a <;> simp), hb.h2]

/-- A load of a whole array. -/
theorem ld_full {n k : Nat} {e : EltTy} (x : (⟨2, ![n, k]⟩ : Shape).Idx → Elt Ideal e)
    (h : ∀ a, (![0, 0] : Fin 2 → Nat) a + (⟨2, ![n, k]⟩ : Shape).size a ≤ (⟨2, ![n, k]⟩ : Shape).size a) (i : Fin n) (j : Fin k) :
    View.ld (Val := Elt Ideal) (e' := e) x (Rect.unit (s := ⟨2, ![n, k]⟩) ![0, 0] (⟨2, ![n, k]⟩ : Shape).size h) (ix2 i j) = x (ix2 i j) := by
  exact View.ld_unit_apply_of x ![0, 0] (⟨2, ![n, k]⟩ : Shape).size h (ix2 i j) (ix2 i j) (by intro a; fin_cases a <;> simp)

section
include hb
theorem ldA0 (d : Fin 1024) (j : Fin 512) : View.ld (Val := Elt Ideal) (e' := .bf16) x1 r0_2 (ix2 d j) = W d j.val :=
  (ld_nat hb 0 inb_S1024x3200_S1024x512_0_0 d j (by omega)).trans (congrArg (W d) (by unfold colN; split_ifs <;> omega))
theorem ldA1 (d : Fin 1024) (j : Fin 512) : View.ld (Val := Elt Ideal) (e' := .bf16) x1 r0_3 (ix2 d j) = W d (512 + j.val) :=
  (ld_nat hb 512 inb_S1024x3200_S1024x512_0_512 d j (by omega)).trans (congrArg (W d) (by unfold colN; split_ifs <;> omega))
theorem ldA2 (d : Fin 1024) (j : Fin 512) : View.ld (Val := Elt Ideal) (e' := .bf16) x1 r0_4 (ix2 d j) = W d (1024 + j.val) :=
  (ld_nat hb 1024 inb_S1024x3200_S1024x512_0_1024 d j (by omega)).trans (congrArg (W d) (by unfold colN; split_ifs <;> omega))
theorem ldA3 (d : Fin 1024) (j : Fin 512) : View.ld (Val := Elt Ideal) (e' := .bf16) x1 r0_5 (ix2 d j) = W d (1536 + j.val) :=
  (ld_nat hb 1536 inb_S1024x3200_S1024x512_0_1536 d j (by omega)).trans (congrArg (W d) (by unfold colN; split_ifs <;> omega))
theorem ldA4 (d : Fin 1024) (j : Fin 512) : View.ld (Val := Elt Ideal) (e' := .bf16) x1 r0_11 (ix2 d j) = W d (2560 + j.val) :=
  (ld_nat hb 2048 inb_S1024x3200_S1024x512_0_2048 d j (by omega)).trans (congrArg (W d) (by unfold colN; split_ifs <;> omega))
theorem ldA5 (d : Fin 1024) (j : Fin 512) : View.ld (Val := Elt Ideal) (e' := .bf16) x1 r0_13 (ix2 d j) = W d (3584 + j.val) :=
  (ld_nat hb 2560 inb_S1024x3200_S1024x512_0_2560 d j (by omega)).trans (congrArg (W d) (by unfold colN; split_ifs <;> omega))
theorem ldA6 (d : Fin 1024) (j : Fin 128) (hj : j.val < 64) : View.ld (Val := Elt Ideal) (e' := .bf16) x1 r0_14 (ix2 d j) = W d (5120 + j.val) :=
  (ld_nat hb 3072 inb_S1024x3200_S1024x128_0_3072 d j (by omega)).trans (congrArg (W d) (by unfold colN; split_ifs <;> omega))
theorem ldB0 (j : Fin 512) (d : Fin 1024) : View.ld (Val := Elt Ideal) (e' := .bf16) x2 r0_18 (ix2 j d) = W d (2048 + j.val) :=
  (ld_tr hb 0 inb_S2640x1024_S512x1024_0_0 j d).trans (congrArg (W d) (by unfold rowN; split_ifs <;> omega))
theorem ldB1 (j : Fin 512) (d : Fin 1024) : View.ld (Val := Elt Ideal) (e' := .bf16) x2 r0_27 (ix2 j d) = W d (2560 + j.val) :=
  (ld_tr hb 512 inb_S2640x1024_S512x1024_512_0 j d).trans (congrArg (W d) (by unfold rowN; split_ifs <;> omega))
theorem ldB2 (j : Fin 512) (d : Fin 1024) : View.ld (Val := Elt Ideal) (e' := .bf16) x2 r0_44 (ix2 j d) = W d (3072 + j.val) :=
  (ld_tr hb 1024 inb_S2640x1024_S512x1024_1024_0 j d).trans (congrArg (W d) (by unfold rowN; split_ifs <;> omega))
theorem ldB3 (j : Fin 1024) (d : Fin 1024) : View.ld (Val := Elt Ideal) (e' := .bf16) x2 r0_48 (ix2 j d) = W d (4096 + j.val) :=
  (ld_tr hb 1536 inb_S2640x1024_S1024x1024_1536_0 j d).trans (congrArg (W d) (by unfold rowN; split_ifs <;> omega))
theorem ldB4 (j : Fin 16) (d : Fin 1024) : View.ld (Val := Elt Ideal) (e' := .bf16) x2 r0_81 (ix2 j d) = W d (5184 + j.val) :=
  (ld_tr hb 2560 inb_S2640x1024_S16x1024_2560_0 j d).trans (congrArg (W d) (by unfold rowN; split_ifs <;> omega))
theorem ldB5 (j : Fin 64) (d : Fin 1024) : View.ld (Val := Elt Ideal) (e' := .bf16) x2 r0_83 (ix2 j d) = W d (5120 + j.val) :=
  (ld_tr hb 2576 inb_S2640x1024_S64x1024_2576_0 j d).trans (congrArg (W d) (by unfold rowN; split_ifs <;> omega))

theorem ld0 (r : Fin 256) (d : Fin 1024) : View.ld (Val := Elt Ideal) (e' := .f32) x0 r0_0 (ix2 r d) = X r.val d :=
  (ld_full (e := .f32) x0 inb_S256x1024_S256x1024_0_0 r d).trans (hb.h0 r d)
theorem ld3 (j : Fin 512) : View.ld (Val := Elt Ideal) (e' := .f32) x3 r0_1 (ix2 0 j) = L j.val :=
  (ld_full (e := .f32) x3 inb_S1x512_S1x512_0_0 0 j).trans (hb.h3 j)
theorem ld4 (j : Fin 128) (hj : j.val < 64) : View.ld (Val := Elt Ideal) (e' := .f32) x4 r0_15 (ix2 0 j) = G j.val :=
  (ld_full (e := .f32) x4 inb_S1x128_S1x128_0_0 0 j).trans (hb.h4 j hj)
theorem ld5 (j : Fin 128) (hj : j.val < 64) : View.ld (Val := Elt Ideal) (e' := .f32) x5 r0_15 (ix2 0 j) = B j.val :=
  (ld_full (e := .f32) x5 inb_S1x128_S1x128_0_0 0 j).trans (hb.h5 j hj)
theorem ld6 (j : Fin 64) : View.ld (Val := Elt Ideal) (e' := .f32) x6 r0_84 (ix2 j 0) = G j.val :=
  (ld_full (e := .f32) x6 inb_S64x1_S64x1_0_0 j 0).trans (hb.h6 j)
theorem ld7 (j : Fin 64) : View.ld (Val := Elt Ideal) (e' := .f32) x7 r0_84 (ix2 j 0) = B j.val :=
  (ld_full (e := .f32) x7 inb_S64x1_S64x1_0_0 j 0).trans (hb.h7 j)
theorem ld8 (r : Fin 256) (j : Fin 128) : View.ld (Val := Elt Ideal) (e' := .f32) x8 r0_10 (ix2 r j) = cnAt (c r.val) j.val :=
  (ld_full (e := .f32) x8 inb_S256x128_S256x128_0_0 r j).trans (hb.h8 r j)
theorem ld9 (r : Fin 256) (j : Fin 128) : View.ld (Val := Elt Ideal) (e' := .f32) x9 r0_10 (ix2 r j) = saAt (s r.val) j.val :=
  (ld_full (e := .f32) x9 inb_S256x128_S256x128_0_0 r j).trans (hb.h9 r j)
theorem ld10 (r : Fin 256) (j : Fin 128) : View.ld (Val := Elt Ideal) (e' := .f32) x10 r0_10 (ix2 r j) = sbAt (s r.val) j.val :=
  (ld_full (e := .f32) x10 inb_S256x128_S256x128_0_0 r j).trans (hb.h10 r j)
theorem ld11 (d : Fin 8) (r : Fin 256) : View.ld (Val := Elt Ideal) (e' := .f32) x11 r0_17 (ix2 d r) = c r.val d.val :=
  (ld_full (e := .f32) x11 inb_S8x256_S8x256_0_0 d r).trans (hb.h11 d r)
theorem ld12 (d : Fin 8) (r : Fin 256) : View.ld (Val := Elt Ideal) (e' := .f32) x12 r0_17 (ix2 d r) = s r.val d.val :=
  (ld_full (e := .f32) x12 inb_S8x256_S8x256_0_0 d r).trans (hb.h12 d r)

end

/-! ## Over plain operands -/

section
variable (v0 : FVec Ideal S256x1024 .f32) (v2 : FVec Ideal S256x1024 .bf16) (w5 : FVec Ideal S1024x512 .bf16) (v3 : FVec Ideal S1x512 .f32) (k : Nat)
  (h0 : ∀ r d, v0 (ix2 r d) = X r.val d) (h2 : ∀ r d, v2 (ix2 r d) = X r.val d) (hw : ∀ d j, w5 (ix2 d j) = W d (k + j.val)) (h3 : ∀ j, v3 (ix2 0 j) = L j.val)

include h0 hw in
theorem pay5_of (r : Fin 256) (j : Fin 512) : k0_pay5 (F := Ideal) v0 w5 (ix2 r j) = silu (colB X W r.val (k + j.val)) := by
  pointwise [k0_pay5, k0_pay4, silu]
  simp only [h0, hw]

include h0 hw in
theorem pay6_of (r : Fin 256) (j : Fin 512) : k0_pay6 (F := Ideal) v0 w5 (ix2 r j) = colB X W r.val (k + j.val) := by
  pointwise [k0_pay6, k0_pay4]
  simp only [h0, hw]

theorem inv_log_two : (Named.named κ "inv_log_two" 0x3FB8AA3B#32 : Ideal .f32) = ((Real.log 2)⁻¹ : ℝ) := rfl

include h0 hw h3 in
theorem pay7_of (r : Fin 256) (j : Fin 512) : k0_pay7 (F := Ideal) v0 v3 w5 (ix2 r j) = decayAt (L j.val) (colB X W r.val (k + j.val)) := by
  pointwise [k0_pay7, decayAt]
  simp only [pay6_of v0 w5 k h0 hw, h3]
  rfl

include h0 hw h3 in
theorem pay8_of (r : Fin 256) (j : Fin 512) : k0_pay8 (F := Ideal) v0 v3 w5 (ix2 r j) = keyAt (L j.val) (colB X W r.val (k + j.val)) := by
  pointwise [k0_pay8, keyAt]
  simp only [pay6_of v0 w5 k h0 hw, h3, Cert.Rows.zero_sub]

include h0 hw in
theorem pay9_of (r : Fin 256) (j : Fin 512) : k0_pay9 (F := Ideal) v0 w5 (ix2 r j) = colB X W r.val (k + j.val) := by
  pointwise [k0_pay9, k0_pay4]
  simp only [h0, hw]

include h0 hw in
theorem pay10_of (r : Fin 256) (j : Fin 512) : k0_pay10 (F := Ideal) v0 w5 (ix2 r j) = silu (colB X W r.val (k + j.val)) := by
  pointwise [k0_pay10, k0_pay4, silu]
  simp only [h0, hw]

include h0 in
theorem pay4_of (r : Fin 256) (d : Fin 1024) : k0_pay4 (F := Ideal) v0 (ix2 r d) = X r.val d := by
  pointwise [k0_pay4]
  rw [h0]

include h2 hw in
theorem pay39_of (r : Fin 256) (j : Fin 512) : k0_pay39 (F := Ideal) (k0_pay38 v2 w5) (ix2 r j) = silu (colB X W r.val (k + j.val)) := by
  pointwise [k0_pay39, k0_pay38, silu]
  simp only [h2, hw]

variable (t8 t9 t10 : FVec Ideal S256x128 .f32) (h8 : ∀ r j, t8 (ix2 r j) = cnAt (c r.val) j.val) (h9 : ∀ r j, t9 (ix2 r j) = saAt (s r.val) j.val)
  (h10 : ∀ r j, t10 (ix2 r j) = sbAt (s r.val) j.val)

include h2 hw h8 h9 h10 in
/-- The keys, rotated by the three tables in four groups of lanes. -/
theorem pay37_of (r : Fin 256) (j : Fin 512) : k0_pay37 (F := Ideal) v2 (k0_pay34 t8) (k0_pay35 t9) t10 w5 (ix2 r j)
    = rope (fun d => colB X W r.val (k + (j.val / 64 * 64 + d))) (c r.val) (s r.val) (j.val % 64) := by
  pointwise [k0_pay37, k0_pay34, k0_pay35, k0_pay36]
  simp only [h2, hw, h8, h9, h10]
  split_ifs with a1 a2 a3
  · have e := tables_piece (fun n => colB X W r.val (k + n)) (c r.val) (s r.val) 0 j.val (by omega) (by decide)
    simp only [Nat.zero_add] at e
    exact e
  · refine (tables_piece (fun n => colB X W r.val (k + n)) (c r.val) (s r.val) 128 (j.val - 128) (by omega) (by decide)).trans ?_
    rw [show 128 + (j.val - 128) = j.val by omega]
  · refine (tables_piece (fun n => colB X W r.val (k + n)) (c r.val) (s r.val) 256 (j.val - 128 - 128) (by omega) (by decide)).trans ?_
    rw [show 256 + (j.val - 128 - 128) = j.val by omega]
  · refine (tables_piece (fun n => colB X W r.val (k + n)) (c r.val) (s r.val) 384 (j.val - 128 - 128 - 128) (by omega) (by decide)).trans ?_
    rw [show 384 + (j.val - 128 - 128 - 128) = j.val by omega]

variable (w1 : FVec Ideal S1024x128 .bf16) (g4 g5 : FVec Ideal S1x128 .f32) (hw1 : ∀ d (j : Fin 128), j.val < 64 → w1 (ix2 d j) = W d (k + j.val))
  (h4 : ∀ j : Fin 128, j.val < 64 → g4 (ix2 0 j) = G j.val) (h5 : ∀ j : Fin 128, j.val < 64 → g5 (ix2 0 j) = B j.val)

theorem mask_eq (x : Fin 128) : IntOp.cmpi .slt (BitVec.ofNat 32 x.val) 64#32 = if x.val < 64 then 1#1 else 0#1 := by
  revert x; decide

theorem select_mask (x : Fin 128) (a b : EReal) : Scalar.select (IntOp.cmpi .slt (BitVec.ofNat 32 x.val) 64#32) a b = if x.val < 64 then a else b := by
  rw [mask_eq]
  split_ifs <;> rfl

include h2 hw1 h4 h5 in
/-- The index key's norm. -/
theorem pay40_of (r : Fin 256) (j : Fin 128) (hj : j.val < 64) : k0_pay40 (F := Ideal) v2 w1 g4 g5 (ix2 r j) = lnorm (fun e => colB X W r.val (k + e)) G B j.val := by
  have hz : ∀ x : Fin 128, x.val < 64 → (∑ d, v2 (ix2 r d) * w1 (ix2 d x)) = colB X W r.val (k + x.val) := fun x hx => by
    refine Finset.sum_congr rfl fun d _ => ?_
    rw [h2, hw1 _ _ hx]
  have e : k0_pay40 (F := Ideal) v2 w1 g4 g5 (ix2 r j) = (if j.val < 64 then ((∑ d, v2 (ix2 r d) * w1 (ix2 d j)) - maskMean (fun x => ∑ d, v2 (ix2 r d) * w1 (ix2 d x)))
      * Ideal.rsqrt (maskMean (fun x => if x.val < 64 then ((∑ d, v2 (ix2 r d) * w1 (ix2 d x)) - maskMean (fun x => ∑ d, v2 (ix2 r d) * w1 (ix2 d x)))
        * ((∑ d, v2 (ix2 r d) * w1 (ix2 d x)) - maskMean (fun x => ∑ d, v2 (ix2 r d) * w1 (ix2 d x))) else 0) + eps) * g4 (ix2 0 j) else 0) + g5 (ix2 0 j) := by
    pointwise [k0_pay40]
    simp only [select_mask]
    unfold maskMean eps
    rfl
  rw [e, if_pos hj, maskMean_of _ (fun e => colB X W r.val (k + e)) hz, maskMean_of _ (fun e => (colB X W r.val (k + e) - mean (fun e => colB X W r.val (k + e))) * (colB X W r.val (k + e) - mean (fun e => colB X W r.val (k + e)))) (fun x hx => by rw [if_pos hx, hz x hx]),
    hz j hj, h4 j hj, h5 j hj]
  rfl

variable (nk : FVec Ideal S256x128 .f32) (z : Nat → Nat → EReal) (hn : ∀ r (j : Fin 128), j.val < 64 → nk (ix2 r j) = z r.val j.val)

include h2 hw1 h4 h5 h8 h9 h10 in
/-- The index keys, rotated by the three tables. -/
theorem pay43_of (r : Fin 256) (d : Fin 64) :
    k0_pay43 (F := Ideal) (k0_pay36 t10) (k0_pay40 v2 w1 g4 g5) (k0_pay41 v2 (k0_pay34 t8) w1 g4 g5) (k0_pay42 v2 (k0_pay35 t9) w1 g4 g5) (ix2 r d)
      = rope (lnorm (fun e => colB X W r.val (k + e)) G B) (c r.val) (s r.val) d.val := by
  pointwise [k0_pay43, k0_pay41, k0_pay42, k0_pay34, k0_pay35, k0_pay36]
  simp only [h8, h9, h10]
  have hk : ∀ n (h : n < 128), k0_pay40 (F := Ideal) v2 w1 g4 g5 (ix2 r ⟨n, h⟩) = (fun n => if h : n < 128 then k0_pay40 v2 w1 g4 g5 (ix2 r ⟨n, h⟩) else (0 : EReal)) n := fun n h => by beta_reduce; rw [dif_pos h]
  generalize hZ : (fun n => if h : n < 128 then k0_pay40 v2 w1 g4 g5 (ix2 r ⟨n, h⟩) else (0 : EReal)) = Z at hk
  rw [hk, hk, hk]
  refine (rope_tables Z (fun n => Z ((n + 128 - 120) % 128)) (fun n => Z ((n + 128 - 8) % 128)) (c r.val) (s r.val) d.val
    (fun h => congrArg Z (by omega)) (fun h h' => congrArg Z (by omega))).trans ?_
  rw [show d.val / 64 * 64 = 0 by omega, show d.val % 64 = d.val by omega]
  refine rope_congr _ _ _ _ _ d.isLt fun e he => ?_
  rw [Nat.zero_add, ← hk e (by omega)]
  exact pay40_of v2 k h2 w1 g4 g5 hw1 h4 h5 r ⟨e, by omega⟩ he

variable (p512 : FVec Ideal S512x1024 .bf16) (p1024 : FVec Ideal S1024x1024 .bf16) (p16 : FVec Ideal S16x1024 .bf16) (p64 : FVec Ideal S64x1024 .bf16)
  (hp512 : ∀ j d, p512 (ix2 j d) = W d (k + j.val)) (hp1024 : ∀ j d, p1024 (ix2 j d) = W d (k + j.val)) (hp16 : ∀ j d, p16 (ix2 j d) = W d (k + j.val))
  (hp64 : ∀ j d, p64 (ix2 j d) = W d (k + j.val))

include h2 hp512 in
theorem pay46_of (r : Fin 256) (j : Fin 512) : k0_pay46 (F := Ideal) v2 p512 (ix2 j r) = colB X W r.val (k + j.val) := by
  pointwise [k0_pay46]
  simp only [h2, hp512, mul_comm]
include h2 hp512 in
theorem pay55_of (r : Fin 256) (j : Fin 512) : k0_pay55 (F := Ideal) v2 p512 (ix2 j r) = colB X W r.val (k + j.val) := by
  pointwise [k0_pay55]
  simp only [h2, hp512, mul_comm]
include h2 hp512 in
theorem pay89_of (r : Fin 256) (j : Fin 512) : k0_pay89 (F := Ideal) v2 p512 (ix2 j r) = colB X W r.val (k + j.val) := by
  pointwise [k0_pay89]
  simp only [h2, hp512, mul_comm]
include h2 hp1024 in
theorem pay94_of (r : Fin 256) (j : Fin 1024) : k0_pay94 (F := Ideal) v2 p1024 (ix2 j r) = colB X W r.val (k + j.val) := by
  pointwise [k0_pay94]
  simp only [h2, hp1024, mul_comm]
include h2 hp16 in
theorem pay155_of (r : Fin 256) (j : Fin 16) : k0_pay155 (F := Ideal) v2 p16 (ix2 j r) = colB X W r.val (k + j.val) * Ideal.ofBits .f32 0x3D000000#32 := by
  pointwise [k0_pay155]
  simp only [h2, hp16]
  simp only [mul_comm (W _ _)]
include h2 hp64 in
theorem pay156_of (r : Fin 256) (j : Fin 64) : k0_pay156 (F := Ideal) v2 p64 (ix2 j r) = colB X W r.val (k + j.val) := by
  pointwise [k0_pay156]
  simp only [h2, hp64, mul_comm]

variable (q64 : FVec Ideal S64x256 .f32) (g6 g7 : FVec Ideal S64x1 .f32) (z : Nat → EReal)
  (h6 : ∀ j, g6 (ix2 j 0) = G j.val) (h7 : ∀ j, g7 (ix2 j 0) = B j.val)

include h6 h7 in
/-- The transposed index key's norm. -/
theorem pay157_of (r : Fin 256) (hq : ∀ j, q64 (ix2 j r) = z j.val) (j : Fin 64) : k0_pay157 (F := Ideal) q64 g6 g7 (ix2 j r) = lnorm z G B j.val := by
  pointwise [k0_pay157]
  simp only [hq, h6, h7]
  rw [sixty_four]
  rfl

end

/-! ## The pieces of a window -/

/-- A piece of a window, by the function whose values it holds. -/
theorem piece3 {α : Type} {n0 n1 n2 m1 m2 o0 o1 o2 : Nat} (inb : ∀ a, (![o0, o1, o2] : Fin 3 → Nat) a + (⟨3, ![1, m1, m2]⟩ : Shape).size a ≤ (⟨3, ![n0, n1, n2]⟩ : Shape).size a)
    (P : (⟨3, ![1, m1, m2]⟩ : Shape).Idx → α) (f : Nat → Nat → Nat → α) (h : ∀ (b : Fin m1) (e : Fin m2), P (ix3 0 b e) = f o0 (o1 + b.val) (o2 + e.val))
    (x : (⟨3, ![1, m1, m2]⟩ : Shape).Idx) :
    P x = (fun y : (⟨3, ![n0, n1, n2]⟩ : Shape).Idx => f (y 0).val (y 1).val (y 2).val)
      ((Rect.unit (s := ⟨3, ![n0, n1, n2]⟩) ![o0, o1, o2] (⟨3, ![1, m1, m2]⟩ : Shape).size inb).emb x) := by
  obtain ⟨p, b, e, rfl⟩ : ∃ (p : Fin 1) (b : Fin m1) (e : Fin m2), x = ix3 p b e := ⟨x 0, x 1, x 2, eq_ix3 x⟩
  obtain rfl : p = 0 := Subsingleton.elim _ _
  rw [h]
  have v := Rect.idx_unit_val (s := ⟨3, ![n0, n1, n2]⟩) ![o0, o1, o2] (⟨3, ![1, m1, m2]⟩ : Shape).size inb (ix3 0 b e)
  exact (congr (congr (congrArg f (v 0)) (v 1)) (v 2)).symm

theorem piece2 {α : Type} {n0 n1 m0 m1 o0 o1 : Nat} (inb : ∀ a, (![o0, o1] : Fin 2 → Nat) a + (⟨2, ![m0, m1]⟩ : Shape).size a ≤ (⟨2, ![n0, n1]⟩ : Shape).size a)
    (P : (⟨2, ![m0, m1]⟩ : Shape).Idx → α) (f : Nat → Nat → α) (h : ∀ (b : Fin m0) (e : Fin m1), P (ix2 b e) = f (o0 + b.val) (o1 + e.val))
    (x : (⟨2, ![m0, m1]⟩ : Shape).Idx) :
    P x = (fun y : (⟨2, ![n0, n1]⟩ : Shape).Idx => f (y 0).val (y 1).val)
      ((Rect.unit (s := ⟨2, ![n0, n1]⟩) ![o0, o1] (⟨2, ![m0, m1]⟩ : Shape).size inb).emb x) := by
  obtain ⟨b, e, rfl⟩ : ∃ (b : Fin m0) (e : Fin m1), x = ix2 b e := ⟨x 0, x 1, eq_ix2 x⟩
  rw [h]
  have v := Rect.idx_unit_val (s := ⟨2, ![n0, n1]⟩) ![o0, o1] (⟨2, ![m0, m1]⟩ : Shape).size inb (ix2 b e)
  exact (congr (congrArg f (v 0)) (v 1)).symm

/-- The four heads of a window, by their payloads. -/
theorem heads {e : EltTy} (P0 P1 P2 P3 : S1x256x128.Idx → Elt Ideal e) (f : Nat → Nat → Elt Ideal e)
    (h0 : ∀ (b : Fin 256) (l : Fin 128), P0 (ix3 0 b l) = f b.val (0 + l.val)) (h1 : ∀ (b : Fin 256) (l : Fin 128), P1 (ix3 0 b l) = f b.val (128 + l.val))
    (h2 : ∀ (b : Fin 256) (l : Fin 128), P2 (ix3 0 b l) = f b.val (256 + l.val)) (h3 : ∀ (b : Fin 256) (l : Fin 128), P3 (ix3 0 b l) = f b.val (384 + l.val))
    (y : S4x256x128.Idx) :
    View.canon (Val := Elt Ideal) (e := e) [⟨r0_9, P3⟩, ⟨r0_8, P2⟩, ⟨r0_7, P1⟩, ⟨r0_6, P0⟩] y = f (y 1).val ((y 0).val * 128 + (y 2).val) := by
  refine View.canon_apply_of_pieces (Val := Elt Ideal) (e := e) (fun y : S4x256x128.Idx => f (y 1).val ((y 0).val * 128 + (y 2).val)) _ ?_ y
    (View.cover_of_tiled (Val := Elt Ideal) (e := e) [⟨r0_9, P3⟩, ⟨r0_8, P2⟩, ⟨r0_7, P1⟩, ⟨r0_6, P0⟩] S1x256x128.size (by rfl) y)
  refine List.forall_mem_cons.2 ⟨piece3 inb_S4x256x128_S1x256x128_3_0_0 _ (fun a b l => f b (a * 128 + l)) fun b l => ?_, ?_⟩
  · simp only [h3, Nat.zero_add]
  refine List.forall_mem_cons.2 ⟨piece3 inb_S4x256x128_S1x256x128_2_0_0 _ (fun a b l => f b (a * 128 + l)) fun b l => ?_, ?_⟩
  · simp only [h2, Nat.zero_add]
  refine List.forall_mem_cons.2 ⟨piece3 inb_S4x256x128_S1x256x128_1_0_0 _ (fun a b l => f b (a * 128 + l)) fun b l => ?_, ?_⟩
  · simp only [h1, Nat.zero_add, Nat.one_mul]
  refine List.forall_mem_cons.2 ⟨piece3 inb_S4x256x128_S1x256x128_0_0_0 _ (fun a b l => f b (a * 128 + l)) fun b l => ?_, by simp⟩
  · simp only [h0, Nat.zero_add, Nat.zero_mul]

section
include hb
theorem out13_eq (y : S4x256x128.Idx) :
    out0_13 (F := Ideal) x0 x1 x2 x3 x4 x5 x6 x7 x8 x9 x10 x11 x12 y = silu (colB X W (y 1).val ((y 0).val * 128 + (y 2).val)) := by
  have hq : ∀ r j, k0_pay5 (F := Ideal) (View.ld x0 r0_0) (View.ld x1 r0_2) (ix2 r j) = silu (colB X W r.val (0 + j.val)) :=
    pay5_of _ _ 0 (ld0 hb) (fun d j => (ldA0 hb d j).trans (by rw [Nat.zero_add]))
  unfold out0_13 k0_pay164 k0_pay11
  generalize k0_pay5 (F := Ideal) (View.ld x0 r0_0) (View.ld x1 r0_2) = q at *
  refine heads (e := .bf16) _ _ _ _ (fun r j => silu (colB X W r j)) (fun b l => ?_) (fun b l => ?_) (fun b l => ?_) (fun b l => ?_) y <;>
    · pointwise [k0_pay12, k0_pay17, k0_pay23, k0_pay29]
      simp only [hq, Nat.zero_add]
theorem out0_14_eq (y : S4x256x128.Idx) :
    out0_14 (F := Ideal) x0 x1 x2 x3 x4 x5 x6 x7 x8 x9 x10 x11 x12 y = (fun r j => keyAt (L j) (colB X W r (512 + j))) (y 1).val ((y 0).val * 128 + (y 2).val) := by
  have hq := pay8_of _ _ _ 512 (ld0 hb) (ldA1 hb) (ld3 hb)
  unfold out0_14 k0_pay166
  generalize k0_pay8 (F := Ideal) (View.ld x0 r0_0) (View.ld x3 r0_1) (View.ld x1 r0_3) = q at *
  refine heads (e := .f32) _ _ _ _ (fun r j => keyAt (L j) (colB X W r (512 + j))) (fun b l => ?_) (fun b l => ?_) (fun b l => ?_) (fun b l => ?_) y <;>
    · pointwise [k0_pay13, k0_pay18, k0_pay24, k0_pay30]
      simp only [hq, Nat.zero_add]
theorem out0_15_eq (y : S4x256x128.Idx) :
    out0_15 (F := Ideal) x0 x1 x2 x3 x4 x5 x6 x7 x8 x9 x10 x11 x12 y = (fun r j => decayAt (L j) (colB X W r (512 + j))) (y 1).val ((y 0).val * 128 + (y 2).val) := by
  have hq := pay7_of _ _ _ 512 (ld0 hb) (ldA1 hb) (ld3 hb)
  unfold out0_15 k0_pay165
  generalize k0_pay7 (F := Ideal) (View.ld x0 r0_0) (View.ld x3 r0_1) (View.ld x1 r0_3) = q at *
  refine heads (e := .f32) _ _ _ _ (fun r j => decayAt (L j) (colB X W r (512 + j))) (fun b l => ?_) (fun b l => ?_) (fun b l => ?_) (fun b l => ?_) y <;>
    · pointwise [k0_pay14, k0_pay20, k0_pay19, k0_pay25, k0_pay31]
      simp only [hq, Nat.zero_add]
theorem out0_16_eq (y : S4x256x128.Idx) :
    out0_16 (F := Ideal) x0 x1 x2 x3 x4 x5 x6 x7 x8 x9 x10 x11 x12 y = (fun r j => colB X W r (1024 + j)) (y 1).val ((y 0).val * 128 + (y 2).val) := by
  have hq := pay9_of _ _ 1024 (ld0 hb) (ldA2 hb)
  unfold out0_16 k0_pay167
  generalize k0_pay9 (F := Ideal) (View.ld x0 r0_0) (View.ld x1 r0_4) = q at *
  refine heads (e := .bf16) _ _ _ _ (fun r j => colB X W r (1024 + j)) (fun b l => ?_) (fun b l => ?_) (fun b l => ?_) (fun b l => ?_) y <;>
    · pointwise [k0_pay15, k0_pay21, k0_pay26, k0_pay32]
      simp only [hq, Nat.zero_add]
theorem out0_17_eq (y : S4x256x128.Idx) :
    out0_17 (F := Ideal) x0 x1 x2 x3 x4 x5 x6 x7 x8 x9 x10 x11 x12 y = (fun r j => silu (colB X W r (1536 + j))) (y 1).val ((y 0).val * 128 + (y 2).val) := by
  have hq := pay10_of _ _ 1536 (ld0 hb) (ldA3 hb)
  unfold out0_17 k0_pay168
  generalize k0_pay10 (F := Ideal) (View.ld x0 r0_0) (View.ld x1 r0_5) = q at *
  refine heads (e := .bf16) _ _ _ _ (fun r j => silu (colB X W r (1536 + j))) (fun b l => ?_) (fun b l => ?_) (fun b l => ?_) (fun b l => ?_) y <;>
    · pointwise [k0_pay16, k0_pay22, k0_pay28, k0_pay27, k0_pay33]
      simp only [hq, Nat.zero_add]
end

end Cert.Kernel2Ideal.Proj

end
-- ==== Proof.ProjOut.lean ====
module

public import proofs.«01_k».proof.Proof.ProjPay

@[expose] public section

set_option maxRecDepth 16384

noncomputable section

namespace Cert.Kernel2Ideal.Proj

open Idealize.ShloMosaic Idealize.SL.Sem Cert.Kernel2Ideal Cert.Kernel2Ideal.Gen Cert.Rows

/-! # The projection's windows of rotated rows -/

/-- A row of a table whose rows rotate in groups of sixty-four. -/
def ropeAt (Z c s : Nat → Nat → EReal) (j n : Nat) : EReal := rope (fun d => Z n (j / 64 * 64 + d)) (c n) (s n) (j % 64)

theorem ropeAt_piece (Z c s : Nat → Nat → EReal) (o a n j m : Nat) (ha : a < 64) (ho : o % 64 = 0) (hj : o + a = j) (hm : n = m) :
    (if a < 8 then Z n (o + a) * c n a - Z n (o + (8 + a)) * s n a
      else if a - 8 < 8 then Z n (o + (a - 8)) * s n (a - 8) + Z n (o + (8 + (a - 8))) * c n (a - 8) else Z n (o + (16 + (a - 8 - 8)))) = ropeAt Z c s j m := by
  subst hj hm
  exact rope_piece (Z n) (c n) (s n) o a ha ho

theorem ropeAt_first (Z c s : Nat → Nat → EReal) (a n j m : Nat) (ha : a < 64) (hj : a = j) (hm : n = m) :
    (if a < 8 then Z n a * c n a - Z n (8 + a) * s n a
      else if a - 8 < 8 then Z n (a - 8) * s n (a - 8) + Z n (8 + (a - 8)) * c n (a - 8) else Z n (16 + (a - 8 - 8))) = ropeAt Z c s j m := by
  have h := ropeAt_piece Z c s 0 a n j m ha rfl (by omega) hm
  simpa only [Nat.zero_add] using h

section
variable {x0 : FVec Ideal S256x1024 .f32} {x1 : FVec Ideal S1024x3200 .bf16} {x2 : FVec Ideal S2640x1024 .bf16} {x3 : FVec Ideal S1x512 .f32}
    {x4 x5 : FVec Ideal S1x128 .f32} {x6 x7 : FVec Ideal S64x1 .f32} {x8 x9 x10 : FVec Ideal S256x128 .f32} {x11 x12 : FVec Ideal S8x256 .f32}
  (Z c s : Nat → Nat → EReal)
  (hc : ∀ d r, View.ld (Val := Elt Ideal) (e' := .f32) x11 r0_17 (ix2 d r) = c r.val d.val)
  (hs : ∀ d r, View.ld (Val := Elt Ideal) (e' := .f32) x12 r0_17 (ix2 d r) = s r.val d.val)

include hc hs in
theorem out0_21_of (hp : ∀ j r, k0_pay46 (F := Ideal) (k0_pay4 (View.ld x0 r0_0)) (View.ld x2 r0_18) (ix2 j r) = Z r.val j.val) (y : S512x256.Idx) :
    out0_21 (F := Ideal) x0 x1 x2 x3 x4 x5 x6 x7 x8 x9 x10 x11 x12 y = ropeAt Z c s (y 0).val (y 1).val * Ideal.ofBits .f32 0x3E000000#32 := by
  unfold out0_21 k0_pay173 k0_pay171 k0_pay172 k0_pay163
  generalize k0_pay4 (F := Ideal) (View.ld x0 r0_0) = v2 at *
  generalize View.ld (Val := Elt Ideal) (e' := .bf16) x2 r0_18 = p at *
  generalize View.ld (Val := Elt Ideal) (e' := .f32) x11 r0_17 = c8 at *
  generalize View.ld (Val := Elt Ideal) (e' := .f32) x12 r0_17 = s8 at *
  refine View.canon_apply_of_pieces (Val := Elt Ideal) (e := .bf16) (fun y : S512x256.Idx => ropeAt Z c s (y 0).val (y 1).val * Ideal.ofBits .f32 0x3E000000#32) _ ?_ y
    (cover0_21 _ _ _ _ _ _ _ _ y)
  iterate 8 (refine List.forall_mem_cons.2 ⟨piece2 (by decide) _ (fun a b => ropeAt Z c s a b * Ideal.ofBits .f32 0x3E000000#32) fun b e => ?_, ?_⟩; rotate_left)
  · simp
  all_goals
    pointwise [k0_pay47, k0_pay48, k0_pay49, k0_pay50, k0_pay51, k0_pay52, k0_pay53, k0_pay54, k0_pay44, k0_pay45]
    simp only [hp, hc, hs, Nat.zero_add]
    refine congrArg (· * Ideal.ofBits .f32 0x3E000000#32) ?_
    first
      | exact ropeAt_piece Z c s _ _ _ _ _ b.isLt (by decide) (by omega) (by omega)
      | exact ropeAt_first Z c s _ _ _ _ b.isLt (by omega) (by omega)

include hc hs in
theorem out0_25_of (hp : ∀ j r, k0_pay55 (F := Ideal) (k0_pay4 (View.ld x0 r0_0)) (View.ld x2 r0_27) (ix2 j r) = Z r.val j.val) (y : S2x512x128.Idx) :
    out0_25 (F := Ideal) x0 x1 x2 x3 x4 x5 x6 x7 x8 x9 x10 x11 x12 y = ropeAt Z c s (y 1).val ((y 0).val * 128 + (y 2).val) := by
  unfold out0_25 k0_pay175 k0_pay176 k0_pay177 k0_pay178 k0_pay179 k0_pay180 k0_pay174 k0_pay171 k0_pay172 k0_pay163
  generalize k0_pay4 (F := Ideal) (View.ld x0 r0_0) = v2 at *
  generalize View.ld (Val := Elt Ideal) (e' := .bf16) x2 r0_27 = p at *
  generalize View.ld (Val := Elt Ideal) (e' := .f32) x11 r0_17 = c8 at *
  generalize View.ld (Val := Elt Ideal) (e' := .f32) x12 r0_17 = s8 at *
  refine View.canon_apply_of_pieces (Val := Elt Ideal) (e := .f32) (fun y : S2x512x128.Idx => ropeAt Z c s (y 1).val ((y 0).val * 128 + (y 2).val)) _ ?_ y
    (cover0_25 _ _ _ _ _ _ _ _ _ _ _ _ _ _ _ _ y)
  iterate 16 (refine List.forall_mem_cons.2 ⟨piece3 (by decide) _ (fun p a b => ropeAt Z c s a (p * 128 + b)) fun b e => ?_, ?_⟩; rotate_left)
  · simp
  all_goals
    pointwise [k0_pay56, k0_pay57, k0_pay58, k0_pay59, k0_pay60, k0_pay61, k0_pay62, k0_pay63, k0_pay64, k0_pay65, k0_pay66, k0_pay67, k0_pay68, k0_pay69,
      k0_pay70, k0_pay71, k0_pay72, k0_pay73, k0_pay74, k0_pay75, k0_pay76, k0_pay77, k0_pay78, k0_pay79, k0_pay80, k0_pay81, k0_pay82, k0_pay83, k0_pay84,
      k0_pay85, k0_pay86, k0_pay87, k0_pay88, k0_pay44, k0_pay45]
    simp only [hp, hc, hs, Nat.zero_add]
    first
      | exact ropeAt_piece Z c s _ _ _ _ _ b.isLt (by decide) (by omega) (by omega)
      | exact ropeAt_first Z c s _ _ _ _ b.isLt (by omega) (by omega)

include hc hs in
theorem out0_23_of (hp : ∀ j r, k0_pay94 (F := Ideal) (k0_pay4 (View.ld x0 r0_0)) (View.ld x2 r0_48) (ix2 j r) = Z r.val j.val) (y : S2x64x2048.Idx) :
    out0_23 (F := Ideal) x0 x1 x2 x3 x4 x5 x6 x7 x8 x9 x10 x11 x12 y
      = ropeAt Z c s ((y 2).val / 128 * 64 + (y 1).val) ((y 0).val * 128 + (y 2).val % 128) := by
  unfold out0_23 k0_pay182 k0_pay183 k0_pay184 k0_pay185 k0_pay186 k0_pay187 k0_pay188 k0_pay189 k0_pay190 k0_pay181 k0_pay171 k0_pay172 k0_pay163
  generalize k0_pay4 (F := Ideal) (View.ld x0 r0_0) = v2 at *
  generalize View.ld (Val := Elt Ideal) (e' := .bf16) x2 r0_48 = p at *
  generalize View.ld (Val := Elt Ideal) (e' := .f32) x11 r0_17 = c8 at *
  generalize View.ld (Val := Elt Ideal) (e' := .f32) x12 r0_17 = s8 at *
  refine View.canon_apply_of_pieces (Val := Elt Ideal) (e := .bf16)
    (fun y : S2x64x2048.Idx => ropeAt Z c s ((y 2).val / 128 * 64 + (y 1).val) ((y 0).val * 128 + (y 2).val % 128)) _ ?_ y
    (cover0_23 _ _ _ _ _ _ _ _ _ _ _ _ _ _ _ _ _ _ _ _ _ _ _ _ _ _ _ _ _ _ _ _ y)
  iterate 32 (refine List.forall_mem_cons.2 ⟨piece3 (by decide) _ (fun p a b => ropeAt Z c s (b / 128 * 64 + a) (p * 128 + b % 128)) fun b e => ?_, ?_⟩; rotate_left)
  · simp
  all_goals
    pointwise [k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay44, k0_pay45]
    simp only [hp, hc, hs, Nat.zero_add]
    first
      | exact ropeAt_piece Z c s _ _ _ _ _ b.isLt (by decide) (by omega) (by omega)
      | exact ropeAt_first Z c s _ _ _ _ b.isLt (by omega) (by omega)

include hc hs in
theorem out0_27_of (hn : ∀ j r, k0_pay157 (F := Ideal) (k0_pay156 (k0_pay4 (View.ld x0 r0_0)) (View.ld x2 r0_83)) (View.ld x6 r0_84) (View.ld x7 r0_84) (ix2 j r) = Z r.val j.val)
    (y : S2x64x128.Idx) :
    out0_27 (F := Ideal) x0 x1 x2 x3 x4 x5 x6 x7 x8 x9 x10 x11 x12 y = ropeAt Z c s (y 1).val ((y 0).val * 128 + (y 2).val) := by
  unfold out0_27 k0_pay192 k0_pay193 k0_pay194 k0_pay195 k0_pay191 k0_pay171 k0_pay172 k0_pay163
  generalize k0_pay156 (F := Ideal) (k0_pay4 (View.ld x0 r0_0)) (View.ld x2 r0_83) = v2 at *
  generalize View.ld (Val := Elt Ideal) (e' := .f32) x6 r0_84 = g6 at *
  generalize View.ld (Val := Elt Ideal) (e' := .f32) x7 r0_84 = g7 at *
  generalize View.ld (Val := Elt Ideal) (e' := .f32) x11 r0_17 = c8 at *
  generalize View.ld (Val := Elt Ideal) (e' := .f32) x12 r0_17 = s8 at *
  refine View.canon_apply_of_pieces (Val := Elt Ideal) (e := .f32) (fun y : S2x64x128.Idx => ropeAt Z c s (y 1).val ((y 0).val * 128 + (y 2).val)) _ ?_ y
    (cover0_27 _ _ y)
  iterate 2 (refine List.forall_mem_cons.2 ⟨piece3 (by decide) _ (fun p a b => ropeAt Z c s a (p * 128 + b)) fun b e => ?_, ?_⟩; rotate_left)
  · simp
  all_goals
    pointwise [k0_pay1, k0_pay2, k0_pay3, k0_pay158, k0_pay159, k0_pay160, k0_pay161, k0_pay162, k0_pay44, k0_pay45]
    simp only [hn, hc, hs, Nat.zero_add]
    exact ropeAt_first Z c s _ _ _ _ b.isLt (by omega) (by omega)
end

section
variable {x0 : FVec Ideal S256x1024 .f32} {x1 : FVec Ideal S1024x3200 .bf16} {x2 : FVec Ideal S2640x1024 .bf16} {x3 : FVec Ideal S1x512 .f32}
    {x4 x5 : FVec Ideal S1x128 .f32} {x6 x7 : FVec Ideal S64x1 .f32} {x8 x9 x10 : FVec Ideal S256x128 .f32} {x11 x12 : FVec Ideal S8x256 .f32}
    {X : Nat → Fin 1024 → EReal} {W : Fin 1024 → Nat → EReal} {L G B : Nat → EReal} {c s : Nat → Nat → EReal}
    (hb : Blk x0 x1 x2 x3 x4 x5 x6 x7 x8 x9 x10 x11 x12 X W L G B c s)
include hb

theorem ldx (r : Fin 256) (d : Fin 1024) : k0_pay4 (F := Ideal) (View.ld x0 r0_0) (ix2 r d) = X r.val d := pay4_of _ (ld0 hb) r d

theorem out0_18_eq (y : S256x512.Idx) :
    out0_18 (F := Ideal) x0 x1 x2 x3 x4 x5 x6 x7 x8 x9 x10 x11 x12 y = ropeAt (fun r j => colB X W r (2560 + j)) c s (y 1).val (y 0).val := by
  unfold out0_18 k0_pay169 k0_pay170 k0_pay163
  refine View.canon_apply_of_pieces (Val := Elt Ideal) (e := .bf16) (fun y : S256x512.Idx => ropeAt (fun r j => colB X W r (2560 + j)) c s (y 1).val (y 0).val) _ ?_ y
    (cover0_18 _ y)
  refine List.forall_mem_cons.2 ⟨piece2 (by decide) _ (fun a b => ropeAt (fun r j => colB X W r (2560 + j)) c s b a) fun b e => ?_, by simp⟩
  rw [Nat.zero_add, Nat.zero_add]
  exact pay37_of _ _ 2560 (ldx hb) (ldA4 hb) _ _ _ (ld8 hb) (ld9 hb) (ld10 hb) b e

theorem out0_19_eq (y : S256x512.Idx) :
    out0_19 (F := Ideal) x0 x1 x2 x3 x4 x5 x6 x7 x8 x9 x10 x11 x12 y = silu (colB X W (y 0).val (3584 + (y 1).val)) := by
  unfold out0_19 k0_pay163
  refine View.canon_apply_of_pieces (Val := Elt Ideal) (e := .bf16) (fun y : S256x512.Idx => silu (colB X W (y 0).val (3584 + (y 1).val))) _ ?_ y (cover0_19 _ y)
  refine List.forall_mem_cons.2 ⟨piece2 (by decide) _ (fun a b => silu (colB X W a (3584 + b))) fun b e => ?_, by simp⟩
  rw [Nat.zero_add, Nat.zero_add]
  exact pay39_of _ _ 3584 (ldx hb) (ldA5 hb) b e

theorem out0_20_eq (y : S256x64.Idx) :
    out0_20 (F := Ideal) x0 x1 x2 x3 x4 x5 x6 x7 x8 x9 x10 x11 x12 y
      = rope (lnorm (fun e => colB X W (y 0).val (5120 + e)) G B) (c (y 0).val) (s (y 0).val) (y 1).val := by
  unfold out0_20 k0_pay169 k0_pay170 k0_pay163
  refine View.canon_apply_of_pieces (Val := Elt Ideal) (e := .bf16)
    (fun y : S256x64.Idx => rope (lnorm (fun e => colB X W (y 0).val (5120 + e)) G B) (c (y 0).val) (s (y 0).val) (y 1).val) _ ?_ y (cover0_20 _ y)
  refine List.forall_mem_cons.2 ⟨piece2 (by decide) _ (fun a b => rope (lnorm (fun e => colB X W a (5120 + e)) G B) (c a) (s a) b) fun b e => ?_, by simp⟩
  rw [Nat.zero_add, Nat.zero_add]
  exact pay43_of _ 5120 (ldx hb) _ _ _ (ld8 hb) (ld9 hb) (ld10 hb) _ _ _ (ldA6 hb) (ld4 hb) (ld5 hb) b e

theorem out0_21_eq (y : S512x256.Idx) :
    out0_21 (F := Ideal) x0 x1 x2 x3 x4 x5 x6 x7 x8 x9 x10 x11 x12 y
      = ropeAt (fun r j => colB X W r (2048 + j)) c s (y 0).val (y 1).val * Ideal.ofBits .f32 0x3E000000#32 :=
  out0_21_of _ c s (ld11 hb) (ld12 hb) (fun j r => pay46_of _ 2048 (ldx hb) _ (ldB0 hb) r j) y

theorem out0_22_eq (y : S512x256.Idx) :
    out0_22 (F := Ideal) x0 x1 x2 x3 x4 x5 x6 x7 x8 x9 x10 x11 x12 y = colB X W (y 1).val (3072 + (y 0).val) := by
  unfold out0_22 k0_pay163
  refine View.canon_apply_of_pieces (Val := Elt Ideal) (e := .bf16) (fun y : S512x256.Idx => colB X W (y 1).val (3072 + (y 0).val)) _ ?_ y (cover0_22 _ y)
  refine List.forall_mem_cons.2 ⟨piece2 (by decide) _ (fun a b => colB X W b (3072 + a)) fun b e => ?_, by simp⟩
  rw [Nat.zero_add, Nat.zero_add]
  exact pay89_of _ 3072 (ldx hb) _ (ldB2 hb) e b

theorem out0_23_eq (y : S2x64x2048.Idx) :
    out0_23 (F := Ideal) x0 x1 x2 x3 x4 x5 x6 x7 x8 x9 x10 x11 x12 y
      = ropeAt (fun r j => colB X W r (4096 + j)) c s ((y 2).val / 128 * 64 + (y 1).val) ((y 0).val * 128 + (y 2).val % 128) :=
  out0_23_of _ c s (ld11 hb) (ld12 hb) (fun j r => pay94_of _ 4096 (ldx hb) _ (ldB3 hb) r j) y

theorem out0_24_eq (y : S16x256.Idx) :
    out0_24 (F := Ideal) x0 x1 x2 x3 x4 x5 x6 x7 x8 x9 x10 x11 x12 y = colB X W (y 1).val (5184 + (y 0).val) * Ideal.ofBits .f32 0x3D000000#32 := by
  unfold out0_24 k0_pay163
  refine View.canon_apply_of_pieces (Val := Elt Ideal) (e := .f32) (fun y : S16x256.Idx => colB X W (y 1).val (5184 + (y 0).val) * Ideal.ofBits .f32 0x3D000000#32) _ ?_ y
    (cover0_24 _ y)
  refine List.forall_mem_cons.2 ⟨piece2 (by decide) _ (fun a b => colB X W b (5184 + a) * Ideal.ofBits .f32 0x3D000000#32) fun b e => ?_, by simp⟩
  rw [Nat.zero_add, Nat.zero_add]
  exact pay155_of _ 5184 (ldx hb) _ (ldB4 hb) e b

theorem out0_25_eq (y : S2x512x128.Idx) :
    out0_25 (F := Ideal) x0 x1 x2 x3 x4 x5 x6 x7 x8 x9 x10 x11 x12 y = ropeAt (fun r j => colB X W r (2560 + j)) c s (y 1).val ((y 0).val * 128 + (y 2).val) :=
  out0_25_of _ c s (ld11 hb) (ld12 hb) (fun j r => pay55_of _ 2560 (ldx hb) _ (ldB1 hb) r j) y

theorem out0_26_eq (y : S2x512x128.Idx) :
    out0_26 (F := Ideal) x0 x1 x2 x3 x4 x5 x6 x7 x8 x9 x10 x11 x12 y = colB X W ((y 0).val * 128 + (y 2).val) (3072 + (y 1).val) := by
  have hq : ∀ j r, k0_pay89 (F := Ideal) (k0_pay4 (View.ld x0 r0_0)) (View.ld x2 r0_44) (ix2 j r) = colB X W r.val (3072 + j.val) := fun j r =>
    pay89_of _ 3072 (ldx hb) _ (ldB2 hb) r j
  unfold out0_26 k0_pay163
  generalize k0_pay4 (F := Ideal) (View.ld x0 r0_0) = v2 at *
  generalize View.ld (Val := Elt Ideal) (e' := .bf16) x2 r0_44 = p at *
  refine View.canon_apply_of_pieces (Val := Elt Ideal) (e := .f32) (fun y : S2x512x128.Idx => colB X W ((y 0).val * 128 + (y 2).val) (3072 + (y 1).val)) _ ?_ y
    (cover0_26 _ _ y)
  iterate 2 (refine List.forall_mem_cons.2 ⟨piece3 (by decide) _ (fun p a b => colB X W (p * 128 + b) (3072 + a)) fun b e => ?_, ?_⟩; rotate_left)
  · simp
  all_goals
    pointwise [k0_pay91, k0_pay92, k0_pay93]
    simp only [hq, Nat.zero_add, Nat.zero_mul, Nat.one_mul]

theorem out0_27_eq (y : S2x64x128.Idx) :
    out0_27 (F := Ideal) x0 x1 x2 x3 x4 x5 x6 x7 x8 x9 x10 x11 x12 y
      = ropeAt (fun r => lnorm (fun e => colB X W r (5120 + e)) G B) c s (y 1).val ((y 0).val * 128 + (y 2).val) :=
  out0_27_of _ c s (ld11 hb) (ld12 hb)
    (fun j r => pay157_of _ _ _ _ (ld6 hb) (ld7 hb) r (fun j => pay156_of _ 5120 (ldx hb) _ (ldB5 hb) r j) j) y
end

end Cert.Kernel2Ideal.Proj

end
-- ==== Proof.ProjArr.lean ====
module

public import proofs.«01_k».proof.Proof.ProjOut
public import Idealize.ShloMosaic.Lib.StableHlo.ReadAt

@[expose] public section

set_option maxRecDepth 16384

noncomputable section

namespace Cert.Kernel2Ideal.Proj

open Idealize.ShloMosaic Idealize.SL.Sem Cert.Kernel2Ideal Cert.Kernel2Ideal.Gen Cert.Rows

/-! # The projection's output arrays -/

/-- A run of the weights' columns. -/
theorem slice_of {n : Nat} (w : FVec Ideal S1024x5200 .f32) (o : Nat) (h : S1024x5200.Slices ![0, o] ⟨2, ![1024, n]⟩) (d : Fin 1024) (j : Fin n) :
    (extractStridedSlice ⟨2, ![1024, n]⟩ ![0, o] w h : FVec Ideal ⟨2, ![1024, n]⟩ .f32) (ix2 d j) = wAt w d (o + j.val) := by
  have e := h.2 1
  rw [wAt, dif_pos (show o + j.val < 5200 from lt_of_lt_of_le (Nat.add_lt_add_left j.isLt o) e)]
  pointwise

/-- The natural-order columns, pasted. -/
theorem cat_nat (W : Fin 1024 → Nat → EReal) (A0 A1 A2 A3 A4 A5 : FVec Ideal S1024x512 .f32) (A6 A7 : FVec Ideal S1024x64 .f32)
    (h0 : ∀ d j, A0 (ix2 d j) = W d (0 + j.val)) (h1 : ∀ d j, A1 (ix2 d j) = W d (512 + j.val)) (h2 : ∀ d j, A2 (ix2 d j) = W d (1024 + j.val))
    (h3 : ∀ d j, A3 (ix2 d j) = W d (1536 + j.val)) (h4 : ∀ d j, A4 (ix2 d j) = W d (2560 + j.val)) (h5 : ∀ d j, A5 (ix2 d j) = W d (3584 + j.val))
    (h6 : ∀ d j, A6 (ix2 d j) = W d (5120 + j.val)) (d : Fin 1024) (j : Fin 3200) (hj : j.val < 3136) :
    (truncf .bf16 (concatenate S1024x3200 1 [⟨S1024x512, A0⟩, ⟨S1024x512, A1⟩, ⟨S1024x512, A2⟩, ⟨S1024x512, A3⟩, ⟨S1024x512, A4⟩, ⟨S1024x512, A5⟩, ⟨S1024x64, A6⟩, ⟨S1024x64, A7⟩]
      concatenates_S1024x512_S1024x512_S1024x512_S1024x512_S1024x512_S1024x512_S1024x64_S1024x64_S1024x3200_d1) bitsLt_bf16_f32 : FVec Ideal S1024x3200 .bf16) (ix2 d j) = W d (colN j.val) := by
  pointwise
  split_ifs <;> first | omega | exact (h0 _ _).trans (congrArg (W d) (by simp only [colN]; split_ifs <;> omega)) | exact (h1 _ _).trans (congrArg (W d) (by simp only [colN]; split_ifs <;> omega)) | exact (h2 _ _).trans (congrArg (W d) (by simp only [colN]; split_ifs <;> omega)) | exact (h3 _ _).trans (congrArg (W d) (by simp only [colN]; split_ifs <;> omega)) | exact (h4 _ _).trans (congrArg (W d) (by simp only [colN]; split_ifs <;> omega)) | exact (h5 _ _).trans (congrArg (W d) (by simp only [colN]; split_ifs <;> omega)) | exact (h6 _ _).trans (congrArg (W d) (by simp only [colN]; split_ifs <;> omega))

/-- The columns whose rows come first, pasted and transposed. -/
theorem cat_tr (W : Fin 1024 → Nat → EReal) (A0 A1 A2 : FVec Ideal S1024x512 .f32) (A3 : FVec Ideal S1024x1024 .f32) (A4 : FVec Ideal S1024x16 .f32) (A5 : FVec Ideal S1024x64 .f32)
    (h0 : ∀ d j, A0 (ix2 d j) = W d (2048 + j.val)) (h1 : ∀ d j, A1 (ix2 d j) = W d (2560 + j.val)) (h2 : ∀ d j, A2 (ix2 d j) = W d (3072 + j.val))
    (h3 : ∀ d j, A3 (ix2 d j) = W d (4096 + j.val)) (h4 : ∀ d j, A4 (ix2 d j) = W d (5184 + j.val)) (h5 : ∀ d j, A5 (ix2 d j) = W d (5120 + j.val))
    (j : Fin 2640) (d : Fin 1024) :
    (truncf .bf16 (transpose S2640x1024 [1, 0] (concatenate S1024x2640 1 [⟨S1024x512, A0⟩, ⟨S1024x512, A1⟩, ⟨S1024x512, A2⟩, ⟨S1024x1024, A3⟩, ⟨S1024x16, A4⟩, ⟨S1024x64, A5⟩]
      concatenates_S1024x512_S1024x512_S1024x512_S1024x1024_S1024x16_S1024x64_S1024x2640_d1) transposes_S1024x2640_S2640x1024_1_0) bitsLt_bf16_f32 : FVec Ideal S2640x1024 .bf16) (ix2 j d) = W d (rowN j.val) := by
  pointwise
  split_ifs <;> first | omega | exact (h0 _ _).trans (congrArg (W d) (by simp only [rowN]; split_ifs <;> omega)) | exact (h1 _ _).trans (congrArg (W d) (by simp only [rowN]; split_ifs <;> omega)) | exact (h2 _ _).trans (congrArg (W d) (by simp only [rowN]; split_ifs <;> omega)) | exact (h3 _ _).trans (congrArg (W d) (by simp only [rowN]; split_ifs <;> omega)) | exact (h4 _ _).trans (congrArg (W d) (by simp only [rowN]; split_ifs <;> omega)) | exact (h5 _ _).trans (congrArg (W d) (by simp only [rowN]; split_ifs <;> omega))

/-- A table's two halves, pasted twice. -/
theorem cat_two (T : Nat → Nat → EReal) (A0 A1 : FVec Ideal S2048x8 .f32) (A2 : FVec Ideal S2048x48 .f32) (h0 : ∀ p j, A0 (ix2 p j) = T p.val j.val)
    (h1 : ∀ p j, A1 (ix2 p j) = T p.val (8 + j.val)) (h2 : ∀ p j, A2 (ix2 p j) = T p.val (16 + j.val)) (p : Fin 2048) (j : Fin 128) :
    (concatenate S2048x128 1
      [⟨S2048x64, concatenate S2048x64 1 [⟨S2048x8, A0⟩, ⟨S2048x8, A1⟩, ⟨S2048x48, A2⟩] concatenates_S2048x8_S2048x8_S2048x48_S2048x64_d1⟩,
       ⟨S2048x64, concatenate S2048x64 1 [⟨S2048x8, A0⟩, ⟨S2048x8, A1⟩, ⟨S2048x48, A2⟩] concatenates_S2048x8_S2048x8_S2048x48_S2048x64_d1⟩]
      concatenates_S2048x64_S2048x64_S2048x128_d1 : FVec Ideal S2048x128 .f32) (ix2 p j) = T p.val (j.val % 64) := by
  pointwise
  split_ifs <;> first | omega | exact (h0 _ _).trans (congrArg (T p.val) (by simp only; omega)) | exact (h1 _ _).trans (congrArg (T p.val) (by simp only; omega)) | exact (h2 _ _).trans (congrArg (T p.val) (by simp only; omega))

/-- The tables' entries. -/
theorem cos_of (q : IVec ⟨1, ![2048]⟩ 32) (p : Fin 2048) (d : Nat) :
    Ideal.cos (FloatOps.sitofp (F := Ideal) .f32 (q (ix1 p))
      * Ideal.pow (Ideal.ofBits .f32 0x48F42400#32) (Ideal.div (-(FloatOps.sitofp (F := Ideal) .f32 (BitVec.ofNat 32 d))) (Ideal.ofBits .f32 0x41000000#32)))
      = cosAt q p.val d := by
  rw [cosAt, angle, Nat.mod_eq_of_lt p.isLt, dif_pos p.isLt]
theorem sin_of (q : IVec ⟨1, ![2048]⟩ 32) (p : Fin 2048) (d : Nat) :
    Ideal.sin (FloatOps.sitofp (F := Ideal) .f32 (q (ix1 p))
      * Ideal.pow (Ideal.ofBits .f32 0x48F42400#32) (Ideal.div (-(FloatOps.sitofp (F := Ideal) .f32 (BitVec.ofNat 32 d))) (Ideal.ofBits .f32 0x41000000#32)))
      = sinAt q p.val d := by
  rw [sinAt, angle, Nat.mod_eq_of_lt p.isLt, dif_pos p.isLt]

theorem cn_lo (c : Nat → EReal) (j : Fin 8) : c j.val = cnAt c j.val := by unfold cnAt; rw [if_pos (by omega), Nat.mod_eq_of_lt (by omega)]
theorem cn_mid (c : Nat → EReal) (j : Fin 8) : c j.val = cnAt c (8 + j.val) := by
  unfold cnAt; rw [if_neg (by omega), if_pos (by omega)]; exact congrArg c (by omega)
theorem cn_hi (c : Nat → EReal) (j : Fin 48) : 1 = cnAt c (16 + j.val) := by unfold cnAt; rw [if_neg (by omega), if_neg (by omega)]
theorem sa_lo (s : Nat → EReal) (j : Fin 8) : -s j.val = saAt s j.val := by unfold saAt; rw [if_pos (by omega), Nat.mod_eq_of_lt (by omega)]
theorem sa_mid (s : Nat → EReal) (j : Fin 8) : 0 = saAt s (8 + j.val) := by unfold saAt; rw [if_neg (by omega)]
theorem sa_hi (s : Nat → EReal) (j : Fin 48) : 0 = saAt s (16 + j.val) := by unfold saAt; rw [if_neg (by omega)]
theorem sb_lo (s : Nat → EReal) (j : Fin 8) : 0 = sbAt s j.val := by unfold sbAt; rw [if_pos (by omega)]
theorem sb_mid (s : Nat → EReal) (j : Fin 8) : s j.val = sbAt s (8 + j.val) := by
  unfold sbAt; rw [if_neg (by omega), if_pos (by omega)]; exact congrArg s (by omega)
theorem sb_hi (s : Nat → EReal) (j : Fin 48) : 0 = sbAt s (16 + j.val) := by unfold sbAt; rw [if_neg (by omega), if_neg (by omega)]

section
variable (m : (ℓ : Loc nD τ sig) → Buf (Elt Ideal) ℓ) (c : Dev nD)

abbrev aX : FVec Ideal ⟨3, ![8, 2048, 1024]⟩ .f32 := m ((c.tc : Thread nD τ).loc main_arg0)
abbrev aW : FVec Ideal ⟨2, ![1024, 5200]⟩ .f32 := m ((c.tc : Thread nD τ).loc main_arg1)
abbrev aL : FVec Ideal ⟨2, ![1, 512]⟩ .f32 := m ((c.tc : Thread nD τ).loc main_arg2)
abbrev aG : FVec Ideal ⟨1, ![64]⟩ .f32 := m ((c.tc : Thread nD τ).loc main_arg3)
abbrev aB : FVec Ideal ⟨1, ![64]⟩ .f32 := m ((c.tc : Thread nD τ).loc main_arg4)
abbrev aP : IVec ⟨1, ![2048]⟩ 32 := m ((c.tc : Thread nD τ).loc main_arg5)

theorem wAt_of (w : FVec Ideal ⟨2, ![1024, 5200]⟩ .f32) (d : Fin 1024) (j : Fin 5200) : w (ix2 d j) = wAt w d j.val := by
  rw [wAt, dif_pos j.isLt]

theorem host0 (n : Fin 16384) (d : Fin 1024) : V m c main_v17 (ix2 n d) = xAt (aX m c) n.val d := by
  entry_read
  pointwise [xAt]

theorem host1 (d : Fin 1024) (j : Fin 3200) (hj : j.val < 3136) : V m c main_v13 (ix2 d j) = wAt (aW m c) d (colN j.val) := by
  unfold V
  after_reads_simp
  refine cat_nat (wAt (aW m c)) _ _ _ _ _ _ _ _ ?_ ?_ ?_ ?_ ?_ ?_ ?_ d j hj <;> intro d j <;> dsimp only [Matrix.cons_val] <;> after_reads_simp
  all_goals exact slice_of _ _ _ _ _

theorem host2 (j : Fin 2640) (d : Fin 1024) : V m c main_v16 (ix2 j d) = wAt (aW m c) d (rowN j.val) := by
  unfold V
  after_reads_simp
  refine cat_tr (wAt (aW m c)) _ _ _ _ _ _ ?_ ?_ ?_ ?_ ?_ ?_ j d <;> intro d j <;> dsimp only [Matrix.cons_val] <;> after_reads_simp
  all_goals exact slice_of _ _ _ _ _

theorem host8 (p : Fin 2048) (j : Fin 128) : V m c main_v39 (ix2 p j) = cnAt (cosAt (aP m c) p.val) j.val := by
  unfold V
  after_reads_simp
  refine (cat_two (fun p j => cnAt (cosAt (aP m c) p) j) _ _ _ (fun p j => ?_) (fun p j => ?_) (fun p j => ?_) p j).trans ?_
  · dsimp only [Matrix.cons_val]; after_reads_simp; clean_types; pointwise
    exact (cos_of (aP m c) p j.val).trans (cn_lo _ j)
  · dsimp only [Matrix.cons_val]; after_reads_simp; clean_types; pointwise
    exact (cos_of (aP m c) p j.val).trans (cn_mid _ j)
  · dsimp only [Matrix.cons_val]; after_reads_simp; clean_types; pointwise
    exact cn_hi _ j
  · simp only [cnAt, Nat.mod_mod]

theorem host9 (p : Fin 2048) (j : Fin 128) : V m c main_v40 (ix2 p j) = saAt (sinAt (aP m c) p.val) j.val := by
  unfold V
  after_reads_simp
  refine (cat_two (fun p j => saAt (sinAt (aP m c) p) j) _ _ _ (fun p j => ?_) (fun p j => ?_) (fun p j => ?_) p j).trans ?_
  · dsimp only [Matrix.cons_val]; after_reads_simp; clean_types; pointwise
    exact (congrArg Neg.neg (sin_of (aP m c) p j.val)).trans (sa_lo _ j)
  · dsimp only [Matrix.cons_val]; after_reads_simp; clean_types; pointwise
    exact sa_mid _ j
  · dsimp only [Matrix.cons_val]; after_reads_simp; clean_types; pointwise
    exact sa_hi _ j
  · simp only [saAt, Nat.mod_mod]

theorem host10 (p : Fin 2048) (j : Fin 128) : V m c main_v41 (ix2 p j) = sbAt (sinAt (aP m c) p.val) j.val := by
  unfold V
  after_reads_simp
  refine (cat_two (fun p j => sbAt (sinAt (aP m c) p) j) _ _ _ (fun p j => ?_) (fun p j => ?_) (fun p j => ?_) p j).trans ?_
  · dsimp only [Matrix.cons_val]; after_reads_simp; clean_types; pointwise
    exact sb_lo _ j
  · dsimp only [Matrix.cons_val]; after_reads_simp; clean_types; pointwise
    exact (sin_of (aP m c) p j.val).trans (sb_mid _ j)
  · dsimp only [Matrix.cons_val]; after_reads_simp; clean_types; pointwise
    exact sb_hi _ j
  · simp only [sbAt, Nat.mod_mod]

theorem host11 (d : Fin 8) (p : Fin 2048) : V m c main_v42 (ix2 d p) = cosAt (aP m c) p.val d.val := by
  unfold V
  after_reads_simp
  clean_types
  pointwise
  exact cos_of (aP m c) p d.val

theorem host12 (d : Fin 8) (p : Fin 2048) : V m c main_v43 (ix2 d p) = sinAt (aP m c) p.val d.val := by
  unfold V
  after_reads_simp
  clean_types
  pointwise
  exact sin_of (aP m c) p d.val

theorem host4 (j : Fin 128) (hj : j.val < 64) : V m c main_v46 (ix2 0 j) = vecAt (aG m c) j.val := by
  rw [vecAt, dif_pos hj]
  unfold V
  after_reads_at
  rw [dif_pos hj]
  after_reads_simp

theorem host5 (j : Fin 128) (hj : j.val < 64) : V m c main_v48 (ix2 0 j) = vecAt (aB m c) j.val := by
  rw [vecAt, dif_pos hj]
  unfold V
  after_reads_at
  rw [dif_pos hj]
  after_reads_simp

theorem host6 (j : Fin 64) : V m c main_v49 (ix2 j 0) = vecAt (aG m c) j.val := by
  rw [vecAt, dif_pos j.isLt]
  unfold V
  after_reads_at

theorem host7 (j : Fin 64) : V m c main_v50 (ix2 j 0) = vecAt (aB m c) j.val := by
  rw [vecAt, dif_pos j.isLt]
  unfold V
  after_reads_at

/-! ## The blocks -/

theorem idx_in : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val % 8, 0] ∧ win0_9.index t = ![t.val % 8, 0]
    ∧ win0_10.index t = ![t.val % 8, 0] ∧ win0_11.index t = ![0, t.val % 8] ∧ win0_12.index t = ![0, t.val % 8] := by
  decide +kernel

theorem idx_out : ∀ t : Fin cfg0.N, win0_13.index t = ![0, t.val, 0] ∧ win0_14.index t = ![0, t.val, 0] ∧ win0_15.index t = ![0, t.val, 0] ∧ win0_16.index t = ![0, t.val, 0]
    ∧ win0_17.index t = ![0, t.val, 0] ∧ win0_18.index t = ![t.val, 0] ∧ win0_19.index t = ![t.val, 0] ∧ win0_20.index t = ![t.val, 0] ∧ win0_21.index t = ![0, t.val]
    ∧ win0_22.index t = ![0, t.val] ∧ win0_23.index t = ![t.val, 0, 0] ∧ win0_24.index t = ![0, t.val] ∧ win0_25.index t = ![t.val, 0, 0] ∧ win0_26.index t = ![t.val, 0, 0]
    ∧ win0_27.index t = ![t.val, 0, 0] := by
  decide +kernel

theorem cos_mod (q : IVec ⟨1, ![2048]⟩ 32) (a b d : Nat) (h : a % 2048 = b % 2048) : cosAt q a d = cosAt q b d := by rw [cosAt, cosAt, h]
theorem sin_mod (q : IVec ⟨1, ![2048]⟩ 32) (a b d : Nat) (h : a % 2048 = b % 2048) : sinAt q a d = sinAt q b d := by rw [sinAt, sinAt, h]

theorem read0 (v : FVec Ideal S16384x1024 .f32) (t : Fin cfg0.N) (r : Fin 256) (d : Fin 1024) :
    ((cfg0.win 0).blk t).view.read (Elt Ideal) v (ix2 r d) = v (ix2 ⟨256 * t.val + r.val, by have := t.isLt; change t.val < 64 at this; omega⟩ d) := by
  blk_ext [idx_in t]
theorem read1 (v : FVec Ideal S1024x3200 .bf16) (t : Fin cfg0.N) (d : Fin 1024) (j : Fin 3200) :
    ((cfg0.win 1).blk t).view.read (Elt Ideal) v (ix2 d j) = v (ix2 d j) := by
  blk_ext [idx_in t]
theorem read2 (v : FVec Ideal S2640x1024 .bf16) (t : Fin cfg0.N) (j : Fin 2640) (d : Fin 1024) :
    ((cfg0.win 2).blk t).view.read (Elt Ideal) v (ix2 j d) = v (ix2 j d) := by
  blk_ext [idx_in t]
theorem read3 (v : FVec Ideal S1x512 .f32) (t : Fin cfg0.N) (j : Fin 512) :
    ((cfg0.win 3).blk t).view.read (Elt Ideal) v (ix2 0 j) = v (ix2 0 j) := by
  blk_ext [idx_in t]
theorem read4 (v : FVec Ideal S1x128 .f32) (t : Fin cfg0.N) (j : Fin 128) :
    ((cfg0.win 4).blk t).view.read (Elt Ideal) v (ix2 0 j) = v (ix2 0 j) := by
  blk_ext [idx_in t]
theorem read5 (v : FVec Ideal S1x128 .f32) (t : Fin cfg0.N) (j : Fin 128) :
    ((cfg0.win 5).blk t).view.read (Elt Ideal) v (ix2 0 j) = v (ix2 0 j) := by
  blk_ext [idx_in t]
theorem read6 (v : FVec Ideal S64x1 .f32) (t : Fin cfg0.N) (j : Fin 64) :
    ((cfg0.win 6).blk t).view.read (Elt Ideal) v (ix2 j 0) = v (ix2 j 0) := by
  blk_ext [idx_in t]
theorem read7 (v : FVec Ideal S64x1 .f32) (t : Fin cfg0.N) (j : Fin 64) :
    ((cfg0.win 7).blk t).view.read (Elt Ideal) v (ix2 j 0) = v (ix2 j 0) := by
  blk_ext [idx_in t]
theorem read8 (v : FVec Ideal S2048x128 .f32) (t : Fin cfg0.N) (r : Fin 256) (j : Fin 128) :
    ((cfg0.win 8).blk t).view.read (Elt Ideal) v (ix2 r j) = v (ix2 ⟨256 * (t.val % 8) + r.val, by omega⟩ j) := by
  blk_ext [idx_in t]
theorem read9 (v : FVec Ideal S2048x128 .f32) (t : Fin cfg0.N) (r : Fin 256) (j : Fin 128) :
    ((cfg0.win 9).blk t).view.read (Elt Ideal) v (ix2 r j) = v (ix2 ⟨256 * (t.val % 8) + r.val, by omega⟩ j) := by
  blk_ext [idx_in t]
theorem read10 (v : FVec Ideal S2048x128 .f32) (t : Fin cfg0.N) (r : Fin 256) (j : Fin 128) :
    ((cfg0.win 10).blk t).view.read (Elt Ideal) v (ix2 r j) = v (ix2 ⟨256 * (t.val % 8) + r.val, by omega⟩ j) := by
  blk_ext [idx_in t]
theorem read11 (v : FVec Ideal S8x2048 .f32) (t : Fin cfg0.N) (d : Fin 8) (r : Fin 256) :
    ((cfg0.win 11).blk t).view.read (Elt Ideal) v (ix2 d r) = v (ix2 d ⟨256 * (t.val % 8) + r.val, by omega⟩) := by
  blk_ext [idx_in t]
theorem read12 (v : FVec Ideal S8x2048 .f32) (t : Fin cfg0.N) (d : Fin 8) (r : Fin 256) :
    ((cfg0.win 12).blk t).view.read (Elt Ideal) v (ix2 d r) = v (ix2 d ⟨256 * (t.val % 8) + r.val, by omega⟩) := by
  blk_ext [idx_in t]

/-- A grid point's blocks hold its tokens. -/
theorem blk (t : Fin cfg0.N) :
    Blk (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (fun r => xAt (aX m c) (256 * t.val + r)) (wAt (aW m c)) (lbAt (aL m c)) (vecAt (aG m c)) (vecAt (aB m c))
      (fun r => cosAt (aP m c) (256 * t.val + r)) (fun r => sinAt (aP m c) (256 * t.val + r)) where
  h0 r d := (read0 (V m c main_v17) t r d).trans (host0 m c _ d)
  h1 d j hj := (read1 (V m c main_v13) t d j).trans (host1 m c d j hj)
  h2 j d := (read2 (V m c main_v16) t j d).trans (host2 m c j d)
  h3 j := (read3 (V m c main_arg2) t j).trans ((congrFun (V_main_arg2 m c) _).trans (by rw [lbAt, dif_pos j.isLt]))
  h4 j hj := (read4 (V m c main_v46) t j).trans (host4 m c j hj)
  h5 j hj := (read5 (V m c main_v48) t j).trans (host5 m c j hj)
  h6 j := (read6 (V m c main_v49) t j).trans (host6 m c j)
  h7 j := (read7 (V m c main_v50) t j).trans (host7 m c j)
  h8 r j := (read8 (V m c main_v39) t r j).trans ((host8 m c _ j).trans (congrArg (cnAt · j.val) (funext fun d => cos_mod _ _ _ d (by simp only; omega))))
  h9 r j := (read9 (V m c main_v40) t r j).trans ((host9 m c _ j).trans (congrArg (saAt · j.val) (funext fun d => sin_mod _ _ _ d (by simp only; omega))))
  h10 r j := (read10 (V m c main_v41) t r j).trans ((host10 m c _ j).trans (congrArg (sbAt · j.val) (funext fun d => sin_mod _ _ _ d (by simp only; omega))))
  h11 d r := (read11 (V m c main_v42) t d r).trans ((host11 m c d _).trans (cos_mod _ _ _ _ (by simp only; omega)))
  h12 d r := (read12 (V m c main_v43) t d r).trans ((host12 m c d _).trans (sin_mod _ _ _ _ (by simp only; omega)))

/-! ## The arrays -/

theorem arr13 : (dats m 0 c).arrAt 13 cfg0.N = arrQ (aX m c) (aW m c) := by
  refine (dats m 0 c).arrAt_eq_of_covers 13 _ (by decide +kernel) fun t hf y => ?_
  have ht : t.val < 64 := t.isLt
  have hy : (y 1).val < 256 := (y 1).isLt
  blk_simp
  rw [after0_13]
  refine (out13_eq (blk m c t) y).trans (Eq.trans ?_ (congrArg (arrQ (aX m c) (aW m c)) (?_ : ix3 (y 0) ⟨256 * t.val + (y 1).val, by omega⟩ (y 2) = _)))
  · rfl
  · blk_ext [idx_out t]

theorem arr14 : (dats m 0 c).arrAt 14 cfg0.N = arrK (aX m c) (aW m c) (aL m c) := by
  refine (dats m 0 c).arrAt_eq_of_covers 14 _ (by decide +kernel) fun t hf y => ?_
  have ht : t.val < 64 := t.isLt
  have hy : (y 1).val < 256 := (y 1).isLt
  blk_simp
  rw [after0_14]
  refine (out0_14_eq (blk m c t) y).trans (Eq.trans ?_ (congrArg (arrK (aX m c) (aW m c) (aL m c)) (?_ : ix3 (y 0) ⟨256 * t.val + (y 1).val, by omega⟩ (y 2) = _)))
  · rfl
  · blk_ext [idx_out t]

theorem arr15 : (dats m 0 c).arrAt 15 cfg0.N = arrG (aX m c) (aW m c) (aL m c) := by
  refine (dats m 0 c).arrAt_eq_of_covers 15 _ (by decide +kernel) fun t hf y => ?_
  have ht : t.val < 64 := t.isLt
  have hy : (y 1).val < 256 := (y 1).isLt
  blk_simp
  rw [after0_15]
  refine (out0_15_eq (blk m c t) y).trans (Eq.trans ?_ (congrArg (arrG (aX m c) (aW m c) (aL m c)) (?_ : ix3 (y 0) ⟨256 * t.val + (y 1).val, by omega⟩ (y 2) = _)))
  · rfl
  · blk_ext [idx_out t]

theorem arr16 : (dats m 0 c).arrAt 16 cfg0.N = arrV (aX m c) (aW m c) := by
  refine (dats m 0 c).arrAt_eq_of_covers 16 _ (by decide +kernel) fun t hf y => ?_
  have ht : t.val < 64 := t.isLt
  have hy : (y 1).val < 256 := (y 1).isLt
  blk_simp
  rw [after0_16]
  refine (out0_16_eq (blk m c t) y).trans (Eq.trans ?_ (congrArg (arrV (aX m c) (aW m c)) (?_ : ix3 (y 0) ⟨256 * t.val + (y 1).val, by omega⟩ (y 2) = _)))
  · rfl
  · blk_ext [idx_out t]

theorem arr17 : (dats m 0 c).arrAt 17 cfg0.N = arrGate (aX m c) (aW m c) := by
  refine (dats m 0 c).arrAt_eq_of_covers 17 _ (by decide +kernel) fun t hf y => ?_
  have ht : t.val < 64 := t.isLt
  have hy : (y 1).val < 256 := (y 1).isLt
  blk_simp
  rw [after0_17]
  refine (out0_17_eq (blk m c t) y).trans (Eq.trans ?_ (congrArg (arrGate (aX m c) (aW m c)) (?_ : ix3 (y 0) ⟨256 * t.val + (y 1).val, by omega⟩ (y 2) = _)))
  · rfl
  · blk_ext [idx_out t]

theorem arr18 : (dats m 0 c).arrAt 18 cfg0.N = arrKb (aX m c) (aW m c) (aP m c) := by
  refine (dats m 0 c).arrAt_eq_of_covers 18 _ (by decide +kernel) fun t hf y => ?_
  have ht : t.val < 64 := t.isLt
  have hy : (y 0).val < 256 := (y 0).isLt
  blk_simp
  rw [after0_18]
  refine (out0_18_eq (blk m c t) y).trans (Eq.trans ?_ (congrArg (arrKb (aX m c) (aW m c) (aP m c)) (?_ : ix2 ⟨256 * t.val + (y 0).val, by omega⟩ (y 1) = _)))
  · rfl
  · blk_ext [idx_out t]

theorem arr19 : (dats m 0 c).arrAt 19 cfg0.N = arrGb (aX m c) (aW m c) := by
  refine (dats m 0 c).arrAt_eq_of_covers 19 _ (by decide +kernel) fun t hf y => ?_
  have ht : t.val < 64 := t.isLt
  have hy : (y 0).val < 256 := (y 0).isLt
  blk_simp
  rw [after0_19]
  refine (out0_19_eq (blk m c t) y).trans (Eq.trans ?_ (congrArg (arrGb (aX m c) (aW m c)) (?_ : ix2 ⟨256 * t.val + (y 0).val, by omega⟩ (y 1) = _)))
  · rfl
  · blk_ext [idx_out t]

theorem arr20 : (dats m 0 c).arrAt 20 cfg0.N = arrKi (aX m c) (aW m c) (aG m c) (aB m c) (aP m c) := by
  refine (dats m 0 c).arrAt_eq_of_covers 20 _ (by decide +kernel) fun t hf y => ?_
  have ht : t.val < 64 := t.isLt
  have hy : (y 0).val < 256 := (y 0).isLt
  blk_simp
  rw [after0_20]
  refine (out0_20_eq (blk m c t) y).trans (Eq.trans ?_ (congrArg (arrKi (aX m c) (aW m c) (aG m c) (aB m c) (aP m c)) (?_ : ix2 ⟨256 * t.val + (y 0).val, by omega⟩ (y 1) = _)))
  · rfl
  · blk_ext [idx_out t]

theorem arr21 : (dats m 0 c).arrAt 21 cfg0.N = arrQt (aX m c) (aW m c) (aP m c) := by
  refine (dats m 0 c).arrAt_eq_of_covers 21 _ (by decide +kernel) fun t hf y => ?_
  have ht : t.val < 64 := t.isLt
  have hy : (y 1).val < 256 := (y 1).isLt
  blk_simp
  rw [after0_21]
  refine (out0_21_eq (blk m c t) y).trans (Eq.trans ?_ (congrArg (arrQt (aX m c) (aW m c) (aP m c)) (?_ : ix2 (y 0) ⟨256 * t.val + (y 1).val, by omega⟩ = _)))
  · rfl
  · blk_ext [idx_out t]

theorem arr22 : (dats m 0 c).arrAt 22 cfg0.N = arrVt (aX m c) (aW m c) := by
  refine (dats m 0 c).arrAt_eq_of_covers 22 _ (by decide +kernel) fun t hf y => ?_
  have ht : t.val < 64 := t.isLt
  have hy : (y 1).val < 256 := (y 1).isLt
  blk_simp
  rw [after0_22]
  refine (out0_22_eq (blk m c t) y).trans (Eq.trans ?_ (congrArg (arrVt (aX m c) (aW m c)) (?_ : ix2 (y 0) ⟨256 * t.val + (y 1).val, by omega⟩ = _)))
  · rfl
  · blk_ext [idx_out t]

theorem arr23 : (dats m 0 c).arrAt 23 cfg0.N = arrQi (aX m c) (aW m c) (aP m c) := by
  refine (dats m 0 c).arrAt_eq_of_covers 23 _ (by decide +kernel) fun t hf y => ?_
  have ht : t.val < 64 := t.isLt
  have hy : (y 0).val < 2 := (y 0).isLt
  blk_simp
  rw [after0_23]
  refine (out0_23_eq (blk m c t) y).trans (Eq.trans ?_ (congrArg (arrQi (aX m c) (aW m c) (aP m c)) (?_ : ix3 ⟨2 * t.val + (y 0).val, by omega⟩ (y 1) (y 2) = _)))
  · show _ = rot (aX m c) (aW m c) (aP m c) 4096 ((2 * t.val + (y 0).val) * 128 + (y 2).val % 128) ((y 2).val / 128 * 64 + (y 1).val)
    rw [show (2 * t.val + (y 0).val) * 128 + (y 2).val % 128 = 256 * t.val + ((y 0).val * 128 + (y 2).val % 128) from by omega]
    rfl
  · blk_ext [idx_out t]

theorem arr24 : (dats m 0 c).arrAt 24 cfg0.N = arrWt (aX m c) (aW m c) := by
  refine (dats m 0 c).arrAt_eq_of_covers 24 _ (by decide +kernel) fun t hf y => ?_
  have ht : t.val < 64 := t.isLt
  have hy : (y 1).val < 256 := (y 1).isLt
  blk_simp
  rw [after0_24]
  refine (out0_24_eq (blk m c t) y).trans (Eq.trans ?_ (congrArg (arrWt (aX m c) (aW m c)) (?_ : ix2 (y 0) ⟨256 * t.val + (y 1).val, by omega⟩ = _)))
  · rfl
  · blk_ext [idx_out t]

theorem arr25 : (dats m 0 c).arrAt 25 cfg0.N = arrKp (aX m c) (aW m c) (aP m c) := by
  refine (dats m 0 c).arrAt_eq_of_covers 25 _ (by decide +kernel) fun t hf y => ?_
  have ht : t.val < 64 := t.isLt
  have hy : (y 0).val < 2 := (y 0).isLt
  blk_simp
  rw [after0_25]
  refine (out0_25_eq (blk m c t) y).trans (Eq.trans ?_ (congrArg (arrKp (aX m c) (aW m c) (aP m c)) (?_ : ix3 ⟨2 * t.val + (y 0).val, by omega⟩ (y 1) (y 2) = _)))
  · show _ = rot (aX m c) (aW m c) (aP m c) 2560 ((2 * t.val + (y 0).val) * 128 + (y 2).val) (y 1).val
    rw [show (2 * t.val + (y 0).val) * 128 + (y 2).val = 256 * t.val + ((y 0).val * 128 + (y 2).val) from by omega]
    rfl
  · blk_ext [idx_out t]

theorem arr26 : (dats m 0 c).arrAt 26 cfg0.N = arrVp (aX m c) (aW m c) := by
  refine (dats m 0 c).arrAt_eq_of_covers 26 _ (by decide +kernel) fun t hf y => ?_
  have ht : t.val < 64 := t.isLt
  have hy : (y 0).val < 2 := (y 0).isLt
  blk_simp
  rw [after0_26]
  refine (out0_26_eq (blk m c t) y).trans (Eq.trans ?_ (congrArg (arrVp (aX m c) (aW m c)) (?_ : ix3 ⟨2 * t.val + (y 0).val, by omega⟩ (y 1) (y 2) = _)))
  · show _ = cols (aX m c) (aW m c) ((2 * t.val + (y 0).val) * 128 + (y 2).val) (3072 + (y 1).val)
    rw [show (2 * t.val + (y 0).val) * 128 + (y 2).val = 256 * t.val + ((y 0).val * 128 + (y 2).val) from by omega]
    rfl
  · blk_ext [idx_out t]

theorem arr27 : (dats m 0 c).arrAt 27 cfg0.N = arrKip (aX m c) (aW m c) (aG m c) (aB m c) (aP m c) := by
  refine (dats m 0 c).arrAt_eq_of_covers 27 _ (by decide +kernel) fun t hf y => ?_
  have ht : t.val < 64 := t.isLt
  have hy : (y 0).val < 2 := (y 0).isLt
  blk_simp
  rw [after0_27]
  refine (out0_27_eq (blk m c t) y).trans (Eq.trans ?_ (congrArg (arrKip (aX m c) (aW m c) (aG m c) (aB m c) (aP m c)) (?_ : ix3 ⟨2 * t.val + (y 0).val, by omega⟩ (y 1) (y 2) = _)))
  · show _ = rotIdx (aX m c) (aW m c) (aG m c) (aB m c) (aP m c) ((2 * t.val + (y 0).val) * 128 + (y 2).val) (y 1).val
    rw [show (2 * t.val + (y 0).val) * 128 + (y 2).val = 256 * t.val + ((y 0).val * 128 + (y 2).val) from by omega]
    have h1 : (y 1).val < 64 := (y 1).isLt
    unfold ropeAt rotIdx
    rw [Nat.mod_eq_of_lt h1, Nat.div_eq_of_lt h1]
    simp only [Nat.zero_mul, Nat.zero_add]
    rfl
  · blk_ext [idx_out t]

end

end Cert.Kernel2Ideal.Proj

end
-- ==== Proof.ProjRef.lean ====
module

public import proofs.«01_k».proof.Proof.Gen.Reference2Ideal.Run
public import proofs.«01_k».proof.Proof.ProjForms
public import Idealize.ShloMosaic.Lib.Pointwise
public import Idealize.ShloMosaic.Lib.Tactic.CleanTypes

@[expose] public section

set_option maxRecDepth 16384

noncomputable section

namespace Cert.Reference2Ideal.Proj

open Idealize.ShloMosaic Idealize.ShloMosaic.TcCoe Idealize.SL.Sem Idealize.ShloMosaic.StableHlo Cert.Reference2Ideal Cert.Reference2Ideal.Gen Cert.Reference2Ideal.Value Cert.Rows

/-! # The projection's reference at an index -/

variable (V0 : Valuation τ sig (Elt Ideal))

/-- The arguments. -/
abbrev aX : FVec Ideal S8x2048x1024 .f32 := V0 (Proc.devRef .tc main_arg0)
abbrev aW : FVec Ideal S1024x5200 .f32 := V0 (Proc.devRef .tc main_arg1)
abbrev aL : FVec Ideal S1x512 .f32 := V0 (Proc.devRef .tc main_arg2)
abbrev aG : FVec Ideal S64 .f32 := V0 (Proc.devRef .tc main_arg3)
abbrev aB : FVec Ideal S64 .f32 := V0 (Proc.devRef .tc main_arg4)
abbrev aP : IVec S2048 32 := V0 (Proc.devRef .tc main_arg5)

/-- A token's columns as the forms number them. -/
abbrev u (n j : Nat) : EReal := cols (aX V0) (aW V0) n j

theorem cols_eq (i : Fin 8) (l : Fin 2048) (j : Fin 5200) (n k : Nat) (hn : n = i.val * 2048 + l.val) (hk : k = j.val) :
    u V0 n k = ∑ d : Fin 1024, aX V0 (ix3 i l d) * aW V0 (ix2 d j) := by
  subst hn hk
  unfold u cols
  refine Finset.sum_congr rfl fun d _ => ?_
  rw [xAt, dif_pos (by omega), wAt, dif_pos j.isLt]
  have e1 : (i.val * 2048 + l.val) / 2048 = i.val := by omega
  have e2 : (i.val * 2048 + l.val) % 2048 = l.val := by omega
  simp only [e1, e2]

theorem v0_apply (i : Fin 8) (l : Fin 2048) (j : Fin 5200) :
    (res_main_v0 V0 : FVec Ideal S8x2048x5200 .f32) (ix3 i l j) = u V0 (i.val * 2048 + l.val) j.val := by
  rw [cols_eq V0 i l j _ _ rfl rfl]
  unfold res_main_v0
  pointwise

theorem logistic_eq (y : EReal) : Ideal.div 1 (1 + Ideal.exp (-y)) = Ideal.logistic y := rfl

theorem v1_apply (i : Fin 8) (l : Fin 2048) (j : Fin 512) :
    (res_main_v1 V0 : FVec Ideal S8x2048x512 .f32) (ix3 i l j) = u V0 (i.val * 2048 + l.val) j.val := by
  unfold res_main_v1; pointwise; rw [v0_apply]
theorem v2_apply (i : Fin 8) (l : Fin 2048) (j : Fin 512) :
    (res_main_v2 V0 : FVec Ideal S8x2048x512 .f32) (ix3 i l j) = u V0 (i.val * 2048 + l.val) (512 + j.val) := by
  unfold res_main_v2; pointwise; rw [v0_apply]
theorem v4_apply (i : Fin 8) (l : Fin 2048) (j : Fin 512) :
    (res_main_v4 V0 : FVec Ideal S8x2048x512 .f32) (ix3 i l j) = u V0 (i.val * 2048 + l.val) (1536 + j.val) := by
  unfold res_main_v4; pointwise; rw [v0_apply]
theorem v7_apply (i : Fin 8) (l : Fin 2048) (j : Fin 512) :
    (res_main_v7 V0 : FVec Ideal S8x2048x512 .f32) (ix3 i l j) = u V0 (i.val * 2048 + l.val) (3072 + j.val) := by
  unfold res_main_v7; pointwise; rw [v0_apply]
theorem v8_apply (i : Fin 8) (l : Fin 2048) (j : Fin 512) :
    (res_main_v8 V0 : FVec Ideal S8x2048x512 .f32) (ix3 i l j) = u V0 (i.val * 2048 + l.val) (3584 + j.val) := by
  unfold res_main_v8; pointwise; rw [v0_apply]
theorem v10_apply (i : Fin 8) (l : Fin 2048) (j : Fin 64) :
    (res_main_v10 V0 : FVec Ideal S8x2048x64 .f32) (ix3 i l j) = u V0 (i.val * 2048 + l.val) (5120 + j.val) := by
  unfold res_main_v10; pointwise; rw [v0_apply]
theorem v39_apply (i : Fin 8) (l : Fin 2048) (h : Fin 8) (d : Fin 64) :
    (res_main_v39 V0 : FVec Ideal S8x2048x8x64 .f32) (ix4 i l h d) = u V0 (i.val * 2048 + l.val) (2048 + (h.val * 64 + d.val)) := by
  unfold res_main_v39; pointwise; rw [v0_apply]
theorem v74_apply (i : Fin 8) (l : Fin 2048) (h : Fin 8) (d : Fin 64) :
    (res_main_v74 V0 : FVec Ideal S8x2048x8x64 .f32) (ix4 i l h d) = u V0 (i.val * 2048 + l.val) (2560 + (h.val * 64 + d.val)) := by
  unfold res_main_v74; pointwise; rw [v0_apply]
theorem v109_apply (i : Fin 8) (l : Fin 2048) (h : Fin 16) (d : Fin 64) :
    (res_main_v109 V0 : FVec Ideal S8x2048x16x64 .f32) (ix4 i l h d) = u V0 (i.val * 2048 + l.val) (4096 + (h.val * 64 + d.val)) := by
  unfold res_main_v109; pointwise; rw [v0_apply]

theorem angle_apply (l : Fin 2048) (d : Fin 8) : (res_main_v51 V0 : FVec Ideal S2048x8 .f32) (ix2 l d) = angle (aP V0) l.val d.val := by
  unfold res_main_v51 angle
  rw [dif_pos l.isLt]
  pointwise

/-- A table of angles at a token is the token's cosines and sines. -/
theorem cos_apply (z : FVec Ideal S2048x8 .f32) (hz : z = res_main_v51 V0) (i : Nat) (l : Fin 2048) (d : Fin 8) :
    Ideal.cos (z (ix2 l d)) = cosAt (aP V0) (i * 2048 + l.val) d.val := by
  have e : (i * 2048 + l.val) % 2048 = l.val := by omega
  rw [hz, cosAt, e, angle_apply]

theorem sin_apply (z : FVec Ideal S2048x8 .f32) (hz : z = res_main_v51 V0) (i : Nat) (l : Fin 2048) (d : Fin 8) :
    Ideal.sin (z (ix2 l d)) = sinAt (aP V0) (i * 2048 + l.val) d.val := by
  have e : (i * 2048 + l.val) % 2048 = l.val := by omega
  rw [hz, sinAt, e, angle_apply]

theorem v108_apply (i : Fin 8) (l : Fin 2048) (h : Fin 8) (d : Fin 64) :
    (res_main_v108 V0 : FVec Ideal S8x2048x8x64 .f32) (ix4 i l h d)
      = rope (fun e => u V0 (i.val * 2048 + l.val) (2560 + (h.val * 64 + e))) (cosAt (aP V0) (i.val * 2048 + l.val)) (sinAt (aP V0) (i.val * 2048 + l.val)) d.val := by
  rw [← rope_eq]
  unfold res_main_v108 res_main_v91 res_main_v92 res_main_v88 res_main_v90
  pointwise
  simp only [v74_apply, cos_apply V0 (res_main_v86 V0) rfl i.val, sin_apply V0 (res_main_v86 V0) rfl i.val, dite_eq_ite]

/-- The layer norm of the index key. -/
theorem v147_apply (i : Fin 8) (l : Fin 2048) :
    (res_main_v147 V0 : FVec Ideal S8x2048x1 .f32) (ix3 i l 0) = mean (fun e => u V0 (i.val * 2048 + l.val) (5120 + e)) := by
  unfold res_main_v147
  pointwise
  simp only [v10_apply]
  rw [mean, sixty_four]

theorem v149_apply (i : Fin 8) (l : Fin 2048) (d : Fin 64) :
    (res_main_v149 V0 : FVec Ideal S8x2048x64 .f32) (ix3 i l d)
      = u V0 (i.val * 2048 + l.val) (5120 + d.val) - mean (fun e => u V0 (i.val * 2048 + l.val) (5120 + e)) := by
  unfold res_main_v149
  pointwise
  simp only [v10_apply, v147_apply]

theorem vecAt_eq (z : FVec Ideal S64 .f32) (d : Fin 64) : z (ix1 d) = vecAt z d.val := by rw [vecAt, dif_pos d.isLt]

theorem lbAt_eq (z : FVec Ideal S1x512 .f32) (d : Fin 512) : z (ix2 0 d) = lbAt z d.val := by rw [lbAt, dif_pos d.isLt]

theorem v168_apply (i : Fin 8) (l : Fin 2048) (d : Fin 64) :
    (res_main_v168 V0 : FVec Ideal S8x2048x1x64 .f32) (ix4 i l 0 d)
      = lnorm (fun e => u V0 (i.val * 2048 + l.val) (5120 + e)) (vecAt (aG V0)) (vecAt (aB V0)) d.val := by
  unfold res_main_v168 lnorm
  pointwise
  simp only [v10_apply, v147_apply, v149_apply]
  rw [← vecAt_eq (aG V0) d, ← vecAt_eq (aB V0) d, sixty_four]
  rfl

theorem v203_apply (i : Fin 8) (l : Fin 2048) (d : Fin 64) :
    (res_main_v203 V0 : FVec Ideal S8x2048x64 .f32) (ix3 i l d)
      = rotIdx (aX V0) (aW V0) (aG V0) (aB V0) (aP V0) (i.val * 2048 + l.val) d.val := by
  rw [rotIdx, ← rope_eq]
  unfold res_main_v203 res_main_v185 res_main_v186 res_main_v182 res_main_v184
  pointwise
  simp only [v168_apply, cos_apply V0 (res_main_v180 V0) rfl i.val, sin_apply V0 (res_main_v180 V0) rfl i.val, dite_eq_ite]

/-- The numbering of the tokens through the batch, undone. -/
theorem place (n : Nat) : n / 2048 * 2048 + n % 2048 = n := by omega

theorem page (a e : Nat) : a / 16 * 2048 + (a % 16 * 128 + e) = a * 128 + e := by omega

theorem rot_head (x : FVec Ideal S8x2048x1024 .f32) (w : FVec Ideal S1024x5200 .f32) (p : IVec S2048 32) (o n h d : Nat) (hd : d < 64) :
    rot x w p o n (h * 64 + d) = rope (fun e => cols x w n (o + (h * 64 + e))) (cosAt p n) (sinAt p n) d := by
  have e1 : (h * 64 + d) % 64 = d := by omega
  have e2 : (h * 64 + d) / 64 = h := by omega
  rw [rot, e1, e2]

theorem ext3 {n0 n1 n2 : Nat} {α : Type} (f k : (⟨3, ![n0, n1, n2]⟩ : Shape).Idx → α) (h : ∀ a b e, f (ix3 a b e) = k (ix3 a b e)) : f = k :=
  funext fun y => by rw [eq_ix3 y]; exact h _ _ _

theorem ext2 {n0 n1 : Nat} {α : Type} (f k : (⟨2, ![n0, n1]⟩ : Shape).Idx → α) (h : ∀ a b, f (ix2 a b) = k (ix2 a b)) : f = k :=
  funext fun y => by rw [eq_ix2 y]; exact h _ _

set_option maxHeartbeats 2000000 in
/-- The results as arrays. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v209) = arrQ (aX (launchContents m c)) (aW (launchContents m c))
      ∧ r.2.mem ((c.tc : Thread nD τ).loc main_v211) = arrK (aX (launchContents m c)) (aW (launchContents m c)) (aL (launchContents m c))
      ∧ r.2.mem ((c.tc : Thread nD τ).loc main_v216) = arrG (aX (launchContents m c)) (aW (launchContents m c)) (aL (launchContents m c))
      ∧ r.2.mem ((c.tc : Thread nD τ).loc main_v219) = arrV (aX (launchContents m c)) (aW (launchContents m c))
      ∧ r.2.mem ((c.tc : Thread nD τ).loc main_v223) = arrGate (aX (launchContents m c)) (aW (launchContents m c))
      ∧ r.2.mem ((c.tc : Thread nD τ).loc main_v225) = arrKb (aX (launchContents m c)) (aW (launchContents m c)) (aP (launchContents m c))
      ∧ r.2.mem ((c.tc : Thread nD τ).loc main_v228) = arrGb (aX (launchContents m c)) (aW (launchContents m c))
      ∧ r.2.mem ((c.tc : Thread nD τ).loc main_v230) = arrKi (aX (launchContents m c)) (aW (launchContents m c)) (aG (launchContents m c)) (aB (launchContents m c)) (aP (launchContents m c))
      ∧ r.2.mem ((c.tc : Thread nD τ).loc main_v235) = arrQt (aX (launchContents m c)) (aW (launchContents m c)) (aP (launchContents m c))
      ∧ r.2.mem ((c.tc : Thread nD τ).loc main_v238) = arrVt (aX (launchContents m c)) (aW (launchContents m c))
      ∧ r.2.mem ((c.tc : Thread nD τ).loc main_v242) = arrQi (aX (launchContents m c)) (aW (launchContents m c)) (aP (launchContents m c))
      ∧ r.2.mem ((c.tc : Thread nD τ).loc main_v244) = arrWt (aX (launchContents m c)) (aW (launchContents m c))
      ∧ r.2.mem ((c.tc : Thread nD τ).loc main_v246) = arrKp (aX (launchContents m c)) (aW (launchContents m c)) (aP (launchContents m c))
      ∧ r.2.mem ((c.tc : Thread nD τ).loc main_v248) = arrVp (aX (launchContents m c)) (aW (launchContents m c))
      ∧ r.2.mem ((c.tc : Thread nD τ).loc main_v250) = arrKip (aX (launchContents m c)) (aW (launchContents m c)) (aG (launchContents m c)) (aB (launchContents m c)) (aP (launchContents m c)) := by
  refine (θ_run defs _ _).mono (fun r h c => ?_) (Value.run m ρ)
  obtain ⟨h0, h1, h2, h3, h4, h5, h6, h7, h8, h9, h10, h11, h12, h13, h14, -⟩ := h c
  generalize launchContents m c = V0 at *
  refine ⟨h0.trans ?_, h1.trans ?_, h2.trans ?_, h3.trans ?_, h4.trans ?_, h5.trans ?_, h6.trans ?_, h7.trans ?_, h8.trans ?_, h9.trans ?_,
    h10.trans ?_, h11.trans ?_, h12.trans ?_, h13.trans ?_, h14.trans ?_⟩ <;> clear h h0 h1 h2 h3 h4 h5 h6 h7 h8 h9 h10 h11 h12 h13 h14
  · refine ext3 (n0 := 4) (n1 := 16384) (n2 := 128) (α := EReal) _ _ fun a b e => ?_
    pointwise [arrQ, silu]
    simp only [v1_apply, place, logistic_eq]
  · refine ext3 (n0 := 4) (n1 := 16384) (n2 := 128) (α := EReal) _ _ fun a b e => ?_
    pointwise [arrK, keyAt]
    simp only [v2_apply, place, logistic_eq, lbAt_eq]
  · refine ext3 (n0 := 4) (n1 := 16384) (n2 := 128) (α := EReal) _ _ fun a b e => ?_
    pointwise [arrG, decayAt]
    simp only [v2_apply, place, logistic_eq, lbAt_eq, div_log_two]
  · refine ext3 (n0 := 4) (n1 := 16384) (n2 := 128) (α := EReal) _ _ fun a b e => ?_
    pointwise [arrV]
    simp only [v0_apply, place]
  · refine ext3 (n0 := 4) (n1 := 16384) (n2 := 128) (α := EReal) _ _ fun a b e => ?_
    pointwise [arrGate, silu]
    simp only [v4_apply, place, logistic_eq]
  · refine ext2 (n0 := 16384) (n1 := 512) (α := EReal) _ _ fun a b => ?_
    pointwise [arrKb]
    simp only [v108_apply, place]
    rfl
  · refine ext2 (n0 := 16384) (n1 := 512) (α := EReal) _ _ fun a b => ?_
    pointwise [arrGb, silu]
    simp only [v8_apply, place, logistic_eq]
  · refine ext2 (n0 := 16384) (n1 := 64) (α := EReal) _ _ fun a b => ?_
    pointwise [arrKi]
    simp only [v203_apply, place]
  · refine ext2 (n0 := 512) (n1 := 16384) (α := EReal) _ _ fun a b => ?_
    refine Eq.trans ?_ (congrArg (fun q : EReal => q * Ideal.ofBits .f32 0x3E000000#32) (rope_eq (fun d => cols (aX V0) (aW V0) b.val (2048 + (a.val / 64 * 64 + d)))
      (cosAt (aP V0) b.val) (sinAt (aP V0) b.val) (a.val % 64)))
    unfold res_main_v56 res_main_v57 res_main_v53 res_main_v55
    pointwise
    simp only [v39_apply, cos_apply V0 (res_main_v51 V0) rfl (b.val / 2048), sin_apply V0 (res_main_v51 V0) rfl (b.val / 2048), place, dite_eq_ite]
  · refine ext2 (n0 := 512) (n1 := 16384) (α := EReal) _ _ fun a b => ?_
    pointwise [arrVt]
    simp only [v7_apply, place]
  · refine ext3 (n0 := 128) (n1 := 64) (n2 := 2048) (α := EReal) _ _ fun a b e => ?_
    refine Eq.trans ?_ ((rope_eq _ _ _ _).trans (rot_head (aX V0) (aW V0) (aP V0) 4096 (a.val * 128 + e.val % 128) (e.val / 128) b.val b.isLt).symm)
    unfold res_main_v126 res_main_v127 res_main_v123 res_main_v125
    pointwise
    simp only [v109_apply, cos_apply V0 (res_main_v121 V0) rfl (a.val / 16), sin_apply V0 (res_main_v121 V0) rfl (a.val / 16), page, dite_eq_ite]
  · refine ext2 (n0 := 16) (n1 := 16384) (α := EReal) _ _ fun a b => ?_
    pointwise [arrWt]
    simp only [v0_apply, place]
  · refine ext3 (n0 := 128) (n1 := 512) (n2 := 128) (α := EReal) _ _ fun a b e => ?_
    pointwise [arrKp]
    simp only [v108_apply, page]
    rfl
  · refine ext3 (n0 := 128) (n1 := 512) (n2 := 128) (α := EReal) _ _ fun a b e => ?_
    pointwise [arrVp]
    simp only [v7_apply, page]
  · refine ext3 (n0 := 128) (n1 := 64) (n2 := 128) (α := EReal) _ _ fun a b e => ?_
    pointwise [arrKip]
    simp only [v203_apply, page]

end Cert.Reference2Ideal.Proj

end
-- ==== Proof.ProjTie.lean ====
module

public import proofs.«01_k».proof.Defs
public import proofs.«01_k».proof.Proof.ProjArr
public import proofs.«01_k».proof.Proof.ProjRef
public import Idealize.ShloMosaic.Lib.Quiescent
public import Idealize.ShloMosaic.Lib.Claim

@[expose] public section

noncomputable section

namespace Cert.Kernel2Ideal.Proj

open Idealize.ShloMosaic Idealize.SL.Sem Cert.Kernel2Ideal Cert.Kernel2Ideal.Gen Cert.Rows

/-! # The projection's arrays after a run -/

set_option maxHeartbeats 1000000 in
/-- A run leaves the arrays at their values and the arguments as they were. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51_0) = arrQ (aX m c) (aW m c)
      ∧ r.2.mem ((c.tc : Thread nD τ).loc main_v51_1) = arrK (aX m c) (aW m c) (aL m c)
      ∧ r.2.mem ((c.tc : Thread nD τ).loc main_v51_2) = arrG (aX m c) (aW m c) (aL m c)
      ∧ r.2.mem ((c.tc : Thread nD τ).loc main_v51_3) = arrV (aX m c) (aW m c)
      ∧ r.2.mem ((c.tc : Thread nD τ).loc main_v51_4) = arrGate (aX m c) (aW m c)
      ∧ r.2.mem ((c.tc : Thread nD τ).loc main_v51_5) = arrKb (aX m c) (aW m c) (aP m c)
      ∧ r.2.mem ((c.tc : Thread nD τ).loc main_v51_6) = arrGb (aX m c) (aW m c)
      ∧ r.2.mem ((c.tc : Thread nD τ).loc main_v51_7) = arrKi (aX m c) (aW m c) (aG m c) (aB m c) (aP m c)
      ∧ r.2.mem ((c.tc : Thread nD τ).loc main_v51_8) = arrQt (aX m c) (aW m c) (aP m c)
      ∧ r.2.mem ((c.tc : Thread nD τ).loc main_v51_9) = arrVt (aX m c) (aW m c)
      ∧ r.2.mem ((c.tc : Thread nD τ).loc main_v51_10) = arrQi (aX m c) (aW m c) (aP m c)
      ∧ r.2.mem ((c.tc : Thread nD τ).loc main_v51_11) = arrWt (aX m c) (aW m c)
      ∧ r.2.mem ((c.tc : Thread nD τ).loc main_v51_12) = arrKp (aX m c) (aW m c) (aP m c)
      ∧ r.2.mem ((c.tc : Thread nD τ).loc main_v51_13) = arrVp (aX m c) (aW m c)
      ∧ r.2.mem ((c.tc : Thread nD τ).loc main_v51_14) = arrKip (aX m c) (aW m c) (aG m c) (aB m c) (aP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 13).trans (arr13 m c), ((h c).1 14).trans (arr14 m c), ((h c).1 15).trans (arr15 m c), ((h c).1 16).trans (arr16 m c), ((h c).1 17).trans (arr17 m c), ((h c).1 18).trans (arr18 m c), ((h c).1 19).trans (arr19 m c), ((h c).1 20).trans (arr20 m c), ((h c).1 21).trans (arr21 m c), ((h c).1 22).trans (arr22 m c), ((h c).1 23).trans (arr23 m c), ((h c).1 24).trans (arr24 m c), ((h c).1 25).trans (arr25 m c), ((h c).1 26).trans (arr26 m c), ((h c).1 27).trans (arr27 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel2Ideal.Proj

namespace Cert.ProjTie

open Idealize.ShloMosaic Idealize.SL.Sem Cert.Rows Cert.Kernel2Ideal.Proj

/-! # The projection's arrays are the reference's -/

theorem frame_k : Cert.quiescent_Kernel2Ideal (hKernel2Ideal := Cert.Kernel2Ideal.Gen.facts) := fun m ρ _ => Cert.Kernel2Ideal.Proj.frame m ρ

theorem frame_r : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2.2.2.2.2, sem_eq_zero_of_no_sems (by decide) r.2⟩) (Cert.Reference2Ideal.Value.run m ρ)

theorem preserves : Cert.preserves_Kernel2_Kernel2Ideal :=
  IdealRules.named_const.statement Cert.Kernel2Ideal.κ "inv_log_two" .f32 0x3FB8AA3B#32 (((Real.log 2)⁻¹ : ℝ) : EReal) rfl

set_option maxHeartbeats 4000000 in
theorem algebraic : Cert.algebraic_Kernel2Ideal_Reference2Ideal (hKernel2Ideal := Cert.Kernel2Ideal.Gen.facts) (hReference2Ideal := Cert.Reference2Ideal.Gen.facts) := by
  intro m ρ m' ρ' _ hag
  refine ⟨fun c => arrQ (aX m c) (aW m c),
    fun c => arrK (aX m c) (aW m c) (aL m c),
    fun c => arrG (aX m c) (aW m c) (aL m c),
    fun c => arrV (aX m c) (aW m c),
    fun c => arrGate (aX m c) (aW m c),
    fun c => arrKb (aX m c) (aW m c) (aP m c),
    fun c => arrGb (aX m c) (aW m c),
    fun c => arrKi (aX m c) (aW m c) (aG m c) (aB m c) (aP m c),
    fun c => arrQt (aX m c) (aW m c) (aP m c),
    fun c => arrVt (aX m c) (aW m c),
    fun c => arrQi (aX m c) (aW m c) (aP m c),
    fun c => arrWt (aX m c) (aW m c),
    fun c => arrKp (aX m c) (aW m c) (aP m c),
    fun c => arrVp (aX m c) (aW m c),
    fun c => arrKip (aX m c) (aW m c) (aG m c) (aB m c) (aP m c),
    Cert.Kernel2Ideal.Proj.run_arrays m ρ,
    (θ_run _ _ _).mono (fun r h c => ?_) (θ_run_and (Cert.Reference2Ideal.Proj.run_arrays m' ρ') (Cert.Reference2Ideal.Value.run m' ρ'))⟩
  have e0 : Cert.Reference2Ideal.Proj.aX (StableHlo.launchContents m' c) = aX m c := (hag c).1
  have e1 : Cert.Reference2Ideal.Proj.aW (StableHlo.launchContents m' c) = aW m c := (hag c).2.1
  have e2 : Cert.Reference2Ideal.Proj.aL (StableHlo.launchContents m' c) = aL m c := (hag c).2.2.1
  have e3 : Cert.Reference2Ideal.Proj.aG (StableHlo.launchContents m' c) = aG m c := (hag c).2.2.2.1
  have e4 : Cert.Reference2Ideal.Proj.aB (StableHlo.launchContents m' c) = aB m c := (hag c).2.2.2.2.1
  have e5 : Cert.Reference2Ideal.Proj.aP (StableHlo.launchContents m' c) = aP m c := (hag c).2.2.2.2.2
  obtain ⟨h0, h1, h2, h3, h4, h5, h6, h7, h8, h9, h10, h11, h12, h13, h14⟩ := h.1 c
  rw [e0, e1] at h0 h3 h4 h6 h9 h11 h13
  rw [e0, e1, e2] at h1 h2
  rw [e0, e1, e5] at h5 h8 h10 h12
  rw [e0, e1, e3, e4, e5] at h7 h14
  exact ⟨h0, h1, h2, h3, h4, h5, h6, h7, h8, h9, h10, h11, h12, h13, h14, (h.2 c).2.2.2.2.2.2.2.2.2.2.2.2.2.2.2⟩

end Cert.ProjTie

end
-- ==== Proof.MergeForms.lean ====
module

public import Idealize.ShloMosaic.Lib.IdealHost
public import Idealize.ShloMosaic.Lib.Pointwise

@[expose] public section

noncomputable section

namespace Cert.Mix

open Idealize.ShloMosaic

/-! # What the merge computes of one token

A token's thousand and twenty-four lanes are a function of the lane: the first half its recurrence, by head, the second half its attention. -/

variable (x : FVec Ideal ⟨3, ![8, 2048, 1024]⟩ .f32) (a : FVec Ideal ⟨3, ![4, 16384, 128]⟩ .bf16) (b : FVec Ideal ⟨2, ![16384, 512]⟩ .bf16)
  (w : FVec Ideal ⟨2, ![1024, 1024]⟩ .f32) (g s : FVec Ideal ⟨1, ![1024]⟩ .f32)

/-- A token's mixed lane. -/
def mixAt (n : Fin 16384) (k : Fin 1024) : EReal :=
  if h : k.val < 512 then a (ix3 ⟨k.val / 128, by omega⟩ n ⟨k.val % 128, by omega⟩) else b (ix2 n ⟨k.val - 512, by omega⟩)

/-- A token's scaled entry and its mixed lanes' product with the weights. -/
def sumOf (X M : Fin 1024 → EReal) (W : Fin 1024 → Fin 1024 → EReal) (d : Fin 1024) : EReal :=
  Ideal.ofBits .f32 0x3F9837F0#32 * X d + ∑ k, M k * W k d

/-- The mean of a token's lanes. -/
def meanOf (R : Fin 1024 → EReal) : EReal := Ideal.div (∑ d, R d) (Ideal.ofBits .f32 0x44800000#32)

/-- A token's lanes less their mean, over the root of their mean square and the small number. -/
def normOf (R : Fin 1024 → EReal) (d : Fin 1024) : EReal :=
  (R d - meanOf R) * Ideal.rsqrt (meanOf (fun e => (R e - meanOf R) * (R e - meanOf R)) + Ideal.ofBits .f32 0x3727C5AC#32)

/-- A token's entry. -/
def entryAt (n : Fin 16384) (d : Fin 1024) : EReal := x (ix3 ⟨n.val / 2048, by omega⟩ ⟨n.val % 2048, by omega⟩ d)

/-- A token's result. -/
def outAt (n : Fin 16384) (d : Fin 1024) : EReal :=
  normOf (sumOf (entryAt x n) (mixAt a b n) (fun k d => w (ix2 k d))) d * g (ix1 d) + s (ix1 d)

/-- The results. -/
def arrOut : FVec Ideal ⟨2, ![16384, 1024]⟩ .f32 := fun i => outAt x a b w g s (i 0) (i 1)

end Cert.Mix

end
-- ==== Proof.MergePay.lean ====
module

public import proofs.«01_k».proof.Proof.Gen.Kernel3Ideal.Value
public import proofs.«01_k».proof.Proof.MergeForms
public import Idealize.ShloMosaic.Lib.Pointwise
public import Idealize.ShloMosaic.Lib.Pipeline.ValueKit

@[expose] public section

set_option maxRecDepth 16384

noncomputable section

namespace Cert.Kernel3Ideal.Merge

open Idealize.ShloMosaic Idealize.SL.Sem Cert.Kernel3Ideal Cert.Kernel3Ideal.Gen Cert.Mix

/-! # The merge's stored term at an index -/

/-- The pasted lanes. -/
def catB (v0 v2 v4 v6 : Vec Ideal S1x1024x128 .bf16) (v8 : Vec Ideal S1024x512 .bf16) : FVec Ideal S1024x1024 .bf16 :=
  concatenate S1024x1024 1 [⟨S1024x128, shapeCast S1024x128 v0 shapeCasts_S1x1024x128_S1024x128⟩, ⟨S1024x128, shapeCast S1024x128 v2 shapeCasts_S1x1024x128_S1024x128⟩,
    ⟨S1024x128, shapeCast S1024x128 v4 shapeCasts_S1x1024x128_S1024x128⟩, ⟨S1024x128, shapeCast S1024x128 v6 shapeCasts_S1x1024x128_S1024x128⟩, ⟨S1024x512, v8⟩]
    concatenates_S1024x128_S1024x128_S1024x128_S1024x128_S1024x512_S1024x1024_d1

/-- The scaled entries and the product. -/
def sumB (v9 : FVec Ideal S1024x1024 .bf16) (v10 : FVec Ideal S1024x1024 .f32) (v14 : FVec Ideal S1024x1024 .bf16) : FVec Ideal S1024x1024 .f32 :=
  addf (mulf (broadcast S1024x1024 (Scalar.ofBits (F := Ideal) .f32 0x3F9837F0#32)) (shapeCast S1024x1024 v10 shapeCasts_S1024x1024_S1024x1024))
    (matmul dot_S1024x1024_S1024x1024_S1024x1024_1_0_0_1_n_n none v9 (shapeCast S1024x1024 v14 shapeCasts_S1024x1024_S1024x1024) (constant S1024x1024 .f32 0x00000000#32))

/-- A row's mean. -/
def meanB (v17 : FVec Ideal S1024x1024 .f32) : FVec Ideal S1024x1 .f32 :=
  divf (shapeCast S1024x1 (multiReduction .add [1] S1024 v17 0x00000000#32 reduces_S1024x1024_S1024 (.inl rfl) rfl) shapeCasts_S1024_S1024x1)
    (broadcast S1024x1 (Scalar.ofBits (F := Ideal) .f32 0x44800000#32))

/-- The rows less their means. -/
def lessB (v17 : FVec Ideal S1024x1024 .f32) : FVec Ideal S1024x1024 .f32 := subf v17 (broadcastTo S1024x1024 (meanB v17) broadcasts_S1024x1_S1024x1024)

/-- The normed rows. -/
def normB (v17 : FVec Ideal S1024x1024 .f32) : FVec Ideal S1024x1024 .f32 :=
  mulf (lessB v17) (broadcastTo S1024x1024 (rsqrt (addf (meanB (mulf (lessB v17) (lessB v17))) (broadcast S1024x1 (Scalar.ofBits (F := Ideal) .f32 0x3727C5AC#32)))) broadcasts_S1024x1_S1024x1024)

theorem pay2_eq (v0 v2 v4 v6 : Vec Ideal S1x1024x128 .bf16) (v8 : Vec Ideal S1024x512 .bf16) (v10 : FVec Ideal S1024x1024 .f32) (v14 : FVec Ideal S1024x1024 .bf16) :
    k0_pay2 (F := Ideal) v0 v2 v4 v6 v8 v10 v14 = normB (sumB (catB v0 v2 v4 v6 v8) v10 v14) := rfl

theorem meanB_of (v : FVec Ideal S1024x1024 .f32) (r : Fin 1024) : meanB v (ix2 r 0) = meanOf fun d => v (ix2 r d) := by
  unfold meanB meanOf
  pointwise

theorem lessB_of (v : FVec Ideal S1024x1024 .f32) (r d : Fin 1024) : lessB v (ix2 r d) = v (ix2 r d) - meanOf fun e => v (ix2 r e) := by
  rw [← meanB_of]
  unfold lessB
  generalize meanB v = q
  pointwise

theorem normB_of (v : FVec Ideal S1024x1024 .f32) (r d : Fin 1024) : normB v (ix2 r d) = normOf (fun e => v (ix2 r e)) d := by
  have h := meanB_of (mulf (lessB v) (lessB v)) r
  unfold normB normOf
  rw [show (fun e => (v (ix2 r e) - meanOf fun e => v (ix2 r e)) * (v (ix2 r e) - meanOf fun e => v (ix2 r e))) = fun e => (mulf (lessB v) (lessB v) : FVec Ideal S1024x1024 .f32) (ix2 r e) from
    funext fun e => by
      rw [← lessB_of]
      rfl, ← h, ← lessB_of]
  generalize meanB (mulf (lessB v) (lessB v)) = q
  generalize lessB v = z
  pointwise

theorem sumB_of (v9 : FVec Ideal S1024x1024 .bf16) (v10 : FVec Ideal S1024x1024 .f32) (v14 : FVec Ideal S1024x1024 .bf16) (r d : Fin 1024) :
    sumB v9 v10 v14 (ix2 r d) = sumOf (fun d => v10 (ix2 r d)) (fun k => v9 (ix2 r k)) (fun k d => v14 (ix2 k d)) d := by
  unfold sumB sumOf
  pointwise

/-- The pasted lanes are the mixed ones. -/
theorem catB_of (M : Fin 1024 → Fin 1024 → EReal) (v0 v2 v4 v6 : FVec Ideal S1x1024x128 .bf16) (v8 : FVec Ideal S1024x512 .bf16)
    (h0 : ∀ r (j : Fin 128), v0 (ix3 0 r j) = M r ⟨j.val, by omega⟩) (h2 : ∀ r (j : Fin 128), v2 (ix3 0 r j) = M r ⟨128 + j.val, by omega⟩)
    (h4 : ∀ r (j : Fin 128), v4 (ix3 0 r j) = M r ⟨256 + j.val, by omega⟩) (h6 : ∀ r (j : Fin 128), v6 (ix3 0 r j) = M r ⟨384 + j.val, by omega⟩)
    (h8 : ∀ r (j : Fin 512), v8 (ix2 r j) = M r ⟨512 + j.val, by omega⟩) (r k : Fin 1024) : catB v0 v2 v4 v6 v8 (ix2 r k) = M r k := by
  unfold catB
  pointwise
  split_ifs <;> first
    | exact (h0 _ _).trans (congrArg (M r) (Fin.ext (by simp only <;> omega))) | exact (h2 _ _).trans (congrArg (M r) (Fin.ext (by simp only <;> omega)))
    | exact (h4 _ _).trans (congrArg (M r) (Fin.ext (by simp only <;> omega))) | exact (h6 _ _).trans (congrArg (M r) (Fin.ext (by simp only <;> omega)))
    | exact (h8 _ _).trans (congrArg (M r) (Fin.ext (by simp only <;> omega)))

theorem ld_full {n k : Nat} {e : EltTy} (x : (⟨2, ![n, k]⟩ : Shape).Idx → Elt Ideal e)
    (h : ∀ a, (![0, 0] : Fin 2 → Nat) a + (⟨2, ![n, k]⟩ : Shape).size a ≤ (⟨2, ![n, k]⟩ : Shape).size a) (i : Fin n) (j : Fin k) :
    View.ld (Val := Elt Ideal) (e' := e) x (Rect.unit (s := ⟨2, ![n, k]⟩) ![0, 0] (⟨2, ![n, k]⟩ : Shape).size h) (ix2 i j) = x (ix2 i j) := by
  exact View.ld_unit_apply_of x ![0, 0] (⟨2, ![n, k]⟩ : Shape).size h (ix2 i j) (ix2 i j) (by intro a; fin_cases a <;> simp)

theorem ld_head (x1 : FVec Ideal S4x1024x128 .bf16) (o : Fin 4) (h : ∀ a, (![o.val, 0, 0] : Fin 3 → Nat) a + S1x1024x128.size a ≤ S4x1024x128.size a) (r : Fin 1024) (j : Fin 128) :
    View.ld (Val := Elt Ideal) (e' := .bf16) x1 (Rect.unit (s := S4x1024x128) ![o.val, 0, 0] S1x1024x128.size h) (ix3 0 r j) = x1 (ix3 o r j) := by
  exact View.ld_unit_apply_of (S := S4x1024x128) (Val := Elt Ideal) (e := .bf16) x1 ![o.val, 0, 0] S1x1024x128.size h (ix3 0 r j) (ix3 o r j) (by intro a; fin_cases a <;> simp)

theorem pay1_of (v33 : FVec Ideal S1024x1024 .f32) (v34 v38 : FVec Ideal S1x1024 .f32) (r d : Fin 1024) :
    k0_pay1 (F := Ideal) v33 v34 v38 (ix2 r d) = v33 (ix2 r d) * v34 (ix2 0 d) + v38 (ix2 0 d) := by
  pointwise [k0_pay1]

/-- A store of the whole block leaves its term. -/
theorem canon_full (P : FVec Ideal S1024x1024 .f32) (r d : Fin 1024) :
    View.canon (Val := Elt Ideal) (s := S1024x1024) (e := .f32) [⟨r0_5, P⟩] (ix2 r d) = P (ix2 r d) := by
  refine View.canon_apply_of_pieces (Val := Elt Ideal) (e := .f32) P _ ?_ (ix2 r d) (cover0_6 (F := Ideal) P _)
  refine List.forall_mem_cons.2 ⟨fun z => congrArg P (funext fun a => Fin.ext ?_), by simp⟩
  refine Eq.trans ?_ (Rect.idx_unit_val (s := S1024x1024) ![0, 0] S1024x1024.size inb_S1024x1024_S1024x1024_0_0 z a).symm
  fin_cases a <;> simp

/-- The window's block after a grid point, from the blocks it read. -/
theorem out_of (M X : Fin 1024 → Fin 1024 → EReal) (x0 : FVec Ideal S1024x1024 .f32) (x1 : FVec Ideal S4x1024x128 .bf16) (x2 : FVec Ideal S1024x512 .bf16)
    (x3 : FVec Ideal S1024x1024 .bf16) (x4 x5 : FVec Ideal S1x1024 .f32) (h0 : ∀ r d, x0 (ix2 r d) = X r d)
    (h1 : ∀ (o : Fin 4) r (j : Fin 128), x1 (ix3 o r j) = M r ⟨o.val * 128 + j.val, by omega⟩) (h2 : ∀ r (j : Fin 512), x2 (ix2 r j) = M r ⟨512 + j.val, by omega⟩) (y : S1024x1024.Idx) :
    out0_6 (F := Ideal) x0 x1 x2 x3 x4 x5 y
      = normOf (sumOf (X (y 0)) (M (y 0)) fun k d => x3 (ix2 k d)) (y 1) * x4 (ix2 0 (y 1)) + x5 (ix2 0 (y 1)) := by
  obtain ⟨r, d, rfl⟩ : ∃ (r d : Fin 1024), y = ix2 r d := ⟨y 0, y 1, eq_ix2 y⟩
  have e : out0_6 (F := Ideal) x0 x1 x2 x3 x4 x5 (ix2 r d) = k0_pay1 (F := Ideal) (k0_pay2 (F := Ideal) (View.ld x1 r0_0) (View.ld x1 r0_1) (View.ld x1 r0_2) (View.ld x1 r0_3) (View.ld x2 r0_4) (View.ld x0 r0_5) (View.ld x3 r0_5)) (View.ld x4 r0_6) (View.ld x5 r0_6) (ix2 r d) := by
    unfold out0_6
    exact canon_full _ r d
  rw [e, pay1_of, pay2_eq, normB_of]
  have f4 : View.ld (Val := Elt Ideal) (e' := .f32) x4 r0_6 (ix2 0 d) = x4 (ix2 0 d) := ld_full (e := .f32) x4 inb_S1x1024_S1x1024_0_0 0 d
  have f5 : View.ld (Val := Elt Ideal) (e' := .f32) x5 r0_6 (ix2 0 d) = x5 (ix2 0 d) := ld_full (e := .f32) x5 inb_S1x1024_S1x1024_0_0 0 d
  rw [f4, f5]
  refine congrArg (fun R : Fin 1024 → EReal => normOf R d * x4 (ix2 0 d) + x5 (ix2 0 d)) (funext fun e => ?_)
  rw [sumB_of]
  have g0 : (fun d => View.ld (Val := Elt Ideal) (e' := .f32) x0 r0_5 (ix2 r d)) = X r := funext fun d => (ld_full (e := .f32) x0 inb_S1024x1024_S1024x1024_0_0 r d).trans (h0 r d)
  have g3 : (fun k d => View.ld (Val := Elt Ideal) (e' := .bf16) x3 r0_5 (ix2 k d)) = fun k d => x3 (ix2 k d) := funext fun k => funext fun d => ld_full (e := .bf16) x3 inb_S1024x1024_S1024x1024_0_0 k d
  have gm : (fun k => catB (View.ld x1 r0_0) (View.ld x1 r0_1) (View.ld x1 r0_2) (View.ld x1 r0_3) (View.ld x2 r0_4) (ix2 r k)) = M r :=
    funext fun k => catB_of M _ _ _ _ _
      (fun r j => (ld_head x1 0 inb_S4x1024x128_S1x1024x128_0_0_0 r j).trans ((h1 0 r j).trans (congrArg (M r) (Fin.ext (by simp)))))
      (fun r j => (ld_head x1 1 inb_S4x1024x128_S1x1024x128_1_0_0 r j).trans ((h1 1 r j).trans (congrArg (M r) (Fin.ext (by simp)))))
      (fun r j => (ld_head x1 2 inb_S4x1024x128_S1x1024x128_2_0_0 r j).trans ((h1 2 r j).trans (congrArg (M r) (Fin.ext (by simp)))))
      (fun r j => (ld_head x1 3 inb_S4x1024x128_S1x1024x128_3_0_0 r j).trans ((h1 3 r j).trans (congrArg (M r) (Fin.ext (by simp)))))
      (fun r j => (ld_full (e := .bf16) x2 inb_S1024x512_S1024x512_0_0 r j).trans (h2 r j)) r k
  rw [g0, g3, gm]
  rfl

end Cert.Kernel3Ideal.Merge

end
-- ==== Proof.MergeArr.lean ====
module

public import proofs.«01_k».proof.Proof.MergePay
public import Idealize.ShloMosaic.Lib.StableHlo.ReadAt

@[expose] public section

set_option maxRecDepth 16384

noncomputable section

namespace Cert.Kernel3Ideal.Merge

open Idealize.ShloMosaic Idealize.SL.Sem Cert.Kernel3Ideal Cert.Kernel3Ideal.Gen Cert.Mix

/-! # The merge's output array -/

variable (m : (ℓ : Loc nD τ sig) → Buf (Elt Ideal) ℓ) (c : Dev nD)

/-- The arguments. -/
abbrev aX : FVec Ideal ⟨3, ![8, 2048, 1024]⟩ .f32 := m ((c.tc : Thread nD τ).loc main_arg0)
abbrev aA : FVec Ideal ⟨3, ![4, 16384, 128]⟩ .bf16 := m ((c.tc : Thread nD τ).loc main_arg1)
abbrev aD : FVec Ideal ⟨2, ![16384, 512]⟩ .bf16 := m ((c.tc : Thread nD τ).loc main_arg2)
abbrev aW : FVec Ideal ⟨2, ![1024, 1024]⟩ .f32 := m ((c.tc : Thread nD τ).loc main_arg3)
abbrev aG : FVec Ideal ⟨1, ![1024]⟩ .f32 := m ((c.tc : Thread nD τ).loc main_arg4)
abbrev aB : FVec Ideal ⟨1, ![1024]⟩ .f32 := m ((c.tc : Thread nD τ).loc main_arg5)

theorem host0 (n : Fin 16384) (d : Fin 1024) : V m c main_v0 (ix2 n d) = entryAt (aX m c) n d := by
  entry_read
  pointwise [entryAt]
theorem host3 (k d : Fin 1024) : V m c main_v1 (ix2 k d) = aW m c (ix2 k d) := by
  entry_read
  pointwise
theorem host4 (d : Fin 1024) : V m c main_v2 (ix2 0 d) = aG m c (ix1 d) := by
  entry_read
  pointwise
theorem host5 (d : Fin 1024) : V m c main_v3 (ix2 0 d) = aB m c (ix1 d) := by
  entry_read
  pointwise

theorem idx : ∀ t : Fin cfg0.N, win0_0.index t = ![t.val, 0] ∧ win0_1.index t = ![0, t.val, 0] ∧ win0_2.index t = ![t.val, 0] ∧ win0_3.index t = ![0, 0]
    ∧ win0_4.index t = ![0, 0] ∧ win0_5.index t = ![0, 0] ∧ win0_6.index t = ![t.val, 0] := by
  decide +kernel

theorem read0 (v : FVec Ideal S16384x1024 .f32) (t : Fin cfg0.N) (r d : Fin 1024) :
    ((cfg0.win 0).blk t).view.read (Elt Ideal) v (ix2 r d) = v (ix2 ⟨1024 * t.val + r.val, by have := t.isLt; change t.val < 16 at this; omega⟩ d) := by
  blk_ext [idx t]
theorem read1 (v : FVec Ideal S4x16384x128 .bf16) (t : Fin cfg0.N) (o : Fin 4) (r : Fin 1024) (j : Fin 128) :
    ((cfg0.win 1).blk t).view.read (Elt Ideal) v (ix3 o r j) = v (ix3 o ⟨1024 * t.val + r.val, by have := t.isLt; change t.val < 16 at this; omega⟩ j) := by
  blk_ext [idx t]
theorem read2 (v : FVec Ideal S16384x512 .bf16) (t : Fin cfg0.N) (r : Fin 1024) (j : Fin 512) :
    ((cfg0.win 2).blk t).view.read (Elt Ideal) v (ix2 r j) = v (ix2 ⟨1024 * t.val + r.val, by have := t.isLt; change t.val < 16 at this; omega⟩ j) := by
  blk_ext [idx t]
theorem read3 (v : FVec Ideal S1024x1024 .bf16) (t : Fin cfg0.N) (k d : Fin 1024) :
    ((cfg0.win 3).blk t).view.read (Elt Ideal) v (ix2 k d) = v (ix2 k d) := by
  blk_ext [idx t]
theorem read4 (v : FVec Ideal S1x1024 .f32) (t : Fin cfg0.N) (d : Fin 1024) :
    ((cfg0.win 4).blk t).view.read (Elt Ideal) v (ix2 0 d) = v (ix2 0 d) := by
  blk_ext [idx t]
theorem read5 (v : FVec Ideal S1x1024 .f32) (t : Fin cfg0.N) (d : Fin 1024) :
    ((cfg0.win 5).blk t).view.read (Elt Ideal) v (ix2 0 d) = v (ix2 0 d) := by
  blk_ext [idx t]

/-- The token of a row of a grid point's block. -/
def tok (t : Fin cfg0.N) (r : Fin 1024) : Fin 16384 := ⟨1024 * t.val + r.val, by have := t.isLt; change t.val < 16 at this; omega⟩

theorem mix_lo (a : FVec Ideal ⟨3, ![4, 16384, 128]⟩ .bf16) (b : FVec Ideal ⟨2, ![16384, 512]⟩ .bf16) (n : Fin 16384) (o : Fin 4) (j : Fin 128) :
    a (ix3 o n j) = mixAt a b n ⟨o.val * 128 + j.val, by omega⟩ := by
  rw [mixAt, dif_pos (by simp only; omega)]
  exact congrArg a (congrArg₂ (fun x y => ix3 x n y) (Fin.ext (by simp only; omega)) (Fin.ext (by simp only; omega)))

theorem mix_hi (a : FVec Ideal ⟨3, ![4, 16384, 128]⟩ .bf16) (b : FVec Ideal ⟨2, ![16384, 512]⟩ .bf16) (n : Fin 16384) (j : Fin 512) :
    b (ix2 n j) = mixAt a b n ⟨512 + j.val, by omega⟩ := by
  rw [mixAt, dif_neg (by simp only; omega)]
  exact congrArg b (congrArg (ix2 n) (Fin.ext (by simp only; omega)))

/-- A grid point's block of the output holds its tokens' results. -/
theorem out_at (t : Fin cfg0.N) (y : S1024x1024.Idx) :
    out0_6 (F := Ideal) (iblk m c 0 t) (iblk m c 1 t) (iblk m c 2 t) (iblk m c 3 t) (iblk m c 4 t) (iblk m c 5 t) y
      = arrOut (aX m c) (aA m c) (aD m c) (aW m c) (aG m c) (aB m c) (ix2 (tok t (y 0)) (y 1)) := by
  refine (out_of (fun r => mixAt (aA m c) (aD m c) (tok t r)) (fun r => entryAt (aX m c) (tok t r)) _ _ _ _ _ _
    (fun r d => (read0 (V m c main_v0) t r d).trans (host0 m c _ d))
    (fun o r j => (read1 (V m c main_arg1) t o r j).trans ((congrFun (V_main_arg1 m c) _).trans (mix_lo (aA m c) (aD m c) (tok t r) o j)))
    (fun r j => (read2 (V m c main_arg2) t r j).trans ((congrFun (V_main_arg2 m c) _).trans (mix_hi (aA m c) (aD m c) (tok t r) j))) y).trans ?_
  have e3 : (fun k d => iblk m c 3 t (ix2 k d)) = fun k d => aW m c (ix2 k d) := funext fun k => funext fun d => (read3 (V m c main_v1) t k d).trans (host3 m c k d)
  have e4 : iblk m c 4 t (ix2 0 (y 1)) = aG m c (ix1 (y 1)) := (read4 (V m c main_v2) t (y 1)).trans (host4 m c (y 1))
  have e5 : iblk m c 5 t (ix2 0 (y 1)) = aB m c (ix1 (y 1)) := (read5 (V m c main_v3) t (y 1)).trans (host5 m c (y 1))
  exact congr (congrArg _ (congr (congrArg _ (congrArg (fun W => normOf (sumOf _ _ W) (y 1)) e3)) e4)) e5

theorem arr6 : (dats m 0 c).arrAt 6 cfg0.N = arrOut (aX m c) (aA m c) (aD m c) (aW m c) (aG m c) (aB m c) := by
  refine (dats m 0 c).arrAt_eq_of_covers 6 _ (by decide +kernel) fun t hf y => ?_
  have ht : t.val < 16 := t.isLt
  have hy : (y 0).val < 1024 := (y 0).isLt
  blk_simp
  rw [after0_6]
  refine (out_at m c t y).trans (congrArg (arrOut (aX m c) (aA m c) (aD m c) (aW m c) (aG m c) (aB m c)) (?_ : ix2 ⟨1024 * t.val + (y 0).val, by omega⟩ (y 1) = _))
  blk_ext [idx t]

end Cert.Kernel3Ideal.Merge

end
-- ==== Proof.MergeRef.lean ====
module

public import proofs.«01_k».proof.Proof.Gen.Reference3Ideal.Run
public import proofs.«01_k».proof.Proof.MergeForms
public import Idealize.ShloMosaic.Lib.Pointwise
public import Idealize.ShloMosaic.Lib.Tactic.CleanTypes

@[expose] public section

set_option maxRecDepth 16384

noncomputable section

namespace Cert.Reference3Ideal.Merge

open Idealize.ShloMosaic Idealize.ShloMosaic.TcCoe Idealize.SL.Sem Idealize.ShloMosaic.StableHlo Cert.Reference3Ideal Cert.Reference3Ideal.Gen Cert.Reference3Ideal.Value Cert.Mix

/-! # The merge's reference at an index -/

/-- The pasted lanes. -/
def catR (a1 : FVec Ideal S4x16384x128 .bf16) (a2 : FVec Ideal S16384x512 .bf16) : FVec Ideal S8x2048x1024 .f32 :=
  concatenate S8x2048x1024 2 [⟨S8x2048x512, (shapeCast _ (transpose S16384x4x128 [1, 0, 2] (extf .f32 a1 bitsLt_bf16_f32) transposes_S4x16384x128_S16384x4x128_1_0_2) shapeCasts_S16384x4x128_S8x2048x512)⟩,
    ⟨S8x2048x512, (shapeCast _ (extf .f32 a2 bitsLt_bf16_f32) shapeCasts_S16384x512_S8x2048x512)⟩] concatenates_S8x2048x512_S8x2048x512_S8x2048x1024_d2

/-- The scaled entries and the product. -/
def sumR (a0 z : FVec Ideal S8x2048x1024 .f32) (a3 : FVec Ideal S1024x1024 .f32) : FVec Ideal S8x2048x1024 .f32 :=
  addf (mulf (broadcastInDim S8x2048x1024 ![] bcast_S_S8x2048x1024 (constant S_ .f32 0x3F9837F0#32)) a0) (Host.dotGeneral dot_S8x2048x1024_S1024x1024_S8x2048x1024_2_0_01_1_n_n none z a3)

/-- A token's mean. -/
def meanR (z : FVec Ideal S8x2048x1024 .f32) : FVec Ideal S8x2048x1 .f32 :=
  Host.divf (broadcastInDim S8x2048x1 ![0, 1] bcast_S8x2048_S8x2048x1_0_1 (Host.reduceAdd z (constant S_ .f32 0x00000000#32) reducesTo_S8x2048x1024_S8x2048_d2 h_S_))
    (broadcastInDim S8x2048x1 ![] bcast_S_S8x2048x1 (constant S_ .f32 0x44800000#32))

/-- The tokens less their means. -/
def lessR (z : FVec Ideal S8x2048x1024 .f32) : FVec Ideal S8x2048x1024 .f32 :=
  subf z (broadcastInDim S8x2048x1024 ![0, 1, 2] bcast_S8x2048x1_S8x2048x1024_0_1_2 (meanR z))

/-- The normed tokens. -/
def normR (z : FVec Ideal S8x2048x1024 .f32) : FVec Ideal S8x2048x1024 .f32 :=
  mulf (lessR z) (broadcastInDim S8x2048x1024 ![0, 1, 2] bcast_S8x2048x1_S8x2048x1024_0_1_2
    (Host.rsqrt (addf (meanR (mulf (lessR z) (lessR z))) (broadcastInDim S8x2048x1 ![] bcast_S_S8x2048x1 (constant S_ .f32 0x3727C5AC#32)))))

/-- The weighted tokens, numbered through the batch. -/
def outR (z : FVec Ideal S8x2048x1024 .f32) (a4 a5 : FVec Ideal S1024 .f32) : FVec Ideal S16384x1024 .f32 :=
  shapeCast _ (addf (mulf z (broadcastInDim S8x2048x1024 ![0, 1, 2] bcast_S1x1x1024_S8x2048x1024_0_1_2 (broadcastInDim S1x1x1024 ![2] bcast_S1024_S1x1x1024_2 a4)))
    (broadcastInDim S8x2048x1024 ![0, 1, 2] bcast_S1x1x1024_S8x2048x1024_0_1_2 (broadcastInDim S1x1x1024 ![2] bcast_S1024_S1x1x1024_2 a5))) shapeCasts_S8x2048x1024_S16384x1024

/-- The reference's result of its arguments. -/
def resR (a0 : FVec Ideal S8x2048x1024 .f32) (a1 : FVec Ideal S4x16384x128 .bf16) (a2 : FVec Ideal S16384x512 .bf16) (a3 : FVec Ideal S1024x1024 .f32)
    (a4 a5 : FVec Ideal S1024 .f32) : FVec Ideal S16384x1024 .f32 := outR (normR (sumR a0 (catR a1 a2) a3)) a4 a5

theorem meanR_of (z : FVec Ideal S8x2048x1024 .f32) (i : Fin 8) (l : Fin 2048) : meanR z (ix3 i l 0) = meanOf fun d => z (ix3 i l d) := by
  unfold meanR meanOf
  pointwise

theorem lessR_of (z : FVec Ideal S8x2048x1024 .f32) (i : Fin 8) (l : Fin 2048) (d : Fin 1024) : lessR z (ix3 i l d) = z (ix3 i l d) - meanOf fun e => z (ix3 i l e) := by
  rw [← meanR_of]
  unfold lessR
  generalize meanR z = q
  pointwise

theorem normR_of (z : FVec Ideal S8x2048x1024 .f32) (i : Fin 8) (l : Fin 2048) (d : Fin 1024) : normR z (ix3 i l d) = normOf (fun e => z (ix3 i l e)) d := by
  have h := meanR_of (mulf (lessR z) (lessR z)) i l
  unfold normR normOf
  rw [show (fun e => (z (ix3 i l e) - meanOf fun e => z (ix3 i l e)) * (z (ix3 i l e) - meanOf fun e => z (ix3 i l e)))
    = fun e => (mulf (lessR z) (lessR z) : FVec Ideal S8x2048x1024 .f32) (ix3 i l e) from funext fun e => by rw [← lessR_of]; rfl, ← h, ← lessR_of]
  generalize meanR (mulf (lessR z) (lessR z)) = q
  generalize lessR z = y
  pointwise

theorem catR_of (a1 : FVec Ideal S4x16384x128 .bf16) (a2 : FVec Ideal S16384x512 .bf16) (n : Fin 16384) (k : Fin 1024) :
    catR a1 a2 (ix3 ⟨n.val / 2048, by omega⟩ ⟨n.val % 2048, by omega⟩ k) = mixAt a1 a2 n k := by
  unfold catR mixAt
  have e : n.val / 2048 * 2048 + n.val % 2048 = n.val := by omega
  pointwise

theorem sumR_of (a0 z : FVec Ideal S8x2048x1024 .f32) (a3 : FVec Ideal S1024x1024 .f32) (i : Fin 8) (l : Fin 2048) (d : Fin 1024) :
    sumR a0 z a3 (ix3 i l d) = sumOf (fun d => a0 (ix3 i l d)) (fun k => z (ix3 i l k)) (fun k d => a3 (ix2 k d)) d := by
  unfold sumR sumOf
  pointwise

theorem outR_of (z : FVec Ideal S8x2048x1024 .f32) (a4 a5 : FVec Ideal S1024 .f32) (n : Fin 16384) (d : Fin 1024) :
    outR z a4 a5 (ix2 n d) = z (ix3 ⟨n.val / 2048, by omega⟩ ⟨n.val % 2048, by omega⟩ d) * a4 (ix1 d) + a5 (ix1 d) := by
  unfold outR
  pointwise

theorem resR_eq (a0 : FVec Ideal S8x2048x1024 .f32) (a1 : FVec Ideal S4x16384x128 .bf16) (a2 : FVec Ideal S16384x512 .bf16) (a3 : FVec Ideal S1024x1024 .f32)
    (a4 a5 : FVec Ideal S1024 .f32) : resR a0 a1 a2 a3 a4 a5 = arrOut a0 a1 a2 a3 a4 a5 := by
  funext y
  obtain ⟨n, d, rfl⟩ : ∃ (n : Fin 16384) (d : Fin 1024), y = ix2 n d := ⟨y 0, y 1, eq_ix2 y⟩
  refine (outR_of _ a4 a5 n d).trans ?_
  rw [normR_of]
  refine congrArg (fun R : Fin 1024 → EReal => normOf R d * a4 (ix1 d) + a5 (ix1 d)) (funext fun e => ?_)
  rw [sumR_of]
  simp only [catR_of]
  rfl

set_option maxHeartbeats 1000000 in
theorem res_eq (m : (ℓ : Loc nD τ sig) → Buf (Elt Ideal) ℓ) (c : Dev nD) :
    res_main_v34 m c = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v34
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  rfl

end Cert.Reference3Ideal.Merge

end
-- ==== Proof.MergeTie.lean ====
module

public import proofs.«01_k».proof.Defs
public import proofs.«01_k».proof.Proof.MergeArr
public import proofs.«01_k».proof.Proof.MergeRef
public import Idealize.ShloMosaic.Lib.Quiescent
public import Idealize.ShloMosaic.Lib.Claim

@[expose] public section

noncomputable section

namespace Cert.MergeTie

open Idealize.ShloMosaic Idealize.SL.Sem Cert.Mix Cert.Kernel3Ideal.Merge

/-! # The merge's array is the reference's -/

theorem frame_r : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run m ρ)

theorem algebraic : Cert.algebraic_Kernel3Ideal_Reference3Ideal (hKernel3Ideal := Cert.Kernel3Ideal.Gen.facts) (hReference3Ideal := Cert.Reference3Ideal.Gen.facts) := by
  intro m ρ m' ρ' _ hag
  refine ⟨fun c => arrOut (aX m c) (aA m c) (aD m c) (aW m c) (aG m c) (aB m c),
    (θ_run _ _ _).mono (fun r h c => ⟨(h c).1.trans (arr6 m c), (h c).2⟩) (Cert.Kernel3Ideal.Value.run_blocks m ρ),
    (θ_run _ _ _).mono (fun r h c => ⟨(h c).1.trans ?_, (h c).2⟩) (Cert.Reference3Ideal.Value.run m' ρ')⟩
  obtain ⟨e0, e1, e2, e3, e4, e5⟩ := hag c
  rw [Cert.Reference3Ideal.Merge.res_eq, Cert.Reference3Ideal.Merge.resR_eq, e0, e1, e2, e3, e4, e5]

end Cert.MergeTie

end
-- ==== Proof.lean ====
module

public import proofs.«01_k».proof.Defs
public import proofs.«01_k».proof.Proof.Tie
public import proofs.«01_k».proof.Proof.ProjTie
public import proofs.«01_k».proof.Proof.ProjFrameBits
public import proofs.«01_k».proof.Proof.MergeTie
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem frame_k2 : Cert.quiescent_Kernel2 (hKernel2 := Cert.Kernel2.Gen.facts) := fun m ρ _ => Cert.Kernel2.Proj.frame m ρ

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ, Cert.HgrnTie.frame_ri,
    frame_k2, Cert.ProjTie.frame_k, Cert.ProjTie.frame_r,
    fun m ρ _ => Cert.Kernel3.Gen.frame m ρ, fun m ρ _ => Cert.Kernel3Ideal.Gen.frame m ρ, Cert.MergeTie.frame_r,
    trivial, Cert.HgrnTie.algebraic, Cert.ProjTie.preserves, Cert.ProjTie.algebraic, trivial, Cert.MergeTie.algebraic⟩

end Cert.Proof

end
